-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7)
      ∧ r.2.mem ((c.tc : Thread Cert.Conv.nD Cert.Conv.τ).loc Cert.Conv.main_arg8) = m ((c.tc : Thread Cert.Conv.nD Cert.Conv.τ).loc Cert.Conv.main_arg8)
      ∧ r.2.mem ((c.tc : Thread Cert.Conv.nD Cert.Conv.τ).loc Cert.Conv.main_arg9) = m ((c.tc : Thread Cert.Conv.nD Cert.Conv.τ).loc Cert.Conv.main_arg9))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
      ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8)
      ∧ r.2.mem ((c.tc : Thread Cert.ConvIdeal.nD Cert.ConvIdeal.τ).loc Cert.ConvIdeal.main_arg9) = m ((c.tc : Thread Cert.ConvIdeal.nD Cert.ConvIdeal.τ).loc Cert.ConvIdeal.main_arg9))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6)
      ∧ r.2.mem ((c.tc : Thread Cert.ConvReferenceIdeal.nD Cert.ConvReferenceIdeal.τ).loc Cert.ConvReferenceIdeal.main_arg7) = m ((c.tc : Thread Cert.ConvReferenceIdeal.nD Cert.ConvReferenceIdeal.τ).loc Cert.ConvReferenceIdeal.main_arg7)
      ∧ r.2.mem ((c.tc : Thread Cert.ConvReferenceIdeal.nD Cert.ConvReferenceIdeal.τ).loc Cert.ConvReferenceIdeal.main_arg8) = m ((c.tc : Thread Cert.ConvReferenceIdeal.nD Cert.ConvReferenceIdeal.τ).loc Cert.ConvReferenceIdeal.main_arg8)
      ∧ r.2.mem ((c.tc : Thread Cert.ConvReferenceIdeal.nD Cert.ConvReferenceIdeal.τ).loc Cert.ConvReferenceIdeal.main_arg9) = m ((c.tc : Thread Cert.ConvReferenceIdeal.nD Cert.ConvReferenceIdeal.τ).loc Cert.ConvReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)
      ∧ m' ((c.tc : Thread Cert.GluReferenceIdeal.nD Cert.GluReferenceIdeal.τ).loc Cert.GluReferenceIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v11)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v11) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v15) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)
      ∧ m' ((c.tc : Thread Cert.ConvReferenceIdeal.nD Cert.ConvReferenceIdeal.τ).loc Cert.ConvReferenceIdeal.main_arg4) = m ((c.tc : Thread Cert.ConvIdeal.nD Cert.ConvIdeal.τ).loc Cert.ConvIdeal.main_arg4)
      ∧ m' ((c.tc : Thread Cert.ConvReferenceIdeal.nD Cert.ConvReferenceIdeal.τ).loc Cert.ConvReferenceIdeal.main_arg5) = m ((c.tc : Thread Cert.ConvIdeal.nD Cert.ConvIdeal.τ).loc Cert.ConvIdeal.main_arg5)
      ∧ m' ((c.tc : Thread Cert.ConvReferenceIdeal.nD Cert.ConvReferenceIdeal.τ).loc Cert.ConvReferenceIdeal.main_arg6) = m ((c.tc : Thread Cert.ConvIdeal.nD Cert.ConvIdeal.τ).loc Cert.ConvIdeal.main_arg6)
      ∧ m' ((c.tc : Thread Cert.ConvReferenceIdeal.nD Cert.ConvReferenceIdeal.τ).loc Cert.ConvReferenceIdeal.main_arg7) = m ((c.tc : Thread Cert.ConvIdeal.nD Cert.ConvIdeal.τ).loc Cert.ConvIdeal.main_arg7)
      ∧ m' ((c.tc : Thread Cert.ConvReferenceIdeal.nD Cert.ConvReferenceIdeal.τ).loc Cert.ConvReferenceIdeal.main_arg8) = m ((c.tc : Thread Cert.ConvIdeal.nD Cert.ConvIdeal.τ).loc Cert.ConvIdeal.main_arg8)
      ∧ m' ((c.tc : Thread Cert.ConvReferenceIdeal.nD Cert.ConvReferenceIdeal.τ).loc Cert.ConvReferenceIdeal.main_arg9) = m ((c.tc : Thread Cert.ConvIdeal.nD Cert.ConvIdeal.τ).loc Cert.ConvIdeal.main_arg9)) →
    ∃ (v0 : (c : Dev Cert.ConvIdeal.nD) → Buf (Elt Ideal) ((c.tc : Thread Cert.ConvIdeal.nD Cert.ConvIdeal.τ).loc Cert.ConvIdeal.main_v20)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v20) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
          ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8)
          ∧ r.2.mem ((c.tc : Thread Cert.ConvIdeal.nD Cert.ConvIdeal.τ).loc Cert.ConvIdeal.main_arg9) = m ((c.tc : Thread Cert.ConvIdeal.nD Cert.ConvIdeal.τ).loc Cert.ConvIdeal.main_arg9))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v283) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4)
          ∧ r.2.mem ((c.tc : Thread Cert.ConvReferenceIdeal.nD Cert.ConvReferenceIdeal.τ).loc Cert.ConvReferenceIdeal.main_arg5) = m' ((c.tc : Thread Cert.ConvReferenceIdeal.nD Cert.ConvReferenceIdeal.τ).loc Cert.ConvReferenceIdeal.main_arg5)
          ∧ r.2.mem ((c.tc : Thread Cert.ConvReferenceIdeal.nD Cert.ConvReferenceIdeal.τ).loc Cert.ConvReferenceIdeal.main_arg6) = m' ((c.tc : Thread Cert.ConvReferenceIdeal.nD Cert.ConvReferenceIdeal.τ).loc Cert.ConvReferenceIdeal.main_arg6)
          ∧ r.2.mem ((c.tc : Thread Cert.ConvReferenceIdeal.nD Cert.ConvReferenceIdeal.τ).loc Cert.ConvReferenceIdeal.main_arg7) = m' ((c.tc : Thread Cert.ConvReferenceIdeal.nD Cert.ConvReferenceIdeal.τ).loc Cert.ConvReferenceIdeal.main_arg7)
          ∧ r.2.mem ((c.tc : Thread Cert.ConvReferenceIdeal.nD Cert.ConvReferenceIdeal.τ).loc Cert.ConvReferenceIdeal.main_arg8) = m' ((c.tc : Thread Cert.ConvReferenceIdeal.nD Cert.ConvReferenceIdeal.τ).loc Cert.ConvReferenceIdeal.main_arg8)
          ∧ r.2.mem ((c.tc : Thread Cert.ConvReferenceIdeal.nD Cert.ConvReferenceIdeal.τ).loc Cert.ConvReferenceIdeal.main_arg9) = m' ((c.tc : Thread Cert.ConvReferenceIdeal.nD Cert.ConvReferenceIdeal.τ).loc Cert.ConvReferenceIdeal.main_arg9))

def Claim : Prop :=
  ∃ (hKernel : Cert.Kernel.Facts) (hKernelIdeal : Cert.KernelIdeal.Facts) (hReferenceIdeal : Cert.ReferenceIdeal.Facts) (hGlu : Cert.Glu.Facts) (hGluIdeal : Cert.GluIdeal.Facts) (hGluReferenceIdeal : Cert.GluReferenceIdeal.Facts) (hConv : Cert.Conv.Facts) (hConvIdeal : Cert.ConvIdeal.Facts) (hConvReferenceIdeal : Cert.ConvReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_Conv (hConv := hConv)
    ∧ quiescent_ConvIdeal (hConvIdeal := hConvIdeal)
    ∧ quiescent_ConvReferenceIdeal (hConvReferenceIdeal := hConvReferenceIdeal)
    ∧ preserves_Kernel_KernelIdeal
    ∧ algebraic_KernelIdeal_ReferenceIdeal (hKernelIdeal := hKernelIdeal) (hReferenceIdeal := hReferenceIdeal)
    ∧ preserves_Glu_GluIdeal
    ∧ algebraic_GluIdeal_GluReferenceIdeal (hGluIdeal := hGluIdeal) (hGluReferenceIdeal := hGluReferenceIdeal)
    ∧ preserves_Conv_ConvIdeal
    ∧ algebraic_ConvIdeal_ConvReferenceIdeal (hConvIdeal := hConvIdeal) (hConvReferenceIdeal := hConvReferenceIdeal)
-- ==== Kernel.lean ====
abbrev S4x4096x1024 : Shape := ⟨3, ![4, 4096, 1024]⟩
abbrev S4x4096 : Shape := ⟨2, ![4, 4096]⟩
abbrev S1024x512 : Shape := ⟨2, ![1024, 512]⟩
abbrev S1x1024x1024 : Shape := ⟨3, ![1, 1024, 1024]⟩
abbrev S1x16 : Shape := ⟨2, ![1, 16]⟩
abbrev S2x1024 : Shape := ⟨2, ![2, 1024]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S4x4096x1 : Shape := ⟨3, ![4, 4096, 1]⟩
abbrev S4x4096x128 : Shape := ⟨3, ![4, 4096, 128]⟩
abbrev S4x4096x256 : Shape := ⟨3, ![4, 4096, 256]⟩
abbrev S1x512x1024 : Shape := ⟨3, ![1, 512, 1024]⟩
abbrev S1x512x128 : Shape := ⟨3, ![1, 512, 128]⟩
abbrev S1x512x256 : Shape := ⟨3, ![1, 512, 256]⟩
abbrev S512x1024 : Shape := ⟨2, ![512, 1024]⟩
abbrev S512x512 : Shape := ⟨2, ![512, 512]⟩
abbrev S512x128 : Shape := ⟨2, ![512, 128]⟩
abbrev S512x256 : Shape := ⟨2, ![512, 256]⟩
abbrev S1024x1024 : Shape := ⟨2, ![1024, 1024]⟩
abbrev S16 : Shape := ⟨1, ![16]⟩
abbrev S1x1024 : Shape := ⟨2, ![1, 1024]⟩
abbrev S1024 : Shape := ⟨1, ![1024]⟩
abbrev S1x256x1024 : Shape := ⟨3, ![1, 256, 1024]⟩
abbrev S1x256x128 : Shape := ⟨3, ![1, 256, 128]⟩
abbrev S1x128x256 : Shape := ⟨3, ![1, 128, 256]⟩
abbrev S1x256x256 : Shape := ⟨3, ![1, 256, 256]⟩
abbrev S384x256 : Shape := ⟨2, ![384, 256]⟩
abbrev S256x1024 : Shape := ⟨2, ![256, 1024]⟩
abbrev S256x128 : Shape := ⟨2, ![256, 128]⟩
abbrev S128x256 : Shape := ⟨2, ![128, 256]⟩
abbrev S256x256 : Shape := ⟨2, ![256, 256]⟩
abbrev S256x64 : Shape := ⟨2, ![256, 64]⟩
abbrev S128x64 : Shape := ⟨2, ![128, 64]⟩
abbrev S1 : Shape := ⟨1, ![1]⟩
abbrev S256 : Shape := ⟨1, ![256]⟩
abbrev S256x1 : Shape := ⟨2, ![256, 1]⟩

abbrev nBuf : Space → Nat
  | .hbm => 117
  | .vmem => 38
  | .smem => 1
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S1024x512, .f32⟩
  | .hbm, ⟨3, _⟩ => ⟨S1x1024x1024, .f32⟩
  | .hbm, ⟨4, _⟩ => ⟨S1x16, .f32⟩
  | .hbm, ⟨5, _⟩ => ⟨S1x1024x1024, .f32⟩
  | .hbm, ⟨6, _⟩ => ⟨S2x1024, .f32⟩
  | .hbm, ⟨7, _⟩ => ⟨S2x1024, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S128, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S_, .i32⟩
  | .hbm, ⟨32, _⟩ => ⟨S128, .i32⟩
  | .hbm, ⟨33, _⟩ => ⟨S128, .i1⟩
  | .hbm, ⟨34, _⟩ => ⟨S_, .i32⟩
  | .hbm, ⟨35, _⟩ => ⟨S_, .i1⟩
  | .hbm, ⟨36, _⟩ => ⟨S128, .i1⟩
  | .hbm, ⟨37, _⟩ => ⟨S128, .i1⟩
  | .hbm, ⟨38, _⟩ => ⟨S128, .i1⟩
  | .hbm, ⟨39, _⟩ => ⟨S128, .i32⟩
  | .hbm, ⟨40, _⟩ => ⟨S128, .i32⟩
  | .hbm, ⟨41, _⟩ => ⟨S128, .i32⟩
  | .hbm, ⟨42, _⟩ => ⟨S_, .i32⟩
  | .hbm, ⟨43, _⟩ => ⟨S128, .i32⟩
  | .hbm, ⟨44, _⟩ => ⟨S128, .i1⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S128, .i32⟩
  | .hbm, ⟨52, _⟩ => ⟨S128, .i32⟩
  | .hbm, ⟨53, _⟩ => ⟨S_, .i32⟩
  | .hbm, ⟨54, _⟩ => ⟨S128, .i32⟩
  | .hbm, ⟨55, _⟩ => ⟨S128, .i1⟩
  | .hbm, ⟨56, _⟩ => ⟨S_, .i32⟩
  | .hbm, ⟨57, _⟩ => ⟨S128, .i32⟩
  | .hbm, ⟨58, _⟩ => ⟨S128, .i1⟩
  | .hbm, ⟨59, _⟩ => ⟨S_, .i32⟩
  | .hbm, ⟨60, _⟩ => ⟨S_, .i1⟩
  | .hbm, ⟨61, _⟩ => ⟨S128, .i1⟩
  | .hbm, ⟨62, _⟩ => ⟨S128, .i1⟩
  | .hbm, ⟨63, _⟩ => ⟨S128, .i1⟩
  | .hbm, ⟨64, _⟩ => ⟨S128, .i32⟩
  | .hbm, ⟨65, _⟩ => ⟨S128, .i32⟩
  | .hbm, ⟨66, _⟩ => ⟨S128, .i32⟩
  | .hbm, ⟨67, _⟩ => ⟨S_, .i32⟩
  | .hbm, ⟨68, _⟩ => ⟨S128, .i32⟩
  | .hbm, ⟨69, _⟩ => ⟨S128, .i1⟩
  | .hbm, ⟨70, _⟩ => ⟨S_, .i32⟩
  | .hbm, ⟨71, _⟩ => ⟨S128, .i32⟩
  | .hbm, ⟨72, _⟩ => ⟨S128, .i32⟩
  | .hbm, ⟨73, _⟩ => ⟨S128, .i32⟩
  | .hbm, ⟨74, _⟩ => ⟨S128x1, .i32⟩
  | .hbm, ⟨75, _⟩ => ⟨S128, .f32⟩
  | .hbm, ⟨76, _⟩ => ⟨S_, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S_, .i32⟩
  | .hbm, ⟨82, _⟩ => ⟨S128, .i32⟩
  | .hbm, ⟨83, _⟩ => ⟨S128, .i1⟩
  | .hbm, ⟨84, _⟩ => ⟨S_, .i32⟩
  | .hbm, ⟨85, _⟩ => ⟨S128, .i32⟩
  | .hbm, ⟨86, _⟩ => ⟨S128, .i1⟩
  | .hbm, ⟨87, _⟩ => ⟨S_, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S128, .f32⟩
  | .hbm, ⟨92, _⟩ => ⟨S_, .f32⟩
  | .hbm, ⟨93, _⟩ => ⟨S128, .f32⟩
  | .hbm, ⟨94, _⟩ => ⟨S128, .f32⟩
  | .hbm, ⟨95, _⟩ => ⟨S128, .f32⟩
  | .hbm, ⟨96, _⟩ => ⟨S1x128, .f32⟩
  | .hbm, ⟨97, _⟩ => ⟨S4x4096, .f32⟩
  | .hbm, ⟨98, _⟩ => ⟨S4x4096x1, .f32⟩
  | .hbm, ⟨99, _⟩ => ⟨S4x4096x128, .f32⟩
  | .hbm, ⟨100, _⟩ => ⟨S1024x512, .bf16⟩
  | .hbm, ⟨101, _⟩ => ⟨S4x4096x256, .bf16⟩
  | .hbm, ⟨102, _⟩ => ⟨S4x4096x256, .bf16⟩
  | .hbm, ⟨103, _⟩ => ⟨S4x4096x128, .f32⟩
  | .hbm, ⟨104, _⟩ => ⟨S4x4096x128, .f32⟩
  | .hbm, ⟨105, _⟩ => ⟨S1024x1024, .f32⟩
  | .hbm, ⟨106, _⟩ => ⟨S1024x1024, .bf16⟩
  | .hbm, ⟨107, _⟩ => ⟨S16, .f32⟩
  | .hbm, ⟨108, _⟩ => ⟨S1024x1024, .f32⟩
  | .hbm, ⟨109, _⟩ => ⟨S1024x1024, .bf16⟩
  | .hbm, ⟨110, _⟩ => ⟨S1x1024, .f32⟩
  | .hbm, ⟨111, _⟩ => ⟨S1024, .f32⟩
  | .hbm, ⟨112, _⟩ => ⟨S1x1024, .f32⟩
  | .hbm, ⟨113, _⟩ => ⟨S1x1024, .f32⟩
  | .hbm, ⟨114, _⟩ => ⟨S1024, .f32⟩
  | .hbm, ⟨115, _⟩ => ⟨S1x1024, .f32⟩
  | .hbm, ⟨116, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x512, .bf16⟩
  | .local _ .vmem, ⟨3, _⟩ => ⟨S1x512x128, .f32⟩
  | .local _ .vmem, ⟨4, _⟩ => ⟨S1x512x128, .f32⟩
  | .local _ .vmem, ⟨5, _⟩ => ⟨S1x128, .f32⟩
  | .local _ .vmem, ⟨6, _⟩ => ⟨S1x128, .f32⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x256x1024, .f32⟩
  | .local _ .vmem, ⟨16, _⟩ => ⟨S1x256x1024, .f32⟩
  | .local _ .vmem, ⟨17, _⟩ => ⟨S1024x1024, .bf16⟩
  | .local _ .vmem, ⟨18, _⟩ => ⟨S1x256x128, .f32⟩
  | .local _ .vmem, ⟨19, _⟩ => ⟨S1x256x128, .f32⟩
  | .local _ .vmem, ⟨20, _⟩ => ⟨S1x256x128, .f32⟩
  | .local _ .vmem, ⟨21, _⟩ => ⟨S1x256x128, .f32⟩
  | .local _ .vmem, ⟨22, _⟩ => ⟨S1x128x256, .bf16⟩
  | .local _ .vmem, ⟨23, _⟩ => ⟨S1x128x256, .bf16⟩
  | .local _ .vmem, ⟨24, _⟩ => ⟨S1x256x256, .bf16⟩
  | .local _ .vmem, ⟨25, _⟩ => ⟨S1x256x256, .bf16⟩
  | .local _ .vmem, ⟨26, _⟩ => ⟨S1x128x256, .bf16⟩
  | .local _ .vmem, ⟨27, _⟩ => ⟨S1x128x256, .bf16⟩
  | .local _ .vmem, ⟨28, _⟩ => ⟨S1x256x256, .bf16⟩
  | .local _ .vmem, ⟨29, _⟩ => ⟨S1x256x256, .bf16⟩
  | .local _ .vmem, ⟨30, _⟩ => ⟨S1024x1024, .bf16⟩
  | .local _ .vmem, ⟨31, _⟩ => ⟨S1x1024, .f32⟩
  | .local _ .vmem, ⟨32, _⟩ => ⟨S1x1024, .f32⟩
  | .local _ .vmem, ⟨33, _⟩ => ⟨S1x256x1024, .f32⟩
  | .local _ .vmem, ⟨34, _⟩ => ⟨S1x256x1024, .f32⟩
  | .local _ .vmem, ⟨35, _⟩ => ⟨S384x256, .bf16⟩
  | .local _ .vmem, ⟨36, _⟩ => ⟨S384x256, .bf16⟩
  | .local _ .vmem, ⟨37, _⟩ => ⟨S256x1024, .f32⟩
  | .local _ .smem, ⟨0, _⟩ => ⟨S16, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .smem, ⟨0, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_1 : Ref sig .tc := ⟨.hbm, 28, rfl⟩
abbrev main_call0_v5 : Ref sig .tc := ⟨.hbm, 29, rfl⟩
abbrev main_call0_v6 : Ref sig .tc := ⟨.hbm, 30, rfl⟩
abbrev main_call0_c_2 : Ref sig .tc := ⟨.hbm, 31, rfl⟩
abbrev main_call0_v7 : Ref sig .tc := ⟨.hbm, 32, rfl⟩
abbrev main_call0_v8 : Ref sig .tc := ⟨.hbm, 33, rfl⟩
abbrev main_call0_c_3 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_v9 : Ref sig .tc := ⟨.hbm, 41, rfl⟩
abbrev main_c_2 : Ref sig .tc := ⟨.hbm, 42, rfl⟩
abbrev main_v10 : Ref sig .tc := ⟨.hbm, 43, rfl⟩
abbrev main_v11 : Ref sig .tc := ⟨.hbm, 44, rfl⟩
abbrev main_c_3 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_1 : Ref sig .tc := ⟨.hbm, 53, rfl⟩
abbrev main_call1_v5 : Ref sig .tc := ⟨.hbm, 54, rfl⟩
abbrev main_call1_v6 : Ref sig .tc := ⟨.hbm, 55, rfl⟩
abbrev main_call1_c_2 : Ref sig .tc := ⟨.hbm, 56, rfl⟩
abbrev main_call1_v7 : Ref sig .tc := ⟨.hbm, 57, rfl⟩
abbrev main_call1_v8 : Ref sig .tc := ⟨.hbm, 58, rfl⟩
abbrev main_call1_c_3 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_v12 : Ref sig .tc := ⟨.hbm, 66, rfl⟩
abbrev main_c_4 : Ref sig .tc := ⟨.hbm, 67, rfl⟩
abbrev main_v13 : Ref sig .tc := ⟨.hbm, 68, rfl⟩
abbrev main_v14 : Ref sig .tc := ⟨.hbm, 69, rfl⟩
abbrev main_c_5 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_cst_6 : Ref sig .tc := ⟨.hbm, 76, rfl⟩
abbrev main_call2_v0 : Ref sig .tc := ⟨.hbm, 77, rfl⟩
abbrev main_call2_v1 : Ref sig .tc := ⟨.hbm, 78, rfl⟩
abbrev main_v20 : Ref sig .tc := ⟨.hbm, 79, rfl⟩
abbrev main_v21 : Ref sig .tc := ⟨.hbm, 80, rfl⟩
abbrev main_c_7 : Ref sig .tc := ⟨.hbm, 81, rfl⟩
abbrev main_v22 : Ref sig .tc := ⟨.hbm, 82, rfl⟩
abbrev main_v23 : Ref sig .tc := ⟨.hbm, 83, rfl⟩
abbrev main_c_8 : Ref sig .tc := ⟨.hbm, 84, rfl⟩
abbrev main_v24 : Ref sig .tc := ⟨.hbm, 85, rfl⟩
abbrev main_v25 : Ref sig .tc := ⟨.hbm, 86, rfl⟩
abbrev main_cst_9 : Ref sig .tc := ⟨.hbm, 87, rfl⟩
abbrev main_cst_10 : Ref sig .tc := ⟨.hbm, 88, rfl⟩
abbrev main_call3_v0 : Ref sig .tc := ⟨.hbm, 89, rfl⟩
abbrev main_call3_v1 : Ref sig .tc := ⟨.hbm, 90, rfl⟩
abbrev main_v26 : Ref sig .tc := ⟨.hbm, 91, rfl⟩
abbrev main_cst_11 : Ref sig .tc := ⟨.hbm, 92, rfl⟩
abbrev main_call4_v0 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34_0 : Ref sig .tc := ⟨.hbm, 101, rfl⟩
abbrev main_v34_1 : Ref sig .tc := ⟨.hbm, 102, rfl⟩
abbrev main_v34_2 : Ref sig .tc := ⟨.hbm, 103, rfl⟩
abbrev main_v34_3 : Ref sig .tc := ⟨.hbm, 104, rfl⟩
abbrev main_v35 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg10_0 : Ref sig .tc := ⟨.vmem, 32, rfl⟩
abbrev cc1_stg12_0 : Ref sig .tc := ⟨.vmem, 33, rfl⟩
abbrev cc1_stg12_1 : Ref sig .tc := ⟨.vmem, 34, rfl⟩
abbrev cc1_scratch0 : Ref sig .tc := ⟨.vmem, 35, rfl⟩
abbrev cc1_scratch1 : Ref sig .tc := ⟨.vmem, 36, rfl⟩
abbrev cc1_scratch2 : Ref sig .tc := ⟨.vmem, 37, rfl⟩
abbrev cc1_stg11_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem9_0 : DmaSem sig := 31
abbrev cc1_sem10_0 : DmaSem sig := 32
abbrev cc1_sem11_0 : DmaSem sig := 33
abbrev cc1_sem12_0 : DmaSem sig := 34
abbrev cc1_sem12_1 : DmaSem sig := 35

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x128x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x128x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 1 → Memref sig .tc .vmem S1024x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .smem S16 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 2 → Memref sig .tc .vmem S1x256x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]
-- ==== ReferenceIdeal.lean ====
abbrev S4x4096x1024 : Shape := ⟨3, ![4, 4096, 1024]⟩
abbrev S4x4096 : Shape := ⟨2, ![4, 4096]⟩
abbrev S1024x512 : Shape := ⟨2, ![1024, 512]⟩
abbrev S1x1024x1024 : Shape := ⟨3, ![1, 1024, 1024]⟩
abbrev S1x16 : Shape := ⟨2, ![1, 16]⟩
abbrev S2x1024 : Shape := ⟨2, ![2, 1024]⟩
abbrev S4x4096x512 : Shape := ⟨3, ![4, 4096, 512]⟩
abbrev S4x4096x2x4x64 : Shape := ⟨5, ![4, 4096, 2, 4, 64]⟩
abbrev S4x4096x1x4x64 : Shape := ⟨5, ![4, 4096, 1, 4, 64]⟩
abbrev S4x4096x4x64 : Shape := ⟨4, ![4, 4096, 4, 64]⟩
abbrev S8 : Shape := ⟨1, ![8]⟩
abbrev S_ : Shape := ⟨0, ![]⟩
abbrev S4x4096x1 : Shape := ⟨3, ![4, 4096, 1]⟩
abbrev S1x1x8 : Shape := ⟨3, ![1, 1, 8]⟩
abbrev S4x4096x8 : Shape := ⟨3, ![4, 4096, 8]⟩
abbrev S4x4096x1x8 : Shape := ⟨4, ![4, 4096, 1, 8]⟩
abbrev S4x4096x4x16 : Shape := ⟨4, ![4, 4096, 4, 16]⟩
abbrev S4x4096x4x8 : Shape := ⟨4, ![4, 4096, 4, 8]⟩
abbrev S4x4096x4x48 : Shape := ⟨4, ![4, 4096, 4, 48]⟩
abbrev S1024x1024 : Shape := ⟨2, ![1024, 1024]⟩
abbrev S4x4096x16x64 : Shape := ⟨4, ![4, 4096, 16, 64]⟩
abbrev S4x4096x16x16 : Shape := ⟨4, ![4, 4096, 16, 16]⟩
abbrev S4x4096x16x8 : Shape := ⟨4, ![4, 4096, 16, 8]⟩
abbrev S4x4096x16x48 : Shape := ⟨4, ![4, 4096, 16, 48]⟩
abbrev S16 : Shape := ⟨1, ![16]⟩
abbrev S4x32x128x4x4x64 : Shape := ⟨6, ![4, 32, 128, 4, 4, 64]⟩
abbrev S4x128x4x64 : Shape := ⟨4, ![4, 128, 4, 64]⟩
abbrev S4x4224x4x64 : Shape := ⟨4, ![4, 4224, 4, 64]⟩
abbrev S4x33x128x4x64 : Shape := ⟨5, ![4, 33, 128, 4, 64]⟩
abbrev S4x32x128x4x64 : Shape := ⟨5, ![4, 32, 128, 4, 64]⟩
abbrev S4x32x256x4x64 : Shape := ⟨5, ![4, 32, 256, 4, 64]⟩
abbrev S4x32x4x256x128x4 : Shape := ⟨6, ![4, 32, 4, 256, 128, 4]⟩
abbrev S4x32x4x4x128x256 : Shape := ⟨6, ![4, 32, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S1x1x4x4x1x1 : Shape := ⟨6, ![1, 1, 4, 4, 1, 1]⟩
abbrev S4x32x4x4x128 : Shape := ⟨5, ![4, 32, 4, 4, 128]⟩
abbrev S4x32x4x4x128x1 : Shape := ⟨6, ![4, 32, 4, 4, 128, 1]⟩
abbrev S4x32x4x64x4x128 : Shape := ⟨6, ![4, 32, 4, 64, 4, 128]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 208
  | .vmem => 0
  | .smem => 0
  | _ => 0

abbrev hbmTy0_0 (i : Nat) : BufTy := match i % 128 with
  | 0 => ⟨S4x4096x1024, .f32⟩
  | 1 => ⟨S4x4096, .i32⟩
  | 2 => ⟨S1024x512, .f32⟩
  | 3 => ⟨S1x1024x1024, .f32⟩
  | 4 => ⟨S1x16, .f32⟩
  | 5 => ⟨S1x1024x1024, .f32⟩
  | 6 => ⟨S2x1024, .f32⟩
  | 7 => ⟨S2x1024, .f32⟩
  | 8 => ⟨S4x4096x512, .f32⟩
  | 9 => ⟨S4x4096x2x4x64, .f32⟩
  | 10 => ⟨S4x4096x1x4x64, .f32⟩
  | 11 => ⟨S4x4096x4x64, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S8, .f32⟩
  | 20 => ⟨S_, .f32⟩
  | 21 => ⟨S8, .f32⟩
  | 22 => ⟨S8, .f32⟩
  | 23 => ⟨S4x4096, .f32⟩
  | 24 => ⟨S4x4096x1, .f32⟩
  | 25 => ⟨S1x1x8, .f32⟩
  | 26 => ⟨S4x4096x8, .f32⟩
  | 27 => ⟨S4x4096x8, .f32⟩
  | 28 => ⟨S4x4096x8, .f32⟩
  | 29 => ⟨S4x4096x8, .f32⟩
  | 30 => ⟨S4x4096x1x8, .f32⟩
  | 31 => ⟨S4x4096x8, .f32⟩
  | 32 => ⟨S4x4096x1x8, .f32⟩
  | 33 => ⟨S4x4096x4x16, .f32⟩
  | 34 => ⟨S4x4096x4x8, .f32⟩
  | 35 => ⟨S4x4096x4x8, .f32⟩
  | 36 => ⟨S4x4096x4x8, .f32⟩
  | 37 => ⟨S4x4096x4x8, .f32⟩
  | 38 => ⟨S4x4096x4x8, .f32⟩
  | 39 => ⟨S4x4096x4x8, .f32⟩
  | 40 => ⟨S4x4096x4x8, .f32⟩
  | 41 => ⟨S4x4096x4x8, .f32⟩
  | 42 => ⟨S4x4096x4x8, .f32⟩
  | 43 => ⟨S4x4096x4x8, .f32⟩
  | 44 => ⟨S4x4096x4x8, .f32⟩
  | 45 => ⟨S4x4096x4x8, .f32⟩
  | 46 => ⟨S4x4096x4x16, .f32⟩
  | 47 => ⟨S4x4096x4x48, .f32⟩
  | 48 => ⟨S4x4096x4x64, .f32⟩
  | 49 => ⟨S4x4096x1x4x64, .f32⟩
  | 50 => ⟨S4x4096x4x64, .f32⟩
  | 51 => ⟨S1024x1024, .f32⟩
  | 52 => ⟨S4x4096x1024, .f32⟩
  | 53 => ⟨S4x4096x16x64, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S8, .f32⟩
  | 62 => ⟨S_, .f32⟩
  | 63 => ⟨S8, .f32⟩
  | 64 => ⟨S8, .f32⟩
  | 65 => ⟨S4x4096, .f32⟩
  | 66 => ⟨S4x4096x1, .f32⟩
  | 67 => ⟨S1x1x8, .f32⟩
  | 68 => ⟨S4x4096x8, .f32⟩
  | 69 => ⟨S4x4096x8, .f32⟩
  | 70 => ⟨S4x4096x8, .f32⟩
  | 71 => ⟨S4x4096x8, .f32⟩
  | 72 => ⟨S4x4096x1x8, .f32⟩
  | 73 => ⟨S4x4096x8, .f32⟩
  | 74 => ⟨S4x4096x1x8, .f32⟩
  | 75 => ⟨S4x4096x16x16, .f32⟩
  | 76 => ⟨S4x4096x16x8, .f32⟩
  | 77 => ⟨S4x4096x16x8, .f32⟩
  | 78 => ⟨S4x4096x16x8, .f32⟩
  | 79 => ⟨S4x4096x16x8, .f32⟩
  | 80 => ⟨S4x4096x16x8, .f32⟩
  | 81 => ⟨S4x4096x16x8, .f32⟩
  | 82 => ⟨S4x4096x16x8, .f32⟩
  | 83 => ⟨S4x4096x16x8, .f32⟩
  | 84 => ⟨S4x4096x16x8, .f32⟩
  | 85 => ⟨S4x4096x16x8, .f32⟩
  | 86 => ⟨S4x4096x16x8, .f32⟩
  | 87 => ⟨S4x4096x16x8, .f32⟩
  | 88 => ⟨S4x4096x16x16, .f32⟩
  | 89 => ⟨S4x4096x16x48, .f32⟩
  | 90 => ⟨S4x4096x16x64, .f32⟩
  | 91 => ⟨S16, .f32⟩
  | 92 => ⟨S4x32x128x4x4x64, .f32⟩
  | 93 => ⟨S_, .f32⟩
  | 94 => ⟨S4x128x4x64, .f32⟩
  | 95 => ⟨S4x4224x4x64, .f32⟩
  | 96 => ⟨S4x33x128x4x64, .f32⟩
  | 97 => ⟨S4x4224x4x64, .f32⟩
  | 98 => ⟨S4x33x128x4x64, .f32⟩
  | 99 => ⟨S4x32x128x4x64, .f32⟩
  | 100 => ⟨S4x32x128x4x64, .f32⟩
  | 101 => ⟨S4x32x256x4x64, .f32⟩
  | 102 => ⟨S4x32x128x4x64, .f32⟩
  | 103 => ⟨S4x32x128x4x64, .f32⟩
  | 104 => ⟨S4x32x256x4x64, .f32⟩
  | 105 => ⟨S4x32x4x256x128x4, .f32⟩
  | 106 => ⟨S4x32x4x4x128x256, .f32⟩
  | 107 => ⟨S_, .f32⟩
  | 108 => ⟨S4x32x4x4x128x256, .f32⟩
  | 109 => ⟨S4x32x4x4x128x256, .f32⟩
  | 110 => ⟨S128, .i32⟩
  | 111 => ⟨S128x1, .i32⟩
  | 112 => ⟨S_, .i32⟩
  | 113 => ⟨S128x1, .i32⟩
  | 114 => ⟨S128x1, .i32⟩
  | 115 => ⟨S256, .i32⟩
  | 116 => ⟨S1x256, .i32⟩
  | 117 => ⟨S128x256, .i32⟩
  | 118 => ⟨S128x256, .i32⟩
  | 119 => ⟨S128x256, .i32⟩
  | 120 => ⟨S_, .i32⟩
  | 121 => ⟨S128x256, .i32⟩
  | 122 => ⟨S128x256, .i1⟩
  | 123 => ⟨S_, .i32⟩
  | 124 => ⟨S128x256, .i32⟩
  | 125 => ⟨S128x256, .i1⟩
  | 126 => ⟨S128x256, .i1⟩
  | 127 => ⟨S32, .i32⟩
  | _ => ⟨S4x4096x1024, .f32⟩

abbrev hbmTy0_1 (i : Nat) : BufTy := match i % 128 with
  | 0 => ⟨S32x1x1, .i32⟩
  | 1 => ⟨S_, .i32⟩
  | 2 => ⟨S32x1x1, .i32⟩
  | 3 => ⟨S32x1x1, .i1⟩
  | 4 => ⟨S1x1x256, .i32⟩
  | 5 => ⟨S_, .i32⟩
  | 6 => ⟨S1x1x256, .i32⟩
  | 7 => ⟨S1x1x256, .i1⟩
  | 8 => ⟨S32x1x256, .i1⟩
  | 9 => ⟨S32x1x256, .i1⟩
  | 10 => ⟨S32x1x256, .i1⟩
  | 11 => ⟨S1x128x256, .i1⟩
  | 12 => ⟨S32x1x256, .i1⟩
  | 13 => ⟨S32x128x256, .i1⟩
  | 14 => ⟨S32x128x256, .i1⟩
  | 15 => ⟨S32x128x256, .i1⟩
  | 16 => ⟨S1x32x1x1x128x256, .i1⟩
  | 17 => ⟨S_, .f32⟩
  | 18 => ⟨S_, .f32⟩
  | 19 => ⟨S4x32x4x4x128x256, .i1⟩
  | 20 => ⟨S4x32x4x4x128x256, .f32⟩
  | 21 => ⟨S4x32x4x4x128x256, .f32⟩
  | 22 => ⟨S1x1x4x4x1x1, .f32⟩
  | 23 => ⟨S_, .f32⟩
  | 24 => ⟨S4x32x4x4x128, .f32⟩
  | 25 => ⟨S4x32x4x4x128x1, .f32⟩
  | 26 => ⟨S4x32x4x4x128x1, .f32⟩
  | 27 => ⟨S4x32x4x4x128x1, .f32⟩
  | 28 => ⟨S4x32x4x4x128x256, .f32⟩
  | 29 => ⟨S4x32x4x4x128x256, .f32⟩
  | 30 => ⟨S4x32x4x4x128x256, .f32⟩
  | 31 => ⟨S_, .f32⟩
  | 32 => ⟨S4x32x4x4x128, .f32⟩
  | 33 => ⟨S4x32x4x4x128x1, .f32⟩
  | 34 => ⟨S4x32x4x4x128x1, .f32⟩
  | 35 => ⟨S4x32x4x4x128x1, .f32⟩
  | 36 => ⟨S4x32x4x4x128x1, .f32⟩
  | 37 => ⟨S4x32x4x4x128x1, .f32⟩
  | 38 => ⟨S4x32x4x4x128x256, .f32⟩
  | 39 => ⟨S4x32x4x4x128x256, .f32⟩
  | 40 => ⟨S4x32x4x64x4x128, .f32⟩
  | 41 => ⟨S4x32x128x4x4x64, .f32⟩
  | 42 => ⟨S4x4096x1024, .f32⟩
  | 43 => ⟨S1024x1024, .f32⟩
  | 44 => ⟨S4x4096x1024, .f32⟩
  | 45 => ⟨S_, .f32⟩
  | 46 => ⟨S4x4096x1024, .f32⟩
  | 47 => ⟨S4x4096x1024, .f32⟩
  | 48 => ⟨S4x4096x1024, .f32⟩
  | 49 => ⟨S1x1024, .f32⟩
  | 50 => ⟨S1024, .f32⟩
  | 51 => ⟨S1x1024, .f32⟩
  | 52 => ⟨S1024, .f32⟩
  | 53 => ⟨S_, .f32⟩
  | 54 => ⟨S4x4096, .f32⟩
  | 55 => ⟨S4x4096x1, .f32⟩
  | 56 => ⟨S_, .f32⟩
  | 57 => ⟨S4x4096x1, .f32⟩
  | 58 => ⟨S4x4096x1, .f32⟩
  | 59 => ⟨S4x4096x1024, .f32⟩
  | 60 => ⟨S4x4096x1024, .f32⟩
  | 61 => ⟨S4x4096x1024, .f32⟩
  | 62 => ⟨S_, .f32⟩
  | 63 => ⟨S4x4096, .f32⟩
  | 64 => ⟨S4x4096x1, .f32⟩
  | 65 => ⟨S_, .f32⟩
  | 66 => ⟨S4x4096x1, .f32⟩
  | 67 => ⟨S4x4096x1, .f32⟩
  | 68 => ⟨S_, .f32⟩
  | 69 => ⟨S4x4096x1, .f32⟩
  | 70 => ⟨S4x4096x1, .f32⟩
  | 71 => ⟨S4x4096x1, .f32⟩
  | 72 => ⟨S4x4096x1024, .f32⟩
  | 73 => ⟨S4x4096x1024, .f32⟩
  | 74 => ⟨S1x1x1024, .f32⟩
  | 75 => ⟨S4x4096x1024, .f32⟩
  | 76 => ⟨S4x4096x1024, .f32⟩
  | 77 => ⟨S1x1x1024, .f32⟩
  | 78 => ⟨S4x4096x1024, .f32⟩
  | 79 => ⟨S4x4096x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_2 : Ref sig .tc := ⟨.hbm, 55, rfl⟩
abbrev main_v44 : Ref sig .tc := ⟨.hbm, 56, rfl⟩
abbrev main_v45 : Ref sig .tc := ⟨.hbm, 57, rfl⟩
abbrev main_cst_3 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_5 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_cst_6 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_c : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_c_7 : Ref sig .tc := ⟨.hbm, 120, rfl⟩
abbrev main_v103 : Ref sig .tc := ⟨.hbm, 121, rfl⟩
abbrev main_v104 : Ref sig .tc := ⟨.hbm, 122, rfl⟩
abbrev main_c_8 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_c_9 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_c_10 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_cst_11 : Ref sig .tc := ⟨.hbm, 145, rfl⟩
abbrev main_call0_v0 : Ref sig .tc := ⟨.hbm, 146, rfl⟩
abbrev main_call0_v1 : Ref sig .tc := ⟨.hbm, 147, rfl⟩
abbrev main_call0_v2 : Ref sig .tc := ⟨.hbm, 148, rfl⟩
abbrev main_v124 : Ref sig .tc := ⟨.hbm, 149, rfl⟩
abbrev main_v125 : Ref sig .tc := ⟨.hbm, 150, rfl⟩
abbrev main_cst_12 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_cst_13 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_cst_14 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_cst_15 : Ref sig .tc := ⟨.hbm, 181, rfl⟩
abbrev main_v153 : Ref sig .tc := ⟨.hbm, 182, rfl⟩
abbrev main_v154 : Ref sig .tc := ⟨.hbm, 183, rfl⟩
abbrev main_cst_16 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_cst_17 : Ref sig .tc := ⟨.hbm, 190, rfl⟩
abbrev main_v160 : Ref sig .tc := ⟨.hbm, 191, rfl⟩
abbrev main_v161 : Ref sig .tc := ⟨.hbm, 192, rfl⟩
abbrev main_cst_18 : Ref sig .tc := ⟨.hbm, 193, rfl⟩
abbrev main_v162 : Ref sig .tc := ⟨.hbm, 194, rfl⟩
abbrev main_v163 : Ref sig .tc := ⟨.hbm, 195, rfl⟩
abbrev main_cst_19 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩

abbrev nD : Nat := 1
abbrev τ : Topo := Topo.v7x

variable {F : FTy → Type} [FloatOps F]
-- ==== Glu.lean ====
abbrev S4x4096x1024 : Shape := ⟨3, ![4, 4096, 1024]⟩
abbrev S1x1024x2048 : Shape := ⟨3, ![1, 1024, 2048]⟩
abbrev S1x2048 : Shape := ⟨2, ![1, 2048]⟩
abbrev S1024x2048 : Shape := ⟨2, ![1024, 2048]⟩
abbrev S16384x1024 : Shape := ⟨2, ![16384, 1024]⟩
abbrev S1024x1024 : Shape := ⟨2, ![1024, 1024]⟩
abbrev S1x1024 : Shape := ⟨2, ![1, 1024]⟩
abbrev S1024 : Shape := ⟨1, ![1024]⟩
abbrev S512x1024 : Shape := ⟨2, ![512, 1024]⟩

abbrev nBuf : Space → Nat
  | .hbm => 15
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1x1024x2048, .f32⟩
  | .hbm, ⟨2, _⟩ => ⟨S1x2048, .f32⟩
  | .hbm, ⟨3, _⟩ => ⟨S1024x2048, .f32⟩
  | .hbm, ⟨4, _⟩ => ⟨S1024x2048, .bf16⟩
  | .hbm, ⟨5, _⟩ => ⟨S16384x1024, .f32⟩
  | .hbm, ⟨6, _⟩ => ⟨S1024x1024, .bf16⟩
  | .hbm, ⟨7, _⟩ => ⟨S1024x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GluReferenceIdeal.lean ====
abbrev S4x4096x1024 : Shape := ⟨3, ![4, 4096, 1024]⟩
abbrev S1x1024x2048 : Shape := ⟨3, ![1, 1024, 2048]⟩
abbrev S1x2048 : Shape := ⟨2, ![1, 2048]⟩
abbrev S1024x2048 : Shape := ⟨2, ![1024, 2048]⟩
abbrev S4x4096x2048 : Shape := ⟨3, ![4, 4096, 2048]⟩
abbrev S2048 : Shape := ⟨1, ![2048]⟩
abbrev S1x1x2048 : Shape := ⟨3, ![1, 1, 2048]⟩
abbrev S_ : Shape := ⟨0, ![]⟩
abbrev S16384x1024 : Shape := ⟨2, ![16384, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024x2048, .f32⟩
  | .hbm, ⟨2, _⟩ => ⟨S1x2048, .f32⟩
  | .hbm, ⟨3, _⟩ => ⟨S1024x2048, .f32⟩
  | .hbm, ⟨4, _⟩ => ⟨S4x4096x2048, .f32⟩
  | .hbm, ⟨5, _⟩ => ⟨S2048, .f32⟩
  | .hbm, ⟨6, _⟩ => ⟨S1x1x2048, .f32⟩
  | .hbm, ⟨7, _⟩ => ⟨S4x4096x2048, .f32⟩
  | .hbm, ⟨8, _⟩ => ⟨S4x4096x2048, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S_, .f32⟩
  | .hbm, ⟨14, _⟩ => ⟨S4x4096x1024, .f32⟩
  | .hbm, ⟨15, _⟩ => ⟨S4x4096x1024, .f32⟩
  | .hbm, ⟨16, _⟩ => ⟨S_, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Conv.lean ====
abbrev S16384x1024 : Shape := ⟨2, ![16384, 1024]⟩
abbrev S4x4096x1024 : Shape := ⟨3, ![4, 4096, 1024]⟩
abbrev S1x31x1024 : Shape := ⟨3, ![1, 31, 1024]⟩
abbrev S1x1024 : Shape := ⟨2, ![1, 1024]⟩
abbrev S1x1024x1024 : Shape := ⟨3, ![1, 1024, 1024]⟩
abbrev S2x1024 : Shape := ⟨2, ![2, 1024]⟩
abbrev S31x1024 : Shape := ⟨2, ![31, 1024]⟩
abbrev S31x1x1024 : Shape := ⟨3, ![31, 1, 1024]⟩
abbrev S31x8x1024 : Shape := ⟨3, ![31, 8, 1024]⟩
abbrev S1024 : Shape := ⟨1, ![1024]⟩
abbrev S1024x1024 : Shape := ⟨2, ![1024, 1024]⟩
abbrev S1x512x1024 : Shape := ⟨3, ![1, 512, 1024]⟩
abbrev S1x32x1024 : Shape := ⟨3, ![1, 32, 1024]⟩
abbrev S8x544x1024 : Shape := ⟨3, ![8, 544, 1024]⟩
abbrev S512x1024 : Shape := ⟨2, ![512, 1024]⟩
abbrev S32x1024 : Shape := ⟨2, ![32, 1024]⟩
abbrev S1x536x1024 : Shape := ⟨3, ![1, 536, 1024]⟩
abbrev S536x1024 : Shape := ⟨2, ![536, 1024]⟩
abbrev S1x1x1024 : Shape := ⟨3, ![1, 1, 1024]⟩
abbrev S4x8x1024 : Shape := ⟨3, ![4, 8, 1024]⟩
abbrev S1x8x1024 : Shape := ⟨3, ![1, 8, 1024]⟩
abbrev S8x1024 : Shape := ⟨2, ![8, 1024]⟩
abbrev S512 : Shape := ⟨1, ![512]⟩
abbrev S512x1 : Shape := ⟨2, ![512, 1]⟩

abbrev nBuf : Space → Nat
  | .hbm => 31
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S4x4096x1024, .f32⟩
  | .hbm, ⟨2, _⟩ => ⟨S1x31x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024x1024, .f32⟩
  | .hbm, ⟨7, _⟩ => ⟨S1x1024, .f32⟩
  | .hbm, ⟨8, _⟩ => ⟨S2x1024, .f32⟩
  | .hbm, ⟨9, _⟩ => ⟨S2x1024, .f32⟩
  | .hbm, ⟨10, _⟩ => ⟨S31x1024, .f32⟩
  | .hbm, ⟨11, _⟩ => ⟨S31x1x1024, .f32⟩
  | .hbm, ⟨12, _⟩ => ⟨S31x8x1024, .f32⟩
  | .hbm, ⟨13, _⟩ => ⟨S4x4096x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024x1024, .f32⟩
  | .hbm, ⟨21, _⟩ => ⟨S1024x1024, .bf16⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x512x1024, .f32⟩
  | .local _ .vmem, ⟨5, _⟩ => ⟨S1x512x1024, .f32⟩
  | .local _ .vmem, ⟨6, _⟩ => ⟨S31x8x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S8x544x1024, .f32⟩
  | .local _ .vmem, ⟨17, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_45 : BitVec 32 := 0#32
  let c16_i32 : BitVec 32 := 16#32
  let v48 : BitVec 32 := Scalar.addi c0_i32_45 c16_i32
  let c1_i32 : BitVec 32 := 1#32
  ⟨c0_i32_45, v48, c1_i32⟩
def k0_mult1 (k0_t1 : Fin k0_t1_loop.trips) : BitVec 32 :=
  let c0_i32_45 : BitVec 32 := 0#32
  let c1_i32 : BitVec 32 := 1#32
  let arg16 : BitVec 32 := Scf.iv c0_i32_45 c1_i32 k0_t1
  let c32_i32 : BitVec 32 := 32#32
  let v120 : BitVec 32 := Scalar.muli arg16 c32_i32
  v120
def k0_off1 (k0_t1 : Fin k0_t1_loop.trips) (c0_i32_83 : BitVec 32) : Fin 3 → Nat :=
  let c2_87 : Index := 2#32
  let c0_i32_45 : BitVec 32 := 0#32
  let c1_i32 : BitVec 32 := 1#32
  let arg16 : BitVec 32 := Scf.iv c0_i32_45 c1_i32 k0_t1
  let c32_i32 : BitVec 32 := 32#32
  let v120 : BitVec 32 := Scalar.muli arg16 c32_i32
  let v121 : BitVec 32 := v120
  let v126 : BitVec 32 := Scalar.addi v121 c0_i32_83
  let v130 : Index := Scalar.indexCast v126
  let c0_88 : Index := 0#32
  ![2, v130.toNat, 0]
def k0_off2 (k0_t1 : Fin k0_t1_loop.trips) (c0_i32_89 : BitVec 32) : Fin 3 → Nat :=
  let c3_93 : Index := 3#32
  let c0_i32_45 : BitVec 32 := 0#32
  let c1_i32 : BitVec 32 := 1#32
  let arg16 : BitVec 32 := Scf.iv c0_i32_45 c1_i32 k0_t1
  let c32_i32 : BitVec 32 := 32#32
  let v120 : BitVec 32 := Scalar.muli arg16 c32_i32
  let v121 : BitVec 32 := v120
  let v137 : BitVec 32 := Scalar.addi v121 c0_i32_89
  let v141 : Index := Scalar.indexCast v137
  let c0_94 : Index := 0#32
  ![3, v141.toNat, 0]
def k0_off3 (k0_t1 : Fin k0_t1_loop.trips) (c0_i32_95 : BitVec 32) : Fin 3 → Nat :=
  let c4_99 : Index := 4#32
  let c0_i32_45 : BitVec 32 := 0#32
  let c1_i32 : BitVec 32 := 1#32
  let arg16 : BitVec 32 := Scf.iv c0_i32_45 c1_i32 k0_t1
  let c32_i32 : BitVec 32 := 32#32
  let v120 : BitVec 32 := Scalar.muli arg16 c32_i32
  let v121 : BitVec 32 := v120
  let v148 : BitVec 32 := Scalar.addi v121 c0_i32_95
  let v152 : Index := Scalar.indexCast v148
  let c0_100 : Index := 0#32
  ![4, v152.toNat, 0]
def k0_off4 (k0_t1 : Fin k0_t1_loop.trips) (c0_i32_101 : BitVec 32) : Fin 3 → Nat :=
  let c5_105 : Index := 5#32
  let c0_i32_45 : BitVec 32 := 0#32
  let c1_i32 : BitVec 32 := 1#32
  let arg16 : BitVec 32 := Scf.iv c0_i32_45 c1_i32 k0_t1
  let c32_i32 : BitVec 32 := 32#32
  let v120 : BitVec 32 := Scalar.muli arg16 c32_i32
  let v121 : BitVec 32 := v120
  let v159 : BitVec 32 := Scalar.addi v121 c0_i32_101
  let v163 : Index := Scalar.indexCast v159
  let c0_106 : Index := 0#32
  ![5, v163.toNat, 0]
def k0_off5 (k0_t1 : Fin k0_t1_loop.trips) (c0_i32_107 : BitVec 32) : Fin 3 → Nat :=
  let c6_111 : Index := 6#32
  let c0_i32_45 : BitVec 32 := 0#32
  let c1_i32 : BitVec 32 := 1#32
  let arg16 : BitVec 32 := Scf.iv c0_i32_45 c1_i32 k0_t1
  let c32_i32 : BitVec 32 := 32#32
  let v120 : BitVec 32 := Scalar.muli arg16 c32_i32
  let v121 : BitVec 32 := v120
  let v170 : BitVec 32 := Scalar.addi v121 c0_i32_107
  let v174 : Index := Scalar.indexCast v170
  let c0_112 : Index := 0#32
  ![6, v174.toNat, 0]
def k0_off6 (k0_t1 : Fin k0_t1_loop.trips) (c0_i32_113 : BitVec 32) : Fin 3 → Nat :=
  let c7_117 : Index := 7#32
  let c0_i32_45 : BitVec 32 := 0#32
  let c1_i32 : BitVec 32 := 1#32
  let arg16 : BitVec 32 := Scf.iv c0_i32_45 c1_i32 k0_t1
  let c32_i32 : BitVec 32 := 32#32
  let v120 : BitVec 32 := Scalar.muli arg16 c32_i32
  let v121 : BitVec 32 := v120
  let v181 : BitVec 32 := Scalar.addi v121 c0_i32_113
  let v185 : Index := Scalar.indexCast v181
  let c0_118 : Index := 0#32
  ![7, v185.toNat, 0]
def k0_off7 (k0_t1 : Fin k0_t1_loop.trips) (c8_i32 : BitVec 32) : Fin 3 → Nat :=
  let c0_122 : Index := 0#32
  let c0_i32_45 : BitVec 32 := 0#32
  let c1_i32 : BitVec 32 := 1#32
  let arg16 : BitVec 32 := Scf.iv c0_i32_45 c1_i32 k0_t1
  let c32_i32 : BitVec 32 := 32#32
  let v120 : BitVec 32 := Scalar.muli arg16 c32_i32
  let v121 : BitVec 32 := v120
  let v192 : BitVec 32 := Scalar.addi v121 c8_i32
  let v196 : Index := Scalar.indexCast v192
  let c0_123 : Index := 0#32
  ![0, v196.toNat, 0]
def k0_off8 (k0_t1 : Fin k0_t1_loop.trips) (c8_i32_124 : BitVec 32) : Fin 3 → Nat :=
  let c1_128 : Index := 1#32
  let c0_i32_45 : BitVec 32 := 0#32
  let c1_i32 : BitVec 32 := 1#32
  let arg16 : BitVec 32 := Scf.iv c0_i32_45 c1_i32 k0_t1
  let c32_i32 : BitVec 32 := 32#32
  let v120 : BitVec 32 := Scalar.muli arg16 c32_i32
  let v121 : BitVec 32 := v120
  let v203 : BitVec 32 := Scalar.addi v121 c8_i32_124
  let v207 : Index := Scalar.indexCast v203
  let c0_129 : Index := 0#32
  ![1, v207.toNat, 0]
def k0_off9 (k0_t1 : Fin k0_t1_loop.trips) : Fin 2 → Nat :=
  let c0_i32_45 : BitVec 32 := 0#32
  let c1_i32 : BitVec 32 := 1#32
  let arg16 : BitVec 32 := Scf.iv c0_i32_45 c1_i32 k0_t1
  let c32_i32 : BitVec 32 := 32#32
  let v120 : BitVec 32 := Scalar.muli arg16 c32_i32
  let v121 : BitVec 32 := v120
  let v468 : Index := Scalar.indexCast v121
  let c0_244 : Index := 0#32
  ![v468.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S31x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ConvReferenceIdeal.lean ====
abbrev S16384x1024 : Shape := ⟨2, ![16384, 1024]⟩
abbrev S4x4096x1024 : Shape := ⟨3, ![4, 4096, 1024]⟩
abbrev S1x31x1024 : Shape := ⟨3, ![1, 31, 1024]⟩
abbrev S1x1024 : Shape := ⟨2, ![1, 1024]⟩
abbrev S1x1024x1024 : Shape := ⟨3, ![1, 1024, 1024]⟩
abbrev S2x1024 : Shape := ⟨2, ![2, 1024]⟩
abbrev S31x1024 : Shape := ⟨2, ![31, 1024]⟩
abbrev S1024 : Shape := ⟨1, ![1024]⟩
abbrev S_ : Shape := ⟨0, ![]⟩
abbrev S4x30x1024 : Shape := ⟨3, ![4, 30, 1024]⟩
abbrev S4x4126x1024 : Shape := ⟨3, ![4, 4126, 1024]⟩
abbrev S1x1x1024 : Shape := ⟨3, ![1, 1, 1024]⟩
abbrev S4x4096 : Shape := ⟨2, ![4, 4096]⟩
abbrev S4x4096x1 : Shape := ⟨3, ![4, 4096, 1]⟩
abbrev S1024x1024 : Shape := ⟨2, ![1024, 1024]⟩

abbrev nBuf : Space → Nat
  | .hbm => 314
  | .vmem => 0
  | .smem => 0
  | _ => 0

abbrev hbmTy0_0 (i : Nat) : BufTy := match i % 128 with
  | 0 => ⟨S16384x1024, .f32⟩
  | 1 => ⟨S4x4096x1024, .f32⟩
  | 2 => ⟨S1x31x1024, .f32⟩
  | 3 => ⟨S1x1024, .f32⟩
  | 4 => ⟨S1x1024, .f32⟩
  | 5 => ⟨S1x1024, .f32⟩
  | 6 => ⟨S1x1024x1024, .f32⟩
  | 7 => ⟨S1x1024, .f32⟩
  | 8 => ⟨S2x1024, .f32⟩
  | 9 => ⟨S2x1024, .f32⟩
  | 10 => ⟨S4x4096x1024, .f32⟩
  | 11 => ⟨S31x1024, .f32⟩
  | 12 => ⟨S1024, .f32⟩
  | 13 => ⟨S_, .f32⟩
  | 14 => ⟨S4x30x1024, .f32⟩
  | 15 => ⟨S4x4126x1024, .f32⟩
  | 16 => ⟨S4x4096x1024, .f32⟩
  | 17 => ⟨S1x1024, .f32⟩
  | 18 => ⟨S1024, .f32⟩
  | 19 => ⟨S1x1x1024, .f32⟩
  | 20 => ⟨S4x4096x1024, .f32⟩
  | 21 => ⟨S4x4096x1024, .f32⟩
  | 22 => ⟨S4x4096x1024, .f32⟩
  | 23 => ⟨S1x1024, .f32⟩
  | 24 => ⟨S1024, .f32⟩
  | 25 => ⟨S1x1x1024, .f32⟩
  | 26 => ⟨S4x4096x1024, .f32⟩
  | 27 => ⟨S4x4096x1024, .f32⟩
  | 28 => ⟨S4x4096x1024, .f32⟩
  | 29 => ⟨S4x4096x1024, .f32⟩
  | 30 => ⟨S1x1024, .f32⟩
  | 31 => ⟨S1024, .f32⟩
  | 32 => ⟨S1x1x1024, .f32⟩
  | 33 => ⟨S4x4096x1024, .f32⟩
  | 34 => ⟨S4x4096x1024, .f32⟩
  | 35 => ⟨S4x4096x1024, .f32⟩
  | 36 => ⟨S4x4096x1024, .f32⟩
  | 37 => ⟨S1x1024, .f32⟩
  | 38 => ⟨S1024, .f32⟩
  | 39 => ⟨S1x1x1024, .f32⟩
  | 40 => ⟨S4x4096x1024, .f32⟩
  | 41 => ⟨S4x4096x1024, .f32⟩
  | 42 => ⟨S4x4096x1024, .f32⟩
  | 43 => ⟨S4x4096x1024, .f32⟩
  | 44 => ⟨S1x1024, .f32⟩
  | 45 => ⟨S1024, .f32⟩
  | 46 => ⟨S1x1x1024, .f32⟩
  | 47 => ⟨S4x4096x1024, .f32⟩
  | 48 => ⟨S4x4096x1024, .f32⟩
  | 49 => ⟨S4x4096x1024, .f32⟩
  | 50 => ⟨S4x4096x1024, .f32⟩
  | 51 => ⟨S1x1024, .f32⟩
  | 52 => ⟨S1024, .f32⟩
  | 53 => ⟨S1x1x1024, .f32⟩
  | 54 => ⟨S4x4096x1024, .f32⟩
  | 55 => ⟨S4x4096x1024, .f32⟩
  | 56 => ⟨S4x4096x1024, .f32⟩
  | 57 => ⟨S4x4096x1024, .f32⟩
  | 58 => ⟨S1x1024, .f32⟩
  | 59 => ⟨S1024, .f32⟩
  | 60 => ⟨S1x1x1024, .f32⟩
  | 61 => ⟨S4x4096x1024, .f32⟩
  | 62 => ⟨S4x4096x1024, .f32⟩
  | 63 => ⟨S4x4096x1024, .f32⟩
  | 64 => ⟨S4x4096x1024, .f32⟩
  | 65 => ⟨S1x1024, .f32⟩
  | 66 => ⟨S1024, .f32⟩
  | 67 => ⟨S1x1x1024, .f32⟩
  | 68 => ⟨S4x4096x1024, .f32⟩
  | 69 => ⟨S4x4096x1024, .f32⟩
  | 70 => ⟨S4x4096x1024, .f32⟩
  | 71 => ⟨S4x4096x1024, .f32⟩
  | 72 => ⟨S1x1024, .f32⟩
  | 73 => ⟨S1024, .f32⟩
  | 74 => ⟨S1x1x1024, .f32⟩
  | 75 => ⟨S4x4096x1024, .f32⟩
  | 76 => ⟨S4x4096x1024, .f32⟩
  | 77 => ⟨S4x4096x1024, .f32⟩
  | 78 => ⟨S4x4096x1024, .f32⟩
  | 79 => ⟨S1x1024, .f32⟩
  | 80 => ⟨S1024, .f32⟩
  | 81 => ⟨S1x1x1024, .f32⟩
  | 82 => ⟨S4x4096x1024, .f32⟩
  | 83 => ⟨S4x4096x1024, .f32⟩
  | 84 => ⟨S4x4096x1024, .f32⟩
  | 85 => ⟨S4x4096x1024, .f32⟩
  | 86 => ⟨S1x1024, .f32⟩
  | 87 => ⟨S1024, .f32⟩
  | 88 => ⟨S1x1x1024, .f32⟩
  | 89 => ⟨S4x4096x1024, .f32⟩
  | 90 => ⟨S4x4096x1024, .f32⟩
  | 91 => ⟨S4x4096x1024, .f32⟩
  | 92 => ⟨S4x4096x1024, .f32⟩
  | 93 => ⟨S1x1024, .f32⟩
  | 94 => ⟨S1024, .f32⟩
  | 95 => ⟨S1x1x1024, .f32⟩
  | 96 => ⟨S4x4096x1024, .f32⟩
  | 97 => ⟨S4x4096x1024, .f32⟩
  | 98 => ⟨S4x4096x1024, .f32⟩
  | 99 => ⟨S4x4096x1024, .f32⟩
  | 100 => ⟨S1x1024, .f32⟩
  | 101 => ⟨S1024, .f32⟩
  | 102 => ⟨S1x1x1024, .f32⟩
  | 103 => ⟨S4x4096x1024, .f32⟩
  | 104 => ⟨S4x4096x1024, .f32⟩
  | 105 => ⟨S4x4096x1024, .f32⟩
  | 106 => ⟨S4x4096x1024, .f32⟩
  | 107 => ⟨S1x1024, .f32⟩
  | 108 => ⟨S1024, .f32⟩
  | 109 => ⟨S1x1x1024, .f32⟩
  | 110 => ⟨S4x4096x1024, .f32⟩
  | 111 => ⟨S4x4096x1024, .f32⟩
  | 112 => ⟨S4x4096x1024, .f32⟩
  | 113 => ⟨S4x4096x1024, .f32⟩
  | 114 => ⟨S1x1024, .f32⟩
  | 115 => ⟨S1024, .f32⟩
  | 116 => ⟨S1x1x1024, .f32⟩
  | 117 => ⟨S4x4096x1024, .f32⟩
  | 118 => ⟨S4x4096x1024, .f32⟩
  | 119 => ⟨S4x4096x1024, .f32⟩
  | 120 => ⟨S4x4096x1024, .f32⟩
  | 121 => ⟨S1x1024, .f32⟩
  | 122 => ⟨S1024, .f32⟩
  | 123 => ⟨S1x1x1024, .f32⟩
  | 124 => ⟨S4x4096x1024, .f32⟩
  | 125 => ⟨S4x4096x1024, .f32⟩
  | 126 => ⟨S4x4096x1024, .f32⟩
  | 127 => ⟨S4x4096x1024, .f32⟩
  | _ => ⟨S16384x1024, .f32⟩

abbrev hbmTy0_1 (i : Nat) : BufTy := match i % 128 with
  | 0 => ⟨S1x1024, .f32⟩
  | 1 => ⟨S1024, .f32⟩
  | 2 => ⟨S1x1x1024, .f32⟩
  | 3 => ⟨S4x4096x1024, .f32⟩
  | 4 => ⟨S4x4096x1024, .f32⟩
  | 5 => ⟨S4x4096x1024, .f32⟩
  | 6 => ⟨S4x4096x1024, .f32⟩
  | 7 => ⟨S1x1024, .f32⟩
  | 8 => ⟨S1024, .f32⟩
  | 9 => ⟨S1x1x1024, .f32⟩
  | 10 => ⟨S4x4096x1024, .f32⟩
  | 11 => ⟨S4x4096x1024, .f32⟩
  | 12 => ⟨S4x4096x1024, .f32⟩
  | 13 => ⟨S4x4096x1024, .f32⟩
  | 14 => ⟨S1x1024, .f32⟩
  | 15 => ⟨S1024, .f32⟩
  | 16 => ⟨S1x1x1024, .f32⟩
  | 17 => ⟨S4x4096x1024, .f32⟩
  | 18 => ⟨S4x4096x1024, .f32⟩
  | 19 => ⟨S4x4096x1024, .f32⟩
  | 20 => ⟨S4x4096x1024, .f32⟩
  | 21 => ⟨S1x1024, .f32⟩
  | 22 => ⟨S1024, .f32⟩
  | 23 => ⟨S1x1x1024, .f32⟩
  | 24 => ⟨S4x4096x1024, .f32⟩
  | 25 => ⟨S4x4096x1024, .f32⟩
  | 26 => ⟨S4x4096x1024, .f32⟩
  | 27 => ⟨S4x4096x1024, .f32⟩
  | 28 => ⟨S1x1024, .f32⟩
  | 29 => ⟨S1024, .f32⟩
  | 30 => ⟨S1x1x1024, .f32⟩
  | 31 => ⟨S4x4096x1024, .f32⟩
  | 32 => ⟨S4x4096x1024, .f32⟩
  | 33 => ⟨S4x4096x1024, .f32⟩
  | 34 => ⟨S4x4096x1024, .f32⟩
  | 35 => ⟨S1x1024, .f32⟩
  | 36 => ⟨S1024, .f32⟩
  | 37 => ⟨S1x1x1024, .f32⟩
  | 38 => ⟨S4x4096x1024, .f32⟩
  | 39 => ⟨S4x4096x1024, .f32⟩
  | 40 => ⟨S4x4096x1024, .f32⟩
  | 41 => ⟨S4x4096x1024, .f32⟩
  | 42 => ⟨S1x1024, .f32⟩
  | 43 => ⟨S1024, .f32⟩
  | 44 => ⟨S1x1x1024, .f32⟩
  | 45 => ⟨S4x4096x1024, .f32⟩
  | 46 => ⟨S4x4096x1024, .f32⟩
  | 47 => ⟨S4x4096x1024, .f32⟩
  | 48 => ⟨S4x4096x1024, .f32⟩
  | 49 => ⟨S1x1024, .f32⟩
  | 50 => ⟨S1024, .f32⟩
  | 51 => ⟨S1x1x1024, .f32⟩
  | 52 => ⟨S4x4096x1024, .f32⟩
  | 53 => ⟨S4x4096x1024, .f32⟩
  | 54 => ⟨S4x4096x1024, .f32⟩
  | 55 => ⟨S4x4096x1024, .f32⟩
  | 56 => ⟨S1x1024, .f32⟩
  | 57 => ⟨S1024, .f32⟩
  | 58 => ⟨S1x1x1024, .f32⟩
  | 59 => ⟨S4x4096x1024, .f32⟩
  | 60 => ⟨S4x4096x1024, .f32⟩
  | 61 => ⟨S4x4096x1024, .f32⟩
  | 62 => ⟨S4x4096x1024, .f32⟩
  | 63 => ⟨S1x1024, .f32⟩
  | 64 => ⟨S1024, .f32⟩
  | 65 => ⟨S1x1x1024, .f32⟩
  | 66 => ⟨S4x4096x1024, .f32⟩
  | 67 => ⟨S4x4096x1024, .f32⟩
  | 68 => ⟨S4x4096x1024, .f32⟩
  | 69 => ⟨S4x4096x1024, .f32⟩
  | 70 => ⟨S1x1024, .f32⟩
  | 71 => ⟨S1024, .f32⟩
  | 72 => ⟨S1x1x1024, .f32⟩
  | 73 => ⟨S4x4096x1024, .f32⟩
  | 74 => ⟨S4x4096x1024, .f32⟩
  | 75 => ⟨S4x4096x1024, .f32⟩
  | 76 => ⟨S4x4096x1024, .f32⟩
  | 77 => ⟨S1x1024, .f32⟩
  | 78 => ⟨S1024, .f32⟩
  | 79 => ⟨S1x1x1024, .f32⟩
  | 80 => ⟨S4x4096x1024, .f32⟩
  | 81 => ⟨S4x4096x1024, .f32⟩
  | 82 => ⟨S4x4096x1024, .f32⟩
  | 83 => ⟨S4x4096x1024, .f32⟩
  | 84 => ⟨S1x1024, .f32⟩
  | 85 => ⟨S1024, .f32⟩
  | 86 => ⟨S1x1x1024, .f32⟩
  | 87 => ⟨S4x4096x1024, .f32⟩
  | 88 => ⟨S4x4096x1024, .f32⟩
  | 89 => ⟨S4x4096x1024, .f32⟩
  | 90 => ⟨S4x4096x1024, .f32⟩
  | 91 => ⟨S1x1024, .f32⟩
  | 92 => ⟨S1024, .f32⟩
  | 93 => ⟨S1x1x1024, .f32⟩
  | 94 => ⟨S4x4096x1024, .f32⟩
  | 95 => ⟨S4x4096x1024, .f32⟩
  | 96 => ⟨S4x4096x1024, .f32⟩
  | 97 => ⟨S4x4096x1024, .f32⟩
  | 98 => ⟨S1x1024, .f32⟩
  | 99 => ⟨S1024, .f32⟩
  | 100 => ⟨S1x1x1024, .f32⟩
  | 101 => ⟨S4x4096x1024, .f32⟩
  | 102 => ⟨S4x4096x1024, .f32⟩
  | 103 => ⟨S4x4096x1024, .f32⟩
  | 104 => ⟨S1x1x1024, .f32⟩
  | 105 => ⟨S4x4096x1024, .f32⟩
  | 106 => ⟨S4x4096x1024, .f32⟩
  | 107 => ⟨S1024, .f32⟩
  | 108 => ⟨S1024, .f32⟩
  | 109 => ⟨S_, .f32⟩
  | 110 => ⟨S4x4096, .f32⟩
  | 111 => ⟨S4x4096x1, .f32⟩
  | 112 => ⟨S_, .f32⟩
  | 113 => ⟨S4x4096x1, .f32⟩
  | 114 => ⟨S4x4096x1, .f32⟩
  | 115 => ⟨S4x4096x1024, .f32⟩
  | 116 => ⟨S4x4096x1024, .f32⟩
  | 117 => ⟨S4x4096x1024, .f32⟩
  | 118 => ⟨S_, .f32⟩
  | 119 => ⟨S4x4096, .f32⟩
  | 120 => ⟨S4x4096x1, .f32⟩
  | 121 => ⟨S_, .f32⟩
  | 122 => ⟨S4x4096x1, .f32⟩
  | 123 => ⟨S4x4096x1, .f32⟩
  | 124 => ⟨S_, .f32⟩
  | 125 => ⟨S4x4096x1, .f32⟩
  | 126 => ⟨S4x4096x1, .f32⟩
  | 127 => ⟨S4x4096x1, .f32⟩
  | _ => ⟨S16384x1024, .f32⟩

abbrev hbmTy0_2 (i : Nat) : BufTy := match i % 128 with
  | 0 => ⟨S4x4096x1024, .f32⟩
  | 1 => ⟨S4x4096x1024, .f32⟩
  | 2 => ⟨S1x1x1024, .f32⟩
  | 3 => ⟨S4x4096x1024, .f32⟩
  | 4 => ⟨S4x4096x1024, .f32⟩
  | 5 => ⟨S1x1x1024, .f32⟩
  | 6 => ⟨S4x4096x1024, .f32⟩
  | 7 => ⟨S4x4096x1024, .f32⟩
  | 8 => ⟨S4x4096x1024, .f32⟩
  | 9 => ⟨S4x4096x1024, .f32⟩
  | 10 => ⟨S_, .f32⟩
  | 11 => ⟨S4x4096x1024, .f32⟩
  | 12 => ⟨S4x4096x1024, .f32⟩
  | 13 => ⟨S_, .f32⟩
  | 14 => ⟨S4x4096x1024, .f32⟩
  | 15 => ⟨S4x4096x1024, .f32⟩
  | 16 => ⟨S4x4096x1024, .f32⟩
  | 17 => ⟨S1024x1024, .f32⟩
  | 18 => ⟨S4x4096x1024, .f32⟩
  | 19 => ⟨S1024, .f32⟩
  | 20 => ⟨S1x1x1024, .f32⟩
  | 21 => ⟨S4x4096x1024, .f32⟩
  | 22 => ⟨S4x4096x1024, .f32⟩
  | 23 => ⟨S_, .f32⟩
  | 24 => ⟨S4x4096x1024, .f32⟩
  | 25 => ⟨S4x4096x1024, .f32⟩
  | 26 => ⟨S4x4096x1024, .f32⟩
  | 27 => ⟨S1x1024, .f32⟩
  | 28 => ⟨S1024, .f32⟩
  | 29 => ⟨S1x1024, .f32⟩
  | 30 => ⟨S1024, .f32⟩
  | 31 => ⟨S_, .f32⟩
  | 32 => ⟨S4x4096, .f32⟩
  | 33 => ⟨S4x4096x1, .f32⟩
  | 34 => ⟨S_, .f32⟩
  | 35 => ⟨S4x4096x1, .f32⟩
  | 36 => ⟨S4x4096x1, .f32⟩
  | 37 => ⟨S4x4096x1024, .f32⟩
  | 38 => ⟨S4x4096x1024, .f32⟩
  | 39 => ⟨S4x4096x1024, .f32⟩
  | 40 => ⟨S_, .f32⟩
  | 41 => ⟨S4x4096, .f32⟩
  | 42 => ⟨S4x4096x1, .f32⟩
  | 43 => ⟨S_, .f32⟩
  | 44 => ⟨S4x4096x1, .f32⟩
  | 45 => ⟨S4x4096x1, .f32⟩
  | 46 => ⟨S_, .f32⟩
  | 47 => ⟨S4x4096x1, .f32⟩
  | 48 => ⟨S4x4096x1, .f32⟩
  | 49 => ⟨S4x4096x1, .f32⟩
  | 50 => ⟨S4x4096x1024, .f32⟩
  | 51 => ⟨S4x4096x1024, .f32⟩
  | 52 => ⟨S1x1x1024, .f32⟩
  | 53 => ⟨S4x4096x1024, .f32⟩
  | 54 => ⟨S4x4096x1024, .f32⟩
  | 55 => ⟨S1x1x1024, .f32⟩
  | 56 => ⟨S4x4096x1024, .f32⟩
  | 57 => ⟨S4x4096x1024, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_cst_0 : Ref sig .tc := ⟨.hbm, 237, rfl⟩
abbrev main_v226 : Ref sig .tc := ⟨.hbm, 238, rfl⟩
abbrev main_v227 : Ref sig .tc := ⟨.hbm, 239, rfl⟩
abbrev main_cst_1 : Ref sig .tc := ⟨.hbm, 240, rfl⟩
abbrev main_v228 : Ref sig .tc := ⟨.hbm, 241, rfl⟩
abbrev main_v229 : Ref sig .tc := ⟨.hbm, 242, rfl⟩
abbrev main_v230 : Ref sig .tc := ⟨.hbm, 243, rfl⟩
abbrev main_v231 : Ref sig .tc := ⟨.hbm, 244, rfl⟩
abbrev main_v232 : Ref sig .tc := ⟨.hbm, 245, rfl⟩
abbrev main_cst_2 : Ref sig .tc := ⟨.hbm, 246, rfl⟩
abbrev main_v233 : Ref sig .tc := ⟨.hbm, 247, rfl⟩
abbrev main_v234 : Ref sig .tc := ⟨.hbm, 248, rfl⟩
abbrev main_cst_3 : Ref sig .tc := ⟨.hbm, 249, rfl⟩
abbrev main_v235 : Ref sig .tc := ⟨.hbm, 250, rfl⟩
abbrev main_v236 : Ref sig .tc := ⟨.hbm, 251, rfl⟩
abbrev main_cst_4 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_call0_v0 : Ref sig .tc := ⟨.hbm, 264, rfl⟩
abbrev main_call0_v1 : Ref sig .tc := ⟨.hbm, 265, rfl⟩
abbrev main_call0_cst : Ref sig .tc := ⟨.hbm, 266, rfl⟩
abbrev main_call0_v2 : Ref sig .tc := ⟨.hbm, 267, rfl⟩
abbrev main_call0_v3 : Ref sig .tc := ⟨.hbm, 268, rfl⟩
abbrev main_call0_cst_0 : Ref sig .tc := ⟨.hbm, 269, rfl⟩
abbrev main_call0_v4 : Ref sig .tc := ⟨.hbm, 270, rfl⟩
abbrev main_call0_v5 : Ref sig .tc := ⟨.hbm, 271, rfl⟩
abbrev main_v248 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_cst_5 : Ref sig .tc := ⟨.hbm, 279, rfl⟩
abbrev main_v255 : Ref sig .tc := ⟨.hbm, 280, rfl⟩
abbrev main_v256 : Ref sig .tc := ⟨.hbm, 281, rfl⟩
abbrev main_v257 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩
abbrev main_v261 : Ref sig .tc := ⟨.hbm, 286, rfl⟩
abbrev main_cst_6 : Ref sig .tc := ⟨.hbm, 287, rfl⟩
abbrev main_v262 : Ref sig .tc := ⟨.hbm, 288, rfl⟩
abbrev main_v263 : Ref sig .tc := ⟨.hbm, 289, rfl⟩
abbrev main_cst_7 : Ref sig .tc := ⟨.hbm, 290, rfl⟩
abbrev main_v264 : Ref sig .tc := ⟨.hbm, 291, rfl⟩
abbrev main_v265 : Ref sig .tc := ⟨.hbm, 292, rfl⟩
abbrev main_v266 : Ref sig .tc := ⟨.hbm, 293, rfl⟩
abbrev main_v267 : Ref sig .tc := ⟨.hbm, 294, rfl⟩
abbrev main_v268 : Ref sig .tc := ⟨.hbm, 295, rfl⟩
abbrev main_cst_8 : Ref sig .tc := ⟨.hbm, 296, rfl⟩
abbrev main_v269 : Ref sig .tc := ⟨.hbm, 297, rfl⟩
abbrev main_v270 : Ref sig .tc := ⟨.hbm, 298, rfl⟩
abbrev main_cst_9 : Ref sig .tc := ⟨.hbm, 299, rfl⟩
abbrev main_v271 : Ref sig .tc := ⟨.hbm, 300, rfl⟩
abbrev main_v272 : Ref sig .tc := ⟨.hbm, 301, rfl⟩
abbrev main_cst_10 : Ref sig .tc := ⟨.hbm, 302, rfl⟩
abbrev main_v273 : Ref sig .tc := ⟨.hbm, 303, rfl⟩
abbrev main_v274 : Ref sig .tc := ⟨.hbm, 304, rfl⟩
abbrev main_v275 : Ref sig .tc := ⟨.hbm, 305, rfl⟩
abbrev main_v276 : Ref sig .tc := ⟨.hbm, 306, rfl⟩
abbrev main_v277 : Ref sig .tc := ⟨.hbm, 307, rfl⟩
abbrev main_v278 : Ref sig .tc := ⟨.hbm, 308, rfl⟩
abbrev main_v279 : Ref sig .tc := ⟨.hbm, 309, rfl⟩
abbrev main_v280 : Ref sig .tc := ⟨.hbm, 310, rfl⟩
abbrev main_v281 : Ref sig .tc := ⟨.hbm, 311, rfl⟩
abbrev main_v282 : Ref sig .tc := ⟨.hbm, 312, rfl⟩
abbrev main_v283 : Ref sig .tc := ⟨.hbm, 313, rfl⟩

abbrev nD : Nat := 1
abbrev τ : Topo := Topo.v7x

variable {F : FTy → Type} [FloatOps F]
-- ==== Proof.Run.lean ====
/- The run of the idealized kernel, with the contents of its result array: every weakly fair execution terminates, the result
   array holds what the second pipeline's write-backs leave in it, and the eight argument arrays are as launched. -/
module

public import proofs.«01_k».proof.Proof.Gen.KernelIdeal.Frame
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- Every run of the idealized kernel ends with the result array at the second pipeline's contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v46) = (dat1 (V13 m ρ) c).arrAt 12 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz c =>
      ⟨(h c _ (mem_uc main_v46 (by decide))).trans (W14_arr m ρ c 12),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c)⟩)

end Cert.KernelIdeal.Hand

end
-- ==== Proof.Spec.lean ====
/- The mathematics of one block of the layer over the extended reals: the rotary factors, a softmax row with a sink, and layer
   normalisation. Both programs' results are read as these functions. -/
module

public import Idealize.ShloMosaic.Lib.Pointwise

@[expose] public section

noncomputable section

namespace Cert.Spec

open Idealize.ShloMosaic

/-- The value of the literal that stands for "no score" where a key is outside the window. -/
abbrev noScore : EReal := Ideal.ofBits FTy.f32 4048155338#32

/-- The stabiliser of a row of scores: the largest of them or the sink. -/
def rowMax (s : Fin 256 → EReal) (snk : EReal) : EReal :=
  max (Finset.univ.fold max (Ideal.ofBits FTy.f32 4286578688#32) s) snk

/-- A softmax row with a sink in the denominator, applied to a column of values. -/
def rowOut (s : Fin 256 → EReal) (snk : EReal) (v : Fin 256 → EReal) : EReal :=
  ∑ x, Ideal.div (Ideal.exp (s x - rowMax s snk)) ((∑ y, Ideal.exp (s y - rowMax s snk)) + Ideal.exp (snk - rowMax s snk)) * v x

/-- Whether query `q` of block `blk` sees key `t` of the 256 that begin 128 before its block: the 128 positions up to its own, and none
    before the start. -/
abbrev sees (blk q t : ℕ) : Prop := (q < t ∧ t ≤ q + 128) ∧ (128 ≤ t ∨ 0 < blk)

/-- A softmax row depends on its scores, its sink and its values only. -/
theorem rowOut_congr {s s' v v' : Fin 256 → EReal} {snk snk' : EReal} (h : ∀ t, s t = s' t) (hk : snk = snk') (hv : ∀ t, v t = v' t) :
    rowOut s snk v = rowOut s' snk' v' := by
  rw [funext h, hk, funext hv]

/-- The lane whose value the rotation mixes into lane `e`: eight further for the first eight lanes of a head, otherwise eight back
    (around the 128 lanes of a register row). -/
def partner {n : ℕ} (hn : n % 128 = 0) (e : Fin n) : Fin n :=
  if h : e.val % 64 < 8 then ⟨e.val + 8, by have := e.isLt; omega⟩
  else ⟨e.val / 128 * 128 + (e.val % 128 + 120) % 128, by have := e.isLt; omega⟩

/-- The rotation as 128-lane rows compute it: every lane times its cosine plus its partner times its signed sine. -/
def ropeLane {n : ℕ} (hn : n % 128 = 0) (P : Fin n → EReal) (C S : Fin 128 → EReal) (e : Fin n) : EReal :=
  P e * C ⟨e.val % 128, by omega⟩ + P (partner hn e) * S ⟨e.val % 128, by omega⟩

/-- The rotary frequencies: the base to the power `-2 j / 16`. -/
def freq (j : Fin 8) : EReal :=
  Ideal.pow (Ideal.ofBits FTy.f32 1223959552#32)
    (-Ideal.div (FloatOps.sitofp (F := Ideal) FTy.f32 (BitVec.ofNat 32 j.val) * Ideal.ofBits FTy.f32 1073741824#32) (Ideal.ofBits FTy.f32 1098907648#32))

/-- The rotation depends on its row, its cosines and its sines only. -/
theorem ropeLane_congr {n : ℕ} (hn : n % 128 = 0) {P P' : Fin n → EReal} {C C' S S' : Fin 128 → EReal} (hP : ∀ e, P e = P' e)
    (hC : ∀ l, C l = C' l) (hS : ∀ l, S l = S' l) (e : Fin n) : ropeLane hn P C S e = ropeLane hn P' C' S' e := by
  rw [funext hP, funext hC, funext hS]

/-- The mean of a row of 1024 numbers. -/
def rowMean (y : Fin 1024 → EReal) : EReal := Ideal.div (∑ e, y e) (Ideal.ofBits FTy.f32 1149239296#32)

/-- Layer normalisation of a row, with gain `g` and offset `b`. -/
def lnRow (y g b : Fin 1024 → EReal) (e : Fin 1024) : EReal :=
  (y e - rowMean y) * Ideal.rsqrt (rowMean (fun e => (y e - rowMean y) * (y e - rowMean y)) + Ideal.ofBits FTy.f32 925353388#32) * g e + b e

/-- A normalised row depends on its row, its gain and its offset only. -/
theorem lnRow_congr {y y' g g' b b' : Fin 1024 → EReal} (hy : ∀ e, y e = y' e) (hg : ∀ e, g e = g' e) (hb : ∀ e, b e = b' e) (e : Fin 1024) :
    lnRow y g b e = lnRow y' g' b' e := by
  rw [funext hy, funext hg, funext hb]

/-- Row `t` of the 256 rows that the queries of `s`'s block see of an array of 4096 rows: they begin 128 before the block, and before the
    start of the array they are zero. -/
def seenRow (K : Fin 4096 → Fin 256 → EReal) (s : Fin 4096) (t d : Fin 256) : EReal :=
  if h : 128 ≤ s.val / 128 * 128 + t.val then K ⟨s.val / 128 * 128 + t.val - 128, by omega⟩ d else 0

/-- The attention's output at position `s` and feature `e` (head `e / 64`, whose keys and values are those of group `e / 256`), from scaled
    queries, keys, values and the heads' sinks. -/
def attRow (Q : Fin 4096 → Fin 1024 → EReal) (K V : Fin 4096 → Fin 256 → EReal) (snk : Fin 16 → EReal) (s : Fin 4096) (e : Fin 1024) : EReal :=
  rowOut
    (fun t => if sees (s.val / 128) (s.val % 128) t.val then
      ∑ x : Fin 64, Q s ⟨e.val / 64 * 64 + x.val, by omega⟩ * seenRow K s t ⟨e.val / 256 * 64 + x.val, by omega⟩ else noScore)
    (snk ⟨e.val / 64, by omega⟩)
    (fun t => seenRow V s t ⟨e.val / 256 * 64 + e.val % 64, by omega⟩)

/-- The layer's result at position `s` and feature `e`: the attention's output projected, added to the scaled input, normalised. -/
def layerRow (X Q : Fin 4096 → Fin 1024 → EReal) (K V : Fin 4096 → Fin 256 → EReal) (snk : Fin 16 → EReal) (Wo : Fin 1024 → Fin 1024 → EReal)
    (g b : Fin 1024 → EReal) (s : Fin 4096) (e : Fin 1024) : EReal :=
  lnRow (fun e => Ideal.ofBits FTy.f32 1068827891#32 * X s e + ∑ k : Fin 1024, attRow Q K V snk s k * Wo k e) g b e

/-- The layer's result depends on its operands' values only. -/
theorem layerRow_congr {X X' Q Q' : Fin 4096 → Fin 1024 → EReal} {K K' V V' : Fin 4096 → Fin 256 → EReal} {snk snk' : Fin 16 → EReal}
    {Wo Wo' : Fin 1024 → Fin 1024 → EReal} {g g' b b' : Fin 1024 → EReal} (hX : ∀ s e, X s e = X' s e) (hQ : ∀ s e, Q s e = Q' s e)
    (hK : ∀ s d, K s d = K' s d) (hV : ∀ s d, V s d = V' s d) (hs : ∀ h, snk h = snk' h) (hW : ∀ k e, Wo k e = Wo' k e)
    (hg : ∀ e, g e = g' e) (hb : ∀ e, b e = b' e) (s : Fin 4096) (e : Fin 1024) :
    layerRow X Q K V snk Wo g b s e = layerRow X' Q' K' V' snk' Wo' g' b' s e := by
  rw [funext fun s => funext (hX s), funext fun s => funext (hQ s), funext fun s => funext (hK s), funext fun s => funext (hV s), funext hs,
    funext fun k => funext (hW k), funext hg, funext hb]

end Cert.Spec

end
-- ==== Proof.Head.lean ====
/- One head of the attention body as a function of the arrays it reads: the masked scores of a block of 128 queries against its
   window of 256 keys, the softmax whose denominator counts the sink, and the weighted sum of the window's values. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import proofs.«01_k».proof.Proof.Spec

@[expose] public section

set_option maxRecDepth 16384

noncomputable section

namespace Cert.KernelIdeal.Hand

open Cert.KernelIdeal.Gen
open Idealize.ShloMosaic Idealize.ShloMosaic.TcCoe Idealize.ShloMosaic.Tactic

section Generic
variable {F : FTy → Type} [FloatOps F]

/-- One head's masked scores. -/
def headScores (valid : IVec S128x256 1) (q : FVec F S128x64 .bf16) (k : Vec F S256x64 .bf16) : FVec F S128x256 .f32 :=
  select valid (matmul dot_S128x64_S256x64_S128x256_1_1_0_0_n_n none q k (constant S128x256 .f32 0x00000000#32))
    (broadcast S128x256 (Scalar.ofBits .f32 0xF149F2CA#32))

/-- The stabiliser of each row: the largest score or the sink. -/
def headMax (sc : FVec F S128x256 .f32) (snk : Elt F .f32) : FVec F S128x1 .f32 :=
  maximumf (shapeCast S128x1 (multiReduction .maximumf [1] S128 sc 0xFF800000#32 reduces_S128x256_S128 (.inl rfl) rfl) shapeCasts_S128_S128x1)
    (broadcast S128x1 snk)

/-- The exponentials of the scores less the stabiliser. -/
def headExp (sc : FVec F S128x256 .f32) (snk : Elt F .f32) : FVec F S128x256 .f32 :=
  exp (subf sc (broadcastTo S128x256 (headMax sc snk) broadcasts_S128x1_S128x256))

/-- One head's block of outputs. -/
def head (valid : IVec S128x256 1) (q : FVec F S128x64 .bf16) (k v : Vec F S256x64 .bf16) (snk : Elt F .f32) : FVec F S128x64 .f32 :=
  shapeCast S128x64 (matmul dot_S128x256_S256x64_S128x64_1_0_0_1_n_n none
    (truncf .bf16 (divf (headExp (headScores valid q k) snk)
      (broadcastTo S128x256
        (addf (shapeCast S128x1 (multiReduction .add [1] S128 (headExp (headScores valid q k) snk) 0x00000000#32 reduces_S128x256_S128 (.inl rfl) rfl)
            shapeCasts_S128_S128x1)
          (exp (subf (broadcast S128x1 snk) (headMax (headScores valid q k) snk))))
        broadcasts_S128x1_S128x256)) bitsLt_bf16_f32)
    v (constant S128x64 .f32 0x00000000#32)) shapeCasts_S128x64_S128x64

end Generic

/-- A head's block at an index: a softmax row with a sink over the masked scores, applied to a column of the window's values. -/
theorem head_apply (valid : IVec S128x256 1) (q : FVec Ideal S128x64 .bf16) (k v : Vec Ideal S256x64 .bf16) (snk : Elt Ideal .f32) (r : Fin 128) (d : Fin 64) :
    head valid q k v snk (ix2 r d)
      = Spec.rowOut (fun t => Scalar.select (valid (ix2 r t)) (∑ e : Fin 64, q (ix2 r e) * k (ix2 t e)) Spec.noScore) snk (fun t => v (ix2 t d)) := by
  pointwise [head, headExp, headMax, headScores]
  rfl

/-- The block of outputs of all the heads, at row `r` and column `e`: row `r` lies in block `r / 128` of 128 queries, column `e`
    in head `e / 64`, whose keys and values are those of group `e / 256`. -/
def obVal (q : Vec Ideal S256x1024 .bf16) (kc vc : Vec Ideal S384x256 .bf16) (V0 V1 : IVec S128x256 1) (snk : Vec Ideal S16 .f32)
    (r : Fin 256) (e : Fin 1024) : EReal :=
  Spec.rowOut
    (fun t => Scalar.select ((if r.val / 128 = 0 then V0 else V1) (ix2 ⟨r.val % 128, by omega⟩ t))
      (∑ x : Fin 64, q (ix2 r ⟨e.val / 64 * 64 + x.val, by omega⟩)
        * kc (ix2 ⟨r.val / 128 * 128 + t.val, by omega⟩ ⟨e.val / 256 * 64 + x.val, by omega⟩)) Spec.noScore)
    (snk (ix1 ⟨e.val / 64, by omega⟩))
    (fun t => vc (ix2 ⟨r.val / 128 * 128 + t.val, by omega⟩ ⟨e.val / 256 * 64 + e.val % 64, by omega⟩))

/-- One stored piece, of block `b` and head `h`, is that part of `obVal`. -/
theorem piece_ok {sg : RefSig} {κ κ' κ'' : Kind} {sp sp' sp'' : Space} (q : FVec Ideal S256x1024 .bf16)
    (mk : View sg κ sp S384x256 .bf16) (LK : List (View.Piece (Elt Ideal) S384x256 .bf16))
    (mv : View sg κ' sp' S384x256 .bf16) (LV : List (View.Piece (Elt Ideal) S384x256 .bf16))
    (ms : Memref sg κ'' sp'' S16 .f32) (hms : ms.IsWhole) (X : Vec Ideal S16 .f32)
    (V0 V1 : IVec S128x256 1) (b h : ℕ) (hb : b < 2) (hh : h < 16)
    (r0 c0 g0 : ℕ) (hr : r0 = 128 * b) (hc : c0 = 64 * h) (hg : g0 = 64 * (h / 4))
    (hs : S256x1024.Slices ![r0, c0] S128x64) (inb) (inbk) (inbs) (hf)
    (x : S128x64.Idx) :
    head (if b = 0 then V0 else V1) (extractStridedSlice S128x64 ![r0, c0] q hs)
      (mk.readCov LK (Rect.unit (s := S384x256) ![r0, g0] S256x64.size inbk).toLoadRect)
      (mv.readCov LV (Rect.unit (s := S384x256) ![r0, g0] S256x64.size inbk).toLoadRect)
      (View.readAt (Elt Ideal) ms.view (Rect.unit (s := S16) ![h] S1.size inbs).toLoadRect (hms.unread X) (Shape.Idx.first hf)) x
    = (fun y : S256x1024.Idx => obVal q (View.canon LK) (View.canon LV) V0 V1 X (y 0) (y 1))
        ((Rect.unit (s := S256x1024) ![r0, c0] S128x64.size inb).emb x) := by
  subst hr hc hg
  obtain ⟨r, d, rfl⟩ : ∃ r d, x = ix2 r d := ⟨x 0, x 1, by funext a; fin_cases a <;> rfl⟩
  rw [head_apply]
  have hB : 128 * b + r.val < 256 := by omega
  have hE : 64 * h + d.val < 1024 := by omega
  have e0 : (Rect.unit (s := S256x1024) ![128 * b, 64 * h] S128x64.size inb).emb (ix2 r d) = ix2 ⟨128 * b + r.val, hB⟩ ⟨64 * h + d.val, hE⟩ := by
    funext a; refine Fin.ext ?_
    fin_cases a <;> exact Rect.idx_unit_val _ _ _ _ _
  have ek : ∀ (t : Fin 256) (x : Fin 64), (Rect.unit (s := S384x256) ![128 * b, 64 * (h / 4)] S256x64.size inbk).idx (ix2 t x)
      = ix2 ⟨128 * b + t.val, by omega⟩ ⟨64 * (h / 4) + x.val, by omega⟩ := by
    intro t x
    funext a; refine Fin.ext ?_
    fin_cases a <;> exact Rect.idx_unit_val _ _ _ _ _
  have eq : ∀ x : Fin 64, extractStridedSlice S128x64 ![128 * b, 64 * h] q hs (ix2 r x) = q (ix2 ⟨128 * b + r.val, hB⟩ ⟨64 * h + x.val, by omega⟩) := by
    intro x
    refine congrArg q (funext fun a => Fin.ext ?_)
    fin_cases a <;> rfl
  have es : View.readAt (Elt Ideal) ms.view (Rect.unit (s := S16) ![h] S1.size inbs).toLoadRect (hms.unread X) (Shape.Idx.first hf) = X (ix1 ⟨h, by omega⟩) := by
    rw [View.readAt_eq_ld, hms.read_unread]
    refine View.ld_unit_apply_of X _ _ _ _ _ fun a => ?_
    fin_cases a; rfl
  rw [e0]
  have ek' : ∀ (t : Fin 256) (x : Fin 64), mk.readCov LK (Rect.unit (s := S384x256) ![128 * b, 64 * (h / 4)] S256x64.size inbk).toLoadRect (ix2 t x)
      = View.canon LK (ix2 ⟨128 * b + t.val, by omega⟩ ⟨64 * (h / 4) + x.val, by omega⟩) := fun t x => by
    rw [View.readCov_eq_canon']; exact congrArg (View.canon LK) (ek t x)
  have ev' : ∀ (t : Fin 256) (x : Fin 64), mv.readCov LV (Rect.unit (s := S384x256) ![128 * b, 64 * (h / 4)] S256x64.size inbk).toLoadRect (ix2 t x)
      = View.canon LV (ix2 ⟨128 * b + t.val, by omega⟩ ⟨64 * (h / 4) + x.val, by omega⟩) := fun t x => by
    rw [View.readCov_eq_canon']; exact congrArg (View.canon LV) (ek t x)
  refine (Spec.rowOut_congr (fun t => congrArg (fun z => Scalar.select ((if b = 0 then V0 else V1) (ix2 r t)) z Spec.noScore)
    (Finset.sum_congr rfl fun x _ => congrArg₂ (· * ·) (eq x) (ek' t x))) es (fun t => ev' t d)).trans ?_
  show _ = obVal _ _ _ _ _ _ ⟨128 * b + r.val, hB⟩ ⟨64 * h + d.val, hE⟩
  unfold obVal
  have h1 : (b * 128 + r.val) / 128 = b := by omega
  have h2 : (b * 128 + r.val) % 128 = r.val := by omega
  have h3 : (h * 64 + d.val) / 64 = h := by omega
  have h4 : (h * 64 + d.val) / 256 = h / 4 := by omega
  have h5 : (h * 64 + d.val) % 64 = d.val := by omega
  simp only [h1, h2, h3, h4, h5, Nat.mul_comm 128 b, Nat.mul_comm 64 h, Nat.mul_comm 64 (h / 4), Fin.eta]

end Cert.KernelIdeal.Hand

end
-- ==== Proof.Pieces.lean ====
/- The scratch block of head outputs: its thirty-two stored pieces are the blocks of one function, `obVal`. -/
module

public import proofs.«01_k».proof.Proof.Head

@[expose] public section

set_option maxRecDepth 200000

noncomputable section

namespace Cert.KernelIdeal.Hand

open Cert.KernelIdeal.Gen
open Idealize.ShloMosaic Idealize.ShloMosaic.TcCoe Idealize.ShloMosaic.Tactic

section
variable (c : Dev nD) (i : grid1.Coords)
  (arg2 : Memref sig .tc .vmem S1x256x1024 .f32) (harg2 : arg2.IsWhole)
  (arg3 : Memref sig .tc .vmem S1024x1024 .bf16) (harg3 : arg3.IsWhole)
  (arg4 : Memref sig .tc .vmem S1x256x128 .f32) (harg4 : arg4.IsWhole)
  (arg5 : Memref sig .tc .vmem S1x256x128 .f32) (harg5 : arg5.IsWhole)
  (arg6 : Memref sig .tc .vmem S1x128x256 .bf16) (harg6 : arg6.IsWhole)
  (arg7 : Memref sig .tc .vmem S1x256x256 .bf16) (harg7 : arg7.IsWhole)
  (arg8 : Memref sig .tc .vmem S1x128x256 .bf16) (harg8 : arg8.IsWhole)
  (arg9 : Memref sig .tc .vmem S1x256x256 .bf16) (harg9 : arg9.IsWhole)
  (arg13 : Memref sig .tc .smem S16 .f32) (harg13 : arg13.IsWhole)
  (arg15 arg16 : Memref sig .tc .vmem S384x256 .bf16)
  (x0 : Vec Ideal S1x256x1024 .f32) (x1 : Vec Ideal S1024x1024 .bf16) (x2 x3 : Vec Ideal S1x256x128 .f32)
  (x4 : Vec Ideal S1x128x256 .bf16) (x5 : Vec Ideal S1x256x256 .bf16) (x6 : Vec Ideal S1x128x256 .bf16) (x7 : Vec Ideal S1x256x256 .bf16)
  (x11 : Vec Ideal S16 .f32)

/-- The scaled, rotated queries of a block. -/
abbrev qBlock : FVec Ideal S256x1024 .bf16 := kernelRun1_A.sl.r_14 c arg2 harg2 arg3 harg3 arg4 harg4 arg5 harg5 x0 x1 x2 x3
/-- The keys of a block and of the 128 rows before it. -/
abbrev kWin : Vec Ideal S384x256 .bf16 := View.canon (kernelRun1_A.sl.HS0_2 c i arg6 harg6 arg7 harg7 x4 x5)
/-- The values of a block and of the 128 rows before it. -/
abbrev vWin : Vec Ideal S384x256 .bf16 := View.canon (kernelRun1_A.sl.HS1_2 c i arg8 harg8 arg9 harg9 x6 x7)

set_option maxHeartbeats 4000000 in
/-- Every stored piece is a block of `obVal`. -/
theorem pieces : View.PiecesOf
    (fun y : S256x1024.Idx => obVal (qBlock c arg2 harg2 arg3 harg3 arg4 harg4 arg5 harg5 x0 x1 x2 x3) (kWin c i arg6 harg6 arg7 harg7 x4 x5)
      (vWin c i arg8 harg8 arg9 harg9 x6 x7) (kernelRun1_A.sl.r_17 i) k1_pay24 x11 (y 0) (y 1))
    (kernelRun1_A.sl.HS2_32 c i arg2 harg2 arg3 harg3 arg4 harg4 arg5 harg5 arg6 harg6 arg7 harg7 arg8 harg8 arg9 harg9 arg13 harg13 arg15 arg16 x0 x1 x2 x3 x4 x5 x6 x7 x11) := by
  unfold kernelRun1_A.sl.HS2_32
  have P := fun (b h : ℕ) (hb : b < 2) (hh : h < 16) r0 c0 g0 hr hc hg hs inb inbk inbs hf =>
    piece_ok (qBlock c arg2 harg2 arg3 harg3 arg4 harg4 arg5 harg5 x0 x1 x2 x3) arg15.view (kernelRun1_A.sl.HS0_2 c i arg6 harg6 arg7 harg7 x4 x5)
      arg16.view (kernelRun1_A.sl.HS1_2 c i arg8 harg8 arg9 harg9 x6 x7) arg13 harg13 x11 (kernelRun1_A.sl.r_17 i) k1_pay24 b h hb hh r0 c0 g0 hr hc hg hs inb inbk inbs hf
  exact ⟨P 1 15 (by decide) (by decide) 128 960 192 rfl rfl rfl (by decide) (by decide) (by decide) (by decide) (by decide), P 1 14 (by decide) (by decide) 128 896 192 rfl rfl rfl (by decide) (by decide) (by decide) (by decide) (by decide), P 1 13 (by decide) (by decide) 128 832 192 rfl rfl rfl (by decide) (by decide) (by decide) (by decide) (by decide), P 1 12 (by decide) (by decide) 128 768 192 rfl rfl rfl (by decide) (by decide) (by decide) (by decide) (by decide), P 1 11 (by decide) (by decide) 128 704 128 rfl rfl rfl (by decide) (by decide) (by decide) (by decide) (by decide), P 1 10 (by decide) (by decide) 128 640 128 rfl rfl rfl (by decide) (by decide) (by decide) (by decide) (by decide), P 1 9 (by decide) (by decide) 128 576 128 rfl rfl rfl (by decide) (by decide) (by decide) (by decide) (by decide), P 1 8 (by decide) (by decide) 128 512 128 rfl rfl rfl (by decide) (by decide) (by decide) (by decide) (by decide), P 1 7 (by decide) (by decide) 128 448 64 rfl rfl rfl (by decide) (by decide) (by decide) (by decide) (by decide), P 1 6 (by decide) (by decide) 128 384 64 rfl rfl rfl (by decide) (by decide) (by decide) (by decide) (by decide), P 1 5 (by decide) (by decide) 128 320 64 rfl rfl rfl (by decide) (by decide) (by decide) (by decide) (by decide), P 1 4 (by decide) (by decide) 128 256 64 rfl rfl rfl (by decide) (by decide) (by decide) (by decide) (by decide), P 1 3 (by decide) (by decide) 128 192 0 rfl rfl rfl (by decide) (by decide) (by decide) (by decide) (by decide), P 1 2 (by decide) (by decide) 128 128 0 rfl rfl rfl (by decide) (by decide) (by decide) (by decide) (by decide), P 1 1 (by decide) (by decide) 128 64 0 rfl rfl rfl (by decide) (by decide) (by decide) (by decide) (by decide), P 1 0 (by decide) (by decide) 128 0 0 rfl rfl rfl (by decide) (by decide) (by decide) (by decide) (by decide),
    P 0 15 (by decide) (by decide) 0 960 192 rfl rfl rfl (by decide) (by decide) (by decide) (by decide) (by decide), P 0 14 (by decide) (by decide) 0 896 192 rfl rfl rfl (by decide) (by decide) (by decide) (by decide) (by decide), P 0 13 (by decide) (by decide) 0 832 192 rfl rfl rfl (by decide) (by decide) (by decide) (by decide) (by decide), P 0 12 (by decide) (by decide) 0 768 192 rfl rfl rfl (by decide) (by decide) (by decide) (by decide) (by decide), P 0 11 (by decide) (by decide) 0 704 128 rfl rfl rfl (by decide) (by decide) (by decide) (by decide) (by decide), P 0 10 (by decide) (by decide) 0 640 128 rfl rfl rfl (by decide) (by decide) (by decide) (by decide) (by decide), P 0 9 (by decide) (by decide) 0 576 128 rfl rfl rfl (by decide) (by decide) (by decide) (by decide) (by decide), P 0 8 (by decide) (by decide) 0 512 128 rfl rfl rfl (by decide) (by decide) (by decide) (by decide) (by decide), P 0 7 (by decide) (by decide) 0 448 64 rfl rfl rfl (by decide) (by decide) (by decide) (by decide) (by decide), P 0 6 (by decide) (by decide) 0 384 64 rfl rfl rfl (by decide) (by decide) (by decide) (by decide) (by decide), P 0 5 (by decide) (by decide) 0 320 64 rfl rfl rfl (by decide) (by decide) (by decide) (by decide) (by decide), P 0 4 (by decide) (by decide) 0 256 64 rfl rfl rfl (by decide) (by decide) (by decide) (by decide) (by decide), P 0 3 (by decide) (by decide) 0 192 0 rfl rfl rfl (by decide) (by decide) (by decide) (by decide) (by decide), P 0 2 (by decide) (by decide) 0 128 0 rfl rfl rfl (by decide) (by decide) (by decide) (by decide) (by decide), P 0 1 (by decide) (by decide) 0 64 0 rfl rfl rfl (by decide) (by decide) (by decide) (by decide) (by decide), P 0 0 (by decide) (by decide) 0 0 0 rfl rfl rfl (by decide) (by decide) (by decide) (by decide) (by decide), trivial⟩
end

end Cert.KernelIdeal.Hand

end
-- ==== Proof.Block.lean ====
/- What one grid point of the attention kernel computes, read at an index of its operands' blocks. -/
module

public import proofs.«01_k».proof.Proof.Pieces
public import Idealize.ShloMosaic.Lib.WholeRead
public import Idealize.ShloMosaic.Lib.KernelVsHost

@[expose] public section

set_option maxRecDepth 16384

noncomputable section

namespace Cert.KernelIdeal.Hand

open Cert.KernelIdeal.Gen
open Idealize.ShloMosaic Idealize.ShloMosaic.TcCoe Idealize.ShloMosaic.Tactic

/-- A load of a whole buffer held at the contents that read `X` reads `X`. -/
theorem load_whole {sg : RefSig} {κ : Kind} {sp : Space} {s : Shape} {e : EltTy} (m : Memref sg κ sp s e) (h : m.IsWhole) (X : Vec Ideal s e)
    {off : Fin s.rank → ℕ} (inb : ∀ a, off a + s.size a ≤ s.size a) (h0 : ∀ a, off a = 0) :
    View.readAt (Elt Ideal) m.view (Rect.unit (s := s) off s.size inb).toLoadRect (h.unread X) = X := by
  rw [View.readAt_eq_ld, h.read_unread]
  exact View.ld_unit_lit inb X h0

/-- The rotation of one block of `R` rows of 128 lanes. -/
def ropeBlk {R : ℕ} (hb : Shape.Broadcasts S1x128 ⟨2, ![R, 128]⟩) (hr : Shape.Rotates ⟨2, ![R, 128]⟩ 1 none) (C S : FVec Ideal ⟨2, ![R, 128]⟩ .f32)
    (lo : IVec S1x128 1) (x : FVec Ideal ⟨2, ![R, 128]⟩ .f32) : FVec Ideal ⟨2, ![R, 128]⟩ .f32 :=
  addf (mulf x C) (mulf (select (broadcastTo ⟨2, ![R, 128]⟩ (shapeCast S1x128 lo shapeCasts_S1x128_S1x128) hb)
    (dynamicRotate 1 120#32 none x hr) (dynamicRotate 1 8#32 none x hr)) S)

/-- The lanes of the first half of a head's rotated part. -/
theorem lo_apply : ∀ l : Fin 128, k1_pay6 (ix2 (0 : Fin 1) l) = if l.val % 64 < 8 then 1#1 else 0#1 := by
  decide +kernel

theorem rotate_apply {R : ℕ} (hr : Shape.Rotates ⟨2, ![R, 128]⟩ 1 none) (x : FVec Ideal ⟨2, ![R, 128]⟩ .f32) (w : BitVec 32) (r : Fin R) (l : Fin 128) :
    dynamicRotate 1 w none x hr (ix2 r l) = x (ix2 r ⟨(l.val + 128 - w.toNat % 128) % 128, Nat.mod_lt _ (by decide)⟩) := by
  refine Idealize.ShloMosaic.dynamicRotate_apply _ _ _ _ _ _ fun b => ?_
  fin_cases b
  · rfl
  · rfl

theorem ropeBlk_apply {R : ℕ} (hb : Shape.Broadcasts S1x128 ⟨2, ![R, 128]⟩) (hr : Shape.Rotates ⟨2, ![R, 128]⟩ 1 none) (C S : FVec Ideal ⟨2, ![R, 128]⟩ .f32)
    (x : FVec Ideal ⟨2, ![R, 128]⟩ .f32) (r : Fin R) (l : Fin 128) :
    ropeBlk hb hr C S k1_pay6 x (ix2 r l) = x (ix2 r l) * C (ix2 r l)
      + (if l.val % 64 < 8 then x (ix2 r ⟨(l.val + 8) % 128, by omega⟩) else x (ix2 r ⟨(l.val + 120) % 128, by omega⟩)) * S (ix2 r l) := by
  have hlo : broadcastTo ⟨2, ![R, 128]⟩ (shapeCast S1x128 k1_pay6 shapeCasts_S1x128_S1x128) hb (ix2 r l) = if l.val % 64 < 8 then 1#1 else 0#1 := by
    pointwise
    exact lo_apply l
  show x (ix2 r l) * C (ix2 r l) + Scalar.select (broadcastTo ⟨2, ![R, 128]⟩ (shapeCast S1x128 k1_pay6 shapeCasts_S1x128_S1x128) hb (ix2 r l))
    (dynamicRotate 1 120#32 none x hr (ix2 r l)) (dynamicRotate 1 8#32 none x hr (ix2 r l)) * S (ix2 r l) = _
  rw [hlo, rotate_apply hr x, rotate_apply hr x]
  by_cases h : l.val % 64 < 8
  · simp only [h, if_true]; rfl
  · simp only [h, if_false]; rfl

/-- One rotated row block of 128 lanes, inside a row of `n` lanes. -/
theorem ropeBlk_slice {R n : ℕ} (hn : n % 128 = 0) (hb : Shape.Broadcasts S1x128 ⟨2, ![R, 128]⟩) (hr : Shape.Rotates ⟨2, ![R, 128]⟩ 1 none)
    (C S : FVec Ideal ⟨2, ![R, 128]⟩ .f32) (P : FVec Ideal ⟨2, ![R, n]⟩ .f32) (k : ℕ)
    (hs : Shape.Slices ⟨2, ![R, n]⟩ ![0, 128 * k] ⟨2, ![R, 128]⟩) (r : Fin R) (e : Fin n) (hk : e.val / 128 = k) :
    ropeBlk hb hr C S k1_pay6 (extractStridedSlice ⟨2, ![R, 128]⟩ ![0, 128 * k] P hs) (ix2 r ⟨e.val % 128, by omega⟩)
      = Spec.ropeLane hn (fun e => P (ix2 r e)) (fun l => C (ix2 r l)) (fun l => S (ix2 r l)) e := by
  have he := e.isLt
  have key : ∀ (l : Fin 128) (h : 128 * k + l.val < n), extractStridedSlice ⟨2, ![R, 128]⟩ ![0, 128 * k] P hs (ix2 r l) = P (ix2 r ⟨128 * k + l.val, h⟩) := by
    intro l h
    refine congrArg P (funext fun a => Fin.ext ?_)
    fin_cases a
    · exact Nat.zero_add _
    · rfl
  rw [ropeBlk_apply, key _ (by show 128 * k + e.val % 128 < n; omega), Spec.ropeLane]
  refine congrArg₂ (· + ·) (congrArg₂ (· * ·) (congrArg P (congrArg (ix2 r) (Fin.ext (by show 128 * k + e.val % 128 = e.val; omega)))) rfl)
    (congrArg₂ (· * ·) ?_ rfl)
  unfold Spec.partner
  by_cases h : e.val % 64 < 8
  · rw [if_pos (show e.val % 128 % 64 < 8 by omega), dif_pos h, key _ (by show 128 * k + (e.val % 128 + 8) % 128 < n; omega)]
    exact congrArg P (congrArg (ix2 r) (Fin.ext (by show 128 * k + (e.val % 128 + 8) % 128 = e.val + 8; omega)))
  · rw [if_neg (show ¬ e.val % 128 % 64 < 8 by omega), dif_neg h, key _ (by show 128 * k + (e.val % 128 + 120) % 128 < n; omega)]
    exact congrArg P (congrArg (ix2 r) (Fin.ext (by show 128 * k + (e.val % 128 + 120) % 128 = e.val / 128 * 128 + (e.val % 128 + 120) % 128; omega)))

/-- The query projection of a block, at an index. -/
theorem proj_apply (x0 : Vec Ideal S1x256x1024 .f32) (x1 : Vec Ideal S1024x1024 .bf16) (r : Fin 256) (e : Fin 1024) :
    k1_pay3 x0 x1 (ix2 r e) = ∑ k : Fin 1024, x0 (ix3 0 r k) * x1 (ix2 k e) := by
  pointwise [k1_pay3, k1_pay2]

theorem slices8 (n : Fin 8) : S256x1024.Slices ![0, 128 * n.val] S256x128 := by
  revert n; decide

section
variable (c : Dev nD) (i : grid1.Coords)
  (arg2 : Memref sig .tc .vmem S1x256x1024 .f32) (harg2 : arg2.IsWhole)
  (arg3 : Memref sig .tc .vmem S1024x1024 .bf16) (harg3 : arg3.IsWhole)
  (arg4 : Memref sig .tc .vmem S1x256x128 .f32) (harg4 : arg4.IsWhole)
  (arg5 : Memref sig .tc .vmem S1x256x128 .f32) (harg5 : arg5.IsWhole)
  (arg6 : Memref sig .tc .vmem S1x128x256 .bf16) (harg6 : arg6.IsWhole)
  (arg7 : Memref sig .tc .vmem S1x256x256 .bf16) (harg7 : arg7.IsWhole)
  (arg8 : Memref sig .tc .vmem S1x128x256 .bf16) (harg8 : arg8.IsWhole)
  (arg9 : Memref sig .tc .vmem S1x256x256 .bf16) (harg9 : arg9.IsWhole)
  (arg13 : Memref sig .tc .smem S16 .f32) (harg13 : arg13.IsWhole)
  (arg15 arg16 : Memref sig .tc .vmem S384x256 .bf16) (arg17 : Memref sig .tc .vmem S256x1024 .f32)
  (x0 : Vec Ideal S1x256x1024 .f32) (x1 : Vec Ideal S1024x1024 .bf16) (x2 x3 : Vec Ideal S1x256x128 .f32)
  (x4 : Vec Ideal S1x128x256 .bf16) (x5 : Vec Ideal S1x256x256 .bf16) (x6 : Vec Ideal S1x128x256 .bf16) (x7 : Vec Ideal S1x256x256 .bf16)
  (x11 : Vec Ideal S16 .f32)

/-- The scaled, rotated queries of a block, at an index. -/
theorem qBlock_apply (r : Fin 256) (e : Fin 1024) : qBlock c arg2 harg2 arg3 harg3 arg4 harg4 arg5 harg5 x0 x1 x2 x3 (ix2 r e)
    = Spec.ropeLane (n := 1024) (by decide) (fun e => ∑ k : Fin 1024, x0 (ix3 0 r k) * x1 (ix2 k e)) (fun l => x2 (ix3 0 r l)) (fun l => x3 (ix3 0 r l)) e
      * Ideal.ofBits FTy.f32 1040187392#32 := by
  have e0 := load_whole arg2 harg2 x0 inb_S1x256x1024_S1x256x1024_0_0_0 (by decide)
  have e1 := load_whole arg3 harg3 x1 inb_S1024x1024_S1024x1024_0_0 (by decide)
  have e2 := load_whole arg4 harg4 x2 inb_S1x256x128_S1x256x128_0_0_0 (by decide)
  have e3 := load_whole arg5 harg5 x3 inb_S1x256x128_S1x256x128_0_0_0 (by decide)
  unfold qBlock kernelRun1_A.sl.r_14 kernelRun1_A.sl.r_13 kernelRun1_A.sl.r_12 kernelRun1_A.sl.r_11 kernelRun1_A.sl.r_10 kernelRun1_A.sl.r_9
    kernelRun1_A.sl.r_8 kernelRun1_A.sl.r_7 kernelRun1_A.sl.r_6 kernelRun1_A.sl.r_5 kernelRun1_A.sl.r_4 kernelRun1_A.sl.r_3 kernelRun1_A.sl.r_2 kernelRun1_A.sl.r_1
  rw [e0, e1, e2, e3]
  have h := concatenate_ofFn_apply (t := S256x1024) (s₁ := S256x128) 1 (fun n : Fin 8 => ropeBlk (R := 256) broadcasts_S1x128_S256x128 rotates_S256x128_d1 (k1_pay4 x2) (k1_pay5 x3) k1_pay6
        (extractStridedSlice S256x128 ![0, 128 * n.val] (k1_pay3 x0 x1) (slices8 n)))
        concatenates_S256x128_S256x128_S256x128_S256x128_S256x128_S256x128_S256x128_S256x128_S256x1024_d1 rfl 128 rfl (ix2 r e)
        ⟨e.val / 128, by omega⟩ rfl (ix2 r ⟨e.val % 128, by omega⟩) rfl (fun b hb => by fin_cases b; rfl; exact absurd rfl hb)
  refine congrArg₂ (· * ·) (h.trans ?_) rfl
  refine (ropeBlk_slice (R := 256) (n := 1024) (by decide) _ _ _ _ (k1_pay3 x0 x1) (e.val / 128) _ r e rfl).trans ?_
  have hp : (fun e => k1_pay3 x0 x1 (ix2 r e)) = fun e => ∑ k : Fin 1024, x0 (ix3 0 r k) * x1 (ix2 k e) := funext fun e => proj_apply x0 x1 r e
  have hc : (fun l => k1_pay4 x2 (ix2 r l)) = fun l => x2 (ix3 0 r l) := funext fun l => by pointwise [k1_pay4]
  have hs : (fun l => k1_pay5 x3 (ix2 r l)) = fun l => x3 (ix3 0 r l) := funext fun l => by pointwise [k1_pay5]
  rw [hp, hc, hs]
end

end Cert.KernelIdeal.Hand

end
-- ==== Proof.Window.lean ====
/- The keys and the values a block of queries sees: the scratch windows and the masks, read at an index. -/
module

public import proofs.«01_k».proof.Proof.Block
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic

/-- The window a query sees: the keys of the 128 positions up to its own, in a row of 256 keys that begins 128 before its block. -/
theorem band_apply (q : Fin 128) (t : Fin 256) : k1_pay24 (ix2 q t) = if q.val < t.val ∧ t.val ≤ q.val + 128 then 1#1 else 0#1 := by
  pointwise [k1_pay24]
  have e : IntOp.addi (BitVec.ofNat 32 q.val) 128#32 = BitVec.ofNat 32 (q.val + 128) := (BitVec.ofNat_add _ _).symm
  rw [e, WordCmp.cmpi_sgt_ofNat (by omega) (by omega), WordCmp.cmpi_sle_ofNat (by omega) (by omega)]
  by_cases a : q.val < t.val <;> by_cases b : t.val ≤ q.val + 128 <;> simp only [a, b] <;> rfl

/-- Whether a block is not the first of its row of blocks, as a word. -/
theorem later_word : ∀ n : Fin 16, Scalar.cmpi .sgt (BitVec.ofNat 32 n.val) 0#32 = if 0 < n.val then 1#1 else 0#1 := by decide

/-- In a row's first block the window does not reach before its start. -/
theorem first_apply (n : Fin 16) (q : Fin 128) (t : Fin 256) : k1_pay25 (BitVec.ofNat 32 n.val) (ix2 q t)
    = if (q.val < t.val ∧ t.val ≤ q.val + 128) ∧ (128 ≤ t.val ∨ 0 < n.val) then 1#1 else 0#1 := by
  have h1 : ∀ t : Fin 256, IntOp.cmpi .sge (BitVec.ofNat 32 t.val) 128#32 = if 128 ≤ t.val then 1#1 else 0#1 := by decide +kernel
  pointwise [k1_pay25]
  rw [band_apply, later_word, h1]
  by_cases a : q.val < t.val ∧ t.val ≤ q.val + 128 <;> by_cases b : 128 ≤ t.val <;> by_cases d : 0 < n.val <;> simp only [a, b, d] <;> rfl

section
variable (c : Dev nD) (i : grid1.Coords)
  (arg6 : Memref sig .tc .vmem S1x128x256 .bf16) (harg6 : arg6.IsWhole)
  (arg7 : Memref sig .tc .vmem S1x256x256 .bf16) (harg7 : arg7.IsWhole)
  (x4 : Vec Ideal S1x128x256 .bf16) (x5 : Vec Ideal S1x256x256 .bf16)

/-- A block's rows and the 128 before them: zero before the start of a row of blocks. -/
def winVal (n : Fin 16) (x4 : Vec Ideal S1x128x256 .bf16) (x5 : Vec Ideal S1x256x256 .bf16) (u : Fin 384) (d : Fin 256) : EReal :=
  if h : u.val < 128 then (if 0 < n.val then x4 (ix3 0 ⟨u.val, h⟩ d) else 0) else x5 (ix3 0 ⟨u.val - 128, by omega⟩ d)

theorem halo_apply (n : Fin 16) (x4 : Vec Ideal S1x128x256 .bf16) (u : Fin 128) (d : Fin 256) :
    k1_pay19 (BitVec.ofNat 32 n.val) x4 (ix2 u d) = if 0 < n.val then x4 (ix3 0 u d) else 0 := by
  pointwise [k1_pay19]
  rw [later_word]
  by_cases h : 0 < n.val
  · rw [if_pos h, if_pos h]; rfl
  · rw [if_neg h, if_neg h]; rfl

theorem main_apply (x5 : Vec Ideal S1x256x256 .bf16) (u d : Fin 256) : k1_pay20 x5 (ix2 u d) = x5 (ix3 0 u d) := by
  pointwise [k1_pay20]

/-- The scratch of keys (or values) at an index: its two stored pieces. -/
theorem win_apply (P : FVec Ideal S256x256 .bf16) (Q : FVec Ideal S128x256 .bf16) (inb) (inb') (n : Fin 16)
    (hP : ∀ u d, P (ix2 u d) = x5 (ix3 0 u d)) (hQ : ∀ u d, Q (ix2 u d) = if 0 < n.val then x4 (ix3 0 u d) else 0) (u : Fin 384) (d : Fin 256) :
    (View.canon (Val := Elt Ideal) (s := S384x256) (e := .bf16) [⟨Rect.unit (s := S384x256) ![128, 0] S256x256.size inb, P⟩, ⟨Rect.unit (s := S384x256) ![0, 0] S128x256.size inb', Q⟩] (ix2 u d) : EReal)
      = (winVal n x4 x5 u d : EReal) := by
  unfold winVal
  by_cases h : u.val < 128
  · rw [dif_pos h, View.canon_cons_of_not_mem]
    · have e : (Rect.unit (s := S384x256) ![0, 0] S128x256.size inb').emb (ix2 ⟨u.val, h⟩ d) = ix2 u d := by
        funext a; refine Fin.ext ?_
        fin_cases a
        · exact (Rect.idx_unit_val _ _ _ _ _).trans (Nat.zero_add _)
        · exact (Rect.idx_unit_val _ _ _ _ _).trans (Nat.zero_add _)
      rw [← e, View.canon_cons_emb]; exact hQ _ _
    · rw [Rect.mem_set_unit]; intro hm; exact absurd (hm 0).1 (by show ¬ 128 ≤ u.val; omega)
  · rw [dif_neg h]
    have e : (Rect.unit (s := S384x256) ![128, 0] S256x256.size inb).emb (ix2 ⟨u.val - 128, by omega⟩ d) = ix2 u d := by
      funext a; refine Fin.ext ?_
      fin_cases a
      · exact (Rect.idx_unit_val _ _ _ _ _).trans (by show 128 + (u.val - 128) = u.val; omega)
      · exact (Rect.idx_unit_val _ _ _ _ _).trans (Nat.zero_add _)
    rw [← e, View.canon_cons_emb]; exact hP _ _

theorem kWin_apply (u : Fin 384) (d : Fin 256) : kWin c i arg6 harg6 arg7 harg7 x4 x5 (ix2 u d) = winVal (i 1) x4 x5 u d := by
  unfold kWin kernelRun1_A.sl.HS0_2
  refine win_apply x4 x5 _ _ _ _ (i 1) ?_ ?_ u d
  · intro u d; rw [load_whole arg7 harg7 x5 _ (by decide)]; exact main_apply x5 u d
  · intro u d; rw [load_whole arg6 harg6 x4 _ (by decide)]; exact halo_apply (i 1) x4 u d

theorem vWin_apply (u : Fin 384) (d : Fin 256) : vWin c i arg6 harg6 arg7 harg7 x4 x5 (ix2 u d) = winVal (i 1) x4 x5 u d := by
  unfold vWin kernelRun1_A.sl.HS1_2 kernelRun1_A.sl.r_15
  refine win_apply x4 x5 _ _ _ _ (i 1) ?_ ?_ u d
  · intro u d; rw [load_whole arg7 harg7 x5 _ (by decide)]; exact main_apply x5 u d
  · intro u d; rw [load_whole arg6 harg6 x4 _ (by decide)]; exact halo_apply (i 1) x4 u d
end

end Cert.KernelIdeal.Hand

end
-- ==== Proof.Point.lean ====
/- The block of results that one grid point of the attention kernel leaves, as a function of its operands' blocks. -/
module

public import proofs.«01_k».proof.Proof.Window

@[expose] public section

set_option maxRecDepth 16384

noncomputable section

namespace Cert.KernelIdeal.Hand

open Cert.KernelIdeal.Gen
open Idealize.ShloMosaic Idealize.ShloMosaic.TcCoe Idealize.ShloMosaic.Tactic

/-- The scaled, rotated query of row `r` at feature `e`. -/
def qVal (x0 : Vec Ideal S1x256x1024 .f32) (x1 : Vec Ideal S1024x1024 .bf16) (x2 x3 : Vec Ideal S1x256x128 .f32) (r : Fin 256) (e : Fin 1024) : EReal :=
  Spec.ropeLane (n := 1024) (by decide) (fun e => ∑ k : Fin 1024, x0 (ix3 0 r k) * x1 (ix2 k e)) (fun l => x2 (ix3 0 r l)) (fun l => x3 (ix3 0 r l)) e
      * Ideal.ofBits FTy.f32 1040187392#32

/-- The attention's output of row `r` at feature `e`, from the blocks at grid column `n`. -/
def attVal (n : Fin 16) (x0 : Vec Ideal S1x256x1024 .f32) (x1 : Vec Ideal S1024x1024 .bf16) (x2 x3 : Vec Ideal S1x256x128 .f32)
    (x4 : Vec Ideal S1x128x256 .bf16) (x5 : Vec Ideal S1x256x256 .bf16) (x6 : Vec Ideal S1x128x256 .bf16) (x7 : Vec Ideal S1x256x256 .bf16)
    (x11 : Vec Ideal S16 .f32) (r : Fin 256) (e : Fin 1024) : EReal :=
  Spec.rowOut
    (fun t => if Spec.sees (2 * n.val + r.val / 128) (r.val % 128) t.val then
      ∑ x : Fin 64, qVal x0 x1 x2 x3 r ⟨e.val / 64 * 64 + x.val, by omega⟩
        * winVal n x4 x5 ⟨r.val / 128 * 128 + t.val, by omega⟩ ⟨e.val / 256 * 64 + x.val, by omega⟩ else Spec.noScore)
    (x11 (ix1 ⟨e.val / 64, by omega⟩))
    (fun t => winVal n x6 x7 ⟨r.val / 128 * 128 + t.val, by omega⟩ ⟨e.val / 256 * 64 + e.val % 64, by omega⟩)

section
variable (c : Dev nD) (i : grid1.Coords)
  (arg2 : Memref sig .tc .vmem S1x256x1024 .f32) (harg2 : arg2.IsWhole)
  (arg3 : Memref sig .tc .vmem S1024x1024 .bf16) (harg3 : arg3.IsWhole)
  (arg4 : Memref sig .tc .vmem S1x256x128 .f32) (harg4 : arg4.IsWhole)
  (arg5 : Memref sig .tc .vmem S1x256x128 .f32) (harg5 : arg5.IsWhole)
  (arg6 : Memref sig .tc .vmem S1x128x256 .bf16) (harg6 : arg6.IsWhole)
  (arg7 : Memref sig .tc .vmem S1x256x256 .bf16) (harg7 : arg7.IsWhole)
  (arg8 : Memref sig .tc .vmem S1x128x256 .bf16) (harg8 : arg8.IsWhole)
  (arg9 : Memref sig .tc .vmem S1x256x256 .bf16) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .smem S16 .f32) (harg13 : arg13.IsWhole)
  (arg14 : Memref sig .tc .vmem S1x256x1024 .f32) (harg14 : arg14.IsWhole)
  (arg15 : Memref sig .tc .vmem S384x256 .bf16) (harg15 : arg15.IsWhole)
  (arg16 : Memref sig .tc .vmem S384x256 .bf16) (harg16 : arg16.IsWhole)
  (arg17 : Memref sig .tc .vmem S256x1024 .f32) (harg17 : arg17.IsWhole)
  (x0 : Vec Ideal S1x256x1024 .f32) (x1 : Vec Ideal S1024x1024 .bf16) (x2 x3 : Vec Ideal S1x256x128 .f32)
  (x4 : Vec Ideal S1x128x256 .bf16) (x5 : Vec Ideal S1x256x256 .bf16) (x6 : Vec Ideal S1x128x256 .bf16) (x7 : Vec Ideal S1x256x256 .bf16)
  (x8 : Vec Ideal S1024x1024 .bf16) (x9 x10 : Vec Ideal S1x1024 .f32) (x11 : Vec Ideal S16 .f32)

/-- The scratch of head outputs, at an index. -/
theorem ob_apply (r : Fin 256) (e : Fin 1024) :
    (View.canon (kernelRun1_A.sl.HS2_32 c i arg2 harg2 arg3 harg3 arg4 harg4 arg5 harg5 arg6 harg6 arg7 harg7 arg8 harg8 arg9 harg9 arg13 harg13 arg15 arg16 x0 x1 x2 x3 x4 x5 x6 x7 x11) (ix2 r e) : EReal)
      = attVal (i 1) x0 x1 x2 x3 x4 x5 x6 x7 x11 r e := by
  have hcov : ∃ p ∈ kernelRun1_A.sl.HS2_32 c i arg2 harg2 arg3 harg3 arg4 harg4 arg5 harg5 arg6 harg6 arg7 harg7 arg8 harg8 arg9 harg9 arg13 harg13 arg15 arg16 x0 x1 x2 x3 x4 x5 x6 x7 x11, (ix2 r e : S256x1024.Idx) ∈ p.1.set :=
    View.cover_of_tiledL (s := S256x1024) (kernelRun1_A.sl.HS2_32 c i arg2 harg2 arg3 harg3 arg4 harg4 arg5 harg5 arg6 harg6 arg7 harg7 arg8 harg8 arg9 harg9 arg13 harg13 arg15 arg16 x0 x1 x2 x3 x4 x5 x6 x7 x11) S128x64.size (by sl_kernel_rfl) (ix2 r e)
  refine (View.canon_apply_of_pieces _ _ (View.PiecesOf.mem (pieces c i arg2 harg2 arg3 harg3 arg4 harg4 arg5 harg5 arg6 harg6 arg7 harg7 arg8 harg8 arg9 harg9 arg13 harg13 arg15 arg16 x0 x1 x2 x3 x4 x5 x6 x7 x11)) _ hcov).trans ?_
  show obVal _ _ _ _ _ _ r e = _
  unfold obVal attVal
  refine Spec.rowOut_congr (fun t => ?_) rfl (fun t => ?_)
  · rw [show (∑ x : Fin 64, qBlock c arg2 harg2 arg3 harg3 arg4 harg4 arg5 harg5 x0 x1 x2 x3 (ix2 r ⟨e.val / 64 * 64 + x.val, by omega⟩)
        * kWin c i arg6 harg6 arg7 harg7 x4 x5 (ix2 ⟨r.val / 128 * 128 + t.val, by omega⟩ ⟨e.val / 256 * 64 + x.val, by omega⟩))
      = ∑ x : Fin 64, qVal x0 x1 x2 x3 r ⟨e.val / 64 * 64 + x.val, by omega⟩
        * winVal (i 1) x4 x5 ⟨r.val / 128 * 128 + t.val, by omega⟩ ⟨e.val / 256 * 64 + x.val, by omega⟩ from
      Finset.sum_congr rfl fun x _ => congrArg₂ (· * ·) (qBlock_apply c arg2 harg2 arg3 harg3 arg4 harg4 arg5 harg5 x0 x1 x2 x3 r _) (kWin_apply c i arg6 harg6 arg7 harg7 x4 x5 _ _)]
    generalize (∑ x : Fin 64, qVal x0 x1 x2 x3 r ⟨e.val / 64 * 64 + x.val, by omega⟩
        * winVal (i 1) x4 x5 ⟨r.val / 128 * 128 + t.val, by omega⟩ ⟨e.val / 256 * 64 + x.val, by omega⟩) = z
    have hsel : ∀ (p : Prop) [Decidable p], Scalar.select (if p then 1#1 else 0#1) z Spec.noScore = if p then z else Spec.noScore := by
      intro p _; by_cases hp : p
      · simp only [if_pos hp]; rfl
      · simp only [if_neg hp]; rfl
    by_cases h : r.val / 128 = 0
    · rw [if_pos h]
      unfold kernelRun1_A.sl.r_17
      rw [first_apply (i 1), hsel]
      refine if_congr ?_ rfl rfl
      unfold Spec.sees
      dsimp only
      omega
    · rw [if_neg h, band_apply, hsel]
      refine if_congr ?_ rfl rfl
      unfold Spec.sees
      dsimp only
      omega
  · exact vWin_apply c i arg8 harg8 arg9 harg9 x6 x7 _ _

/-- The residual row before normalisation. -/
def mixVal (n : Fin 16) (r : Fin 256) (e : Fin 1024) : EReal :=
  Ideal.ofBits FTy.f32 1068827891#32 * x0 (ix3 0 r e) + ∑ k : Fin 1024, attVal n x0 x1 x2 x3 x4 x5 x6 x7 x11 r k * x8 (ix2 k e)

theorem norm_apply (g b : Vec Ideal S1x1024 .f32) (x y : FVec Ideal S256x1024 .f32) (w : Vec Ideal S1024x1024 .bf16) (r : Fin 256) (e : Fin 1024) :
    k1_pay1 (k1_pay93 g) (k1_pay94 b) (k1_pay95 x y w) (k1_pay96 x y w) (ix3 0 r e)
      = Spec.lnRow (fun e => Ideal.ofBits FTy.f32 1068827891#32 * x (ix2 r e) + ∑ k : Fin 1024, y (ix2 r k) * w (ix2 k e))
        (fun e => g (ix2 0 e)) (fun e => b (ix2 0 e)) e := by
  pointwise [k1_pay1, k1_pay93, k1_pay94, k1_pay95, k1_pay96]
  rfl

/-- The block of results at an index. -/
theorem out_apply (r : Fin 256) (e : Fin 1024) :
    out1_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 (ix3 0 r e)
      = Spec.lnRow (mixVal x0 x1 x2 x3 x4 x5 x6 x7 x8 x11 (i 1) r) (fun e => x9 (ix2 0 e)) (fun e => x10 (ix2 0 e)) e := by
  unfold out1_A_12
  rw [View.read_writes_eq_canon _ _ _ (cover1_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11)]
  unfold kernelRun1_A
  dsimp only
  unfold kernelRun1_A.sl.r_61 kernelRun1_A.sl.r_62 kernelRun1_A.sl.r_63 kernelRun1_A.sl.r_64 kernelRun1_A.sl.r kernelRun1_A.sl.v960
  rw [View.canon_cons_unit_lit _ _ _ (by decide)]
  rw [load_whole arg2 harg2 x0 _ (by decide), load_whole arg10 harg10 x8 _ (by decide), load_whole arg11 harg11 x9 _ (by decide), load_whole arg12 harg12 x10 _ (by decide)]
  rw [norm_apply]
  refine congrArg (fun y => Spec.lnRow y (fun e => x9 (ix2 0 e)) (fun e => x10 (ix2 0 e)) e) (funext fun e => ?_)
  have hx : k1_pay2 x0 (ix2 r e) = x0 (ix3 0 r e) := by pointwise [k1_pay2]
  rw [hx]
  refine congrArg (fun z : EReal => Ideal.ofBits FTy.f32 1068827891#32 * x0 (ix3 0 r e) + z) (Finset.sum_congr rfl fun k _ => ?_)
  refine congrArg (fun z : EReal => z * x8 (ix2 k e)) (Eq.trans ?_ (ob_apply c i arg2 harg2 arg3 harg3 arg4 harg4 arg5 harg5 arg6 harg6 arg7 harg7 arg8 harg8 arg9 harg9 arg13 harg13 arg15 arg16 x0 x1 x2 x3 x4 x5 x6 x7 x11 r k))
  rw [View.readCov_eq_canon']
  refine congrArg (View.canon _) (funext fun a => Fin.ext ?_)
  fin_cases a
  · exact (Rect.idx_unit_val _ _ _ _ _).trans (Nat.zero_add _)
  · exact (Rect.idx_unit_val _ _ _ _ _).trans (Nat.zero_add _)
end

end Cert.KernelIdeal.Hand

end
-- ==== Proof.Kv.lean ====
/- The blocks of keys, values, cosines and sines that one grid point of the key/value kernel leaves, as functions of its operands' blocks. -/
module

public import proofs.«01_k».proof.Proof.Block

@[expose] public section

set_option maxRecDepth 16384

noncomputable section

namespace Cert.KernelIdeal.Hand

open Cert.KernelIdeal.Gen
open Idealize.ShloMosaic Idealize.ShloMosaic.TcCoe Idealize.ShloMosaic.Tactic

variable (x0 : Vec Ideal S1x512x1024 .f32) (x1 : Vec Ideal S1024x512 .bf16) (x2 : Vec Ideal S1x512x128 .f32) (x3 x4 : Vec Ideal S1x128 .f32)

/-- The projection onto keys and values, at an index. -/
theorem kvProj_apply (r : Fin 512) (e : Fin 512) : k0_pay3 x0 x1 (ix2 r e) = ∑ k : Fin 1024, x0 (ix3 0 r k) * x1 (ix2 k e) := by
  pointwise [k0_pay3]

/-- The cosine of position times frequency. -/
theorem cosBlk_apply (r : Fin 512) (l : Fin 128) : k0_pay5 x2 x3 (ix2 r l) = Ideal.cos (x2 (ix3 0 r l) * x3 (ix2 0 l)) := by
  pointwise [k0_pay5, k0_pay4]

/-- The signed sine of position times frequency. -/
theorem sinBlk_apply (r : Fin 512) (l : Fin 128) : k0_pay6 x2 x3 x4 (ix2 r l) = Ideal.sin (x2 (ix3 0 r l) * x3 (ix2 0 l)) * x4 (ix2 0 l) := by
  pointwise [k0_pay6, k0_pay4]

/-- A block of keys as two rotated row blocks side by side. -/
theorem keyBlk_eq (C S : FVec Ideal S512x128 .f32) (P : FVec Ideal S512x256 .f32) :
    k0_pay1 C S P (Scalar.select (Scalar.cmpi .eq 64#32 0#32) 1#32 64#32) k0_pay10 k0_pay11 0#32
      = shapeCast S1x512x256 (truncf .bf16 (concatenate S512x256 1
          [⟨S512x128, ropeBlk (R := 512) broadcasts_S1x128_S512x128 rotates_S512x128_d1 C S k1_pay6 (extractStridedSlice S512x128 ![0, 128 * 0] P slices_S512x256_o0_0_S512x128)⟩,
           ⟨S512x128, ropeBlk (R := 512) broadcasts_S1x128_S512x128 rotates_S512x128_d1 C S k1_pay6 (extractStridedSlice S512x128 ![0, 128 * 1] P slices_S512x256_o0_128_S512x128)⟩]
          concatenates_S512x128_S512x128_S512x256_d1 : FVec Ideal S512x256 .f32) bitsLt_bf16_f32) shapeCasts_S512x256_S1x512x256 := rfl

/-- A block of 256 lanes has two slices of 128. -/
theorem slices2 (n : Fin 2) : S512x256.Slices ![0, 128 * n.val] S512x128 := by
  revert n; decide

/-- Storing a block narrows its numbers and adds an axis: the same values. -/
theorem stored_apply (v : FVec Ideal S512x256 .f32) (r : Fin 512) (e : Fin 256) :
    shapeCast S1x512x256 (truncf .bf16 v bitsLt_bf16_f32) shapeCasts_S512x256_S1x512x256 (ix3 0 r e) = v (ix2 r e) := by
  pointwise []

/-- The stored block of keys, at an index: the rotation of the projection's row. -/
theorem keyBlk_apply (C S : FVec Ideal S512x128 .f32) (P : FVec Ideal S512x256 .f32) (r : Fin 512) (e : Fin 256) :
    k0_pay1 C S P (Scalar.select (Scalar.cmpi .eq 64#32 0#32) 1#32 64#32) k0_pay10 k0_pay11 0#32 (ix3 0 r e)
      = Spec.ropeLane (n := 256) (by decide) (fun e => P (ix2 r e)) (fun l => C (ix2 r l)) (fun l => S (ix2 r l)) e := by
  rw [keyBlk_eq]
  have h := concatenate_ofFn_apply (t := S512x256) (s₁ := S512x128) 1 (fun n : Fin 2 => ropeBlk (R := 512) broadcasts_S1x128_S512x128 rotates_S512x128_d1 C S k1_pay6
        (extractStridedSlice S512x128 ![0, 128 * n.val] P (slices2 n))) concatenates_S512x128_S512x128_S512x256_d1 rfl 128 rfl (ix2 r e)
        ⟨e.val / 128, by omega⟩ rfl (ix2 r ⟨e.val % 128, by omega⟩) rfl (fun b hb => by fin_cases b; rfl; exact absurd rfl hb)
  have h2 := ropeBlk_slice (R := 512) (n := 256) (by decide) broadcasts_S1x128_S512x128 rotates_S512x128_d1 C S P (e.val / 128) (slices2 ⟨e.val / 128, by omega⟩) r e rfl
  exact (stored_apply _ r e).trans (h.trans h2)

/-- The block of keys one grid point leaves. -/
theorem key_apply (r : Fin 512) (e : Fin 256) : out0_5 x0 x1 x2 x3 x4 (ix3 0 r e)
    = Spec.ropeLane (n := 256) (by decide) (fun e => ∑ k : Fin 1024, x0 (ix3 0 r k) * x1 (ix2 k ⟨e.val, by omega⟩))
        (fun l => Ideal.cos (x2 (ix3 0 r l) * x3 (ix2 0 l))) (fun l => Ideal.sin (x2 (ix3 0 r l) * x3 (ix2 0 l)) * x4 (ix2 0 l)) e := by
  unfold out0_5
  rw [View.canon_cons_unit_lit _ _ _ (by decide), keyBlk_apply]
  rw [View.ld_unit_lit _ _ (by decide), View.ld_unit_lit _ _ (by decide), View.ld_unit_lit _ _ (by decide), View.ld_unit_lit _ _ (by decide), View.ld_unit_lit _ _ (by decide)]
  have hp : (fun e : Fin 256 => k0_pay9 x0 x1 (ix2 r e)) = fun e => ∑ k : Fin 1024, x0 (ix3 0 r k) * x1 (ix2 k ⟨e.val, by omega⟩) := funext fun e => by
    pointwise [k0_pay9]
    exact kvProj_apply x0 x1 r _
  have hc : (fun l => k0_pay5 x2 x3 (ix2 r l)) = fun l => Ideal.cos (x2 (ix3 0 r l) * x3 (ix2 0 l)) := funext fun l => cosBlk_apply x2 x3 r l
  have hs : (fun l => k0_pay6 x2 x3 x4 (ix2 r l)) = fun l => Ideal.sin (x2 (ix3 0 r l) * x3 (ix2 0 l)) * x4 (ix2 0 l) := funext fun l => sinBlk_apply x2 x3 x4 r l
  rw [hp, hc, hs]

/-- The block of values one grid point leaves. -/
theorem val_apply (r : Fin 512) (e : Fin 256) : out0_6 x0 x1 x2 x3 x4 (ix3 0 r e) = ∑ k : Fin 1024, x0 (ix3 0 r k) * x1 (ix2 k ⟨256 + e.val, by omega⟩) := by
  unfold out0_6
  rw [View.canon_cons_unit_lit _ _ _ (by decide), View.ld_unit_lit _ _ (by decide), View.ld_unit_lit _ _ (by decide)]
  pointwise [k0_pay2]
  exact kvProj_apply x0 x1 r _

/-- The block of cosines one grid point leaves. -/
theorem cos_apply (r : Fin 512) (l : Fin 128) : out0_7 x0 x1 x2 x3 x4 (ix3 0 r l) = Ideal.cos (x2 (ix3 0 r l) * x3 (ix2 0 l)) := by
  unfold out0_7
  rw [View.canon_cons_unit_lit _ _ _ (by decide), View.ld_unit_lit _ _ (by decide), View.ld_unit_lit _ _ (by decide)]
  pointwise [k0_pay7]
  exact cosBlk_apply x2 x3 r l

/-- The block of signed sines one grid point leaves. -/
theorem sin_apply (r : Fin 512) (l : Fin 128) : out0_8 x0 x1 x2 x3 x4 (ix3 0 r l) = Ideal.sin (x2 (ix3 0 r l) * x3 (ix2 0 l)) * x4 (ix2 0 l) := by
  unfold out0_8
  rw [View.canon_cons_unit_lit _ _ _ (by decide), View.ld_unit_lit _ _ (by decide), View.ld_unit_lit _ _ (by decide), View.ld_unit_lit _ _ (by decide)]
  pointwise [k0_pay8]
  exact sinBlk_apply x2 x3 x4 r l

end Cert.KernelIdeal.Hand

end
-- ==== Proof.KvArray.lean ====
/- The four arrays that the key/value kernel leaves, as functions of the arrays that it is launched on. -/
module

public import proofs.«01_k».proof.Proof.Kv
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic

variable (V : (c : Dev nD) → (b : Ref sig .tc) → Buf (Elt Ideal) ((c : Thread nD τ).loc b)) (c : Dev nD)

/-- Where the windows of the key/value kernel stand at a grid point. -/
theorem place0 (t : Fin cfg0.N) :
    win0_0.index t = ![(grid0.coords t 0).val, (grid0.coords t 1).val, 0] ∧ win0_1.index t = ![0, 0] ∧ win0_2.index t = ![(grid0.coords t 0).val, (grid0.coords t 1).val, 0]
      ∧ win0_3.index t = ![0, 0] ∧ win0_4.index t = ![0, 0]
      ∧ win0_5.index t = ![(grid0.coords t 0).val, (grid0.coords t 1).val, 0] ∧ win0_6.index t = ![(grid0.coords t 0).val, (grid0.coords t 1).val, 0]
      ∧ win0_7.index t = ![(grid0.coords t 0).val, (grid0.coords t 1).val, 0] ∧ win0_8.index t = ![(grid0.coords t 0).val, (grid0.coords t 1).val, 0] := by
  revert t; decide +kernel

/-- An index of a block with one leading member is given by its row and its lane. -/
theorem idx_mid {a b : ℕ} (y : Shape.Idx ⟨3, ![1, a, b]⟩) : y = ix3 (0 : Fin 1) (y 1) (y 2) := by
  funext k
  fin_cases k
  · exact Subsingleton.elim (α := Fin 1) _ _
  · rfl
  · rfl

/-- The row of the whole array that row `r` of a grid point's block is. -/
abbrev row0 (t : Fin cfg0.N) (r : Fin 512) : Fin 4096 := ⟨(grid0.coords t 1).val * 512 + r.val, by have := (grid0.coords t 1).isLt; simp at this; omega⟩

/-- The sequence that a grid point works on. -/
abbrev bat0 (t : Fin cfg0.N) : Fin 4 := ⟨(grid0.coords t 0).val, (grid0.coords t 0).isLt⟩

/-! ### The operands' blocks -/

theorem x_read0 (t : Fin cfg0.N) (r : Fin 512) (k : Fin 1024) : iblk0 V c 0 t (ix3 0 r k) = V c main_arg0 (ix3 (bat0 t) (row0 t r) k) := by
  obtain ⟨e0, -⟩ := place0 t
  blk_ext [iblk0, e0]

theorem w_read0 (t : Fin cfg0.N) (k : Fin 1024) (e : Fin 512) : iblk0 V c 1 t (ix2 k e) = V c main_v33 (ix2 k e) := by
  obtain ⟨-, e1, -⟩ := place0 t
  blk_ext [iblk0, e1]

theorem pos_read0 (t : Fin cfg0.N) (r : Fin 512) (l : Fin 128) : iblk0 V c 2 t (ix3 0 r l) = V c main_v32 (ix3 (bat0 t) (row0 t r) l) := by
  obtain ⟨-, -, e2, -⟩ := place0 t
  blk_ext [iblk0, e2]

theorem freq_read0 (t : Fin cfg0.N) (l : Fin 128) : iblk0 V c 3 t (ix2 0 l) = V c main_v21 (ix2 0 l) := by
  obtain ⟨-, -, -, e3, -⟩ := place0 t
  blk_ext [iblk0, e3]

theorem sign_read0 (t : Fin cfg0.N) (l : Fin 128) : iblk0 V c 4 t (ix2 0 l) = V c main_v29 (ix2 0 l) := by
  obtain ⟨-, -, -, -, e4, -⟩ := place0 t
  blk_ext [iblk0, e4]

/-! ### Where the results' blocks lie -/

theorem emb0_5 (t : Fin cfg0.N) (r : Fin 512) (e : Fin 256) : (win0_5.blk t).view.emb (ix3 0 r e) = ix3 (bat0 t) (row0 t r) e := by
  obtain ⟨e0, e1, e2, e3, e4, e5, e6, e7, e8⟩ := place0 t
  blk_ext [e5]

theorem emb0_6 (t : Fin cfg0.N) (r : Fin 512) (e : Fin 256) : (win0_6.blk t).view.emb (ix3 0 r e) = ix3 (bat0 t) (row0 t r) e := by
  obtain ⟨e0, e1, e2, e3, e4, e5, e6, e7, e8⟩ := place0 t
  blk_ext [e6]

theorem emb0_7 (t : Fin cfg0.N) (r : Fin 512) (l : Fin 128) : (win0_7.blk t).view.emb (ix3 0 r l) = ix3 (bat0 t) (row0 t r) l := by
  obtain ⟨e0, e1, e2, e3, e4, e5, e6, e7, e8⟩ := place0 t
  blk_ext [e7]

theorem emb0_8 (t : Fin cfg0.N) (r : Fin 512) (l : Fin 128) : (win0_8.blk t).view.emb (ix3 0 r l) = ix3 (bat0 t) (row0 t r) l := by
  obtain ⟨e0, e1, e2, e3, e4, e5, e6, e7, e8⟩ := place0 t
  blk_ext [e8]

/-! ### The arrays -/

/-- The cosines of all positions. -/
def cosArr (P : Vec Ideal S4x4096x128 .f32) (I : Vec Ideal S1x128 .f32) : Vec Ideal S4x4096x128 .f32 := fun i =>
  (Ideal.cos (P (ix3 (i 0) (i 1) (i 2)) * I (ix2 0 (i 2))) : EReal)

/-- The signed sines of all positions. -/
def sinArr (P : Vec Ideal S4x4096x128 .f32) (I G : Vec Ideal S1x128 .f32) : Vec Ideal S4x4096x128 .f32 := fun i =>
  (Ideal.sin (P (ix3 (i 0) (i 1) (i 2)) * I (ix2 0 (i 2))) * G (ix2 0 (i 2)) : EReal)

/-- The rotated keys of all positions. -/
def keyArr (X : Vec Ideal S4x4096x1024 .f32) (W : Vec Ideal S1024x512 .bf16) (C S : Vec Ideal S4x4096x128 .f32) : Vec Ideal S4x4096x256 .bf16 := fun i =>
  (Spec.ropeLane (n := 256) (by decide) (fun e => ∑ k : Fin 1024, X (ix3 (i 0) (i 1) k) * W (ix2 k ⟨e.val, by omega⟩))
    (fun l => C (ix3 (i 0) (i 1) l)) (fun l => S (ix3 (i 0) (i 1) l)) (i 2) : EReal)

/-- The values of all positions. -/
def valArr (X : Vec Ideal S4x4096x1024 .f32) (W : Vec Ideal S1024x512 .bf16) : Vec Ideal S4x4096x256 .bf16 := fun i =>
  (∑ k : Fin 1024, X (ix3 (i 0) (i 1) k) * W (ix2 k ⟨256 + (i 2).val, by have := (i 2).isLt; simp at this ⊢; omega⟩) : EReal)

/-- The array of cosines after the run. -/
theorem cos_arr : (dat0 V c).arrAt 7 cfg0.N = cosArr (V c main_v32) (V c main_v21) := by
  refine (dat0 V c).arrAt_eq_of_covers 7 _ (by decide +kernel) fun t hf y => ?_
  blk_simp
  rw [after0_7]
  obtain ⟨r, l, rfl⟩ : ∃ (r : Fin 512) (l : Fin 128), y = ix3 0 r l := ⟨y 1, y 2, idx_mid y⟩
  refine (cos_apply _ _ _ _ _ r l).trans ?_
  refine Eq.trans ?_ (congrArg (cosArr (V c main_v32) (V c main_v21)) (emb0_7 t r l).symm)
  exact congrArg₂ (fun a b : EReal => Ideal.cos (a * b)) (pos_read0 V c t r l) (freq_read0 V c t l)

/-- The array of signed sines after the run. -/
theorem sin_arr : (dat0 V c).arrAt 8 cfg0.N = sinArr (V c main_v32) (V c main_v21) (V c main_v29) := by
  refine (dat0 V c).arrAt_eq_of_covers 8 _ (by decide +kernel) fun t hf y => ?_
  blk_simp
  rw [after0_8]
  obtain ⟨r, l, rfl⟩ : ∃ (r : Fin 512) (l : Fin 128), y = ix3 0 r l := ⟨y 1, y 2, idx_mid y⟩
  refine (sin_apply _ _ _ _ _ r l).trans ?_
  refine Eq.trans ?_ (congrArg (sinArr (V c main_v32) (V c main_v21) (V c main_v29)) (emb0_8 t r l).symm)
  exact congrArg₂ (fun a b : EReal => a * b)
    (congrArg₂ (fun a b : EReal => Ideal.sin (a * b)) (pos_read0 V c t r l) (freq_read0 V c t l)) (sign_read0 V c t l)

/-- The array of values after the run. -/
theorem value_arr : (dat0 V c).arrAt 6 cfg0.N = valArr (V c main_arg0) (V c main_v33) := by
  refine (dat0 V c).arrAt_eq_of_covers 6 _ (by decide +kernel) fun t hf y => ?_
  blk_simp
  rw [after0_6]
  obtain ⟨r, e, rfl⟩ : ∃ (r : Fin 512) (e : Fin 256), y = ix3 0 r e := ⟨y 1, y 2, idx_mid y⟩
  refine (val_apply _ _ _ _ _ r e).trans ?_
  refine Eq.trans ?_ (congrArg (valArr (V c main_arg0) (V c main_v33)) (emb0_6 t r e).symm)
  refine Finset.sum_congr rfl fun k _ => ?_
  exact congrArg₂ (fun a b : EReal => a * b) (x_read0 V c t r k) (w_read0 V c t k _)

/-- The array of rotated keys after the run. -/
theorem key_arr : (dat0 V c).arrAt 5 cfg0.N
    = keyArr (V c main_arg0) (V c main_v33) (cosArr (V c main_v32) (V c main_v21)) (sinArr (V c main_v32) (V c main_v21) (V c main_v29)) := by
  refine (dat0 V c).arrAt_eq_of_covers 5 _ (by decide +kernel) fun t hf y => ?_
  blk_simp
  rw [after0_5]
  obtain ⟨r, e, rfl⟩ : ∃ (r : Fin 512) (e : Fin 256), y = ix3 0 r e := ⟨y 1, y 2, idx_mid y⟩
  refine (key_apply _ _ _ _ _ r e).trans ?_
  refine Eq.trans ?_ (congrArg (keyArr (V c main_arg0) (V c main_v33) (cosArr (V c main_v32) (V c main_v21)) (sinArr (V c main_v32) (V c main_v21) (V c main_v29))) (emb0_5 t r e).symm)
  exact Spec.ropeLane_congr (n := 256) (by decide)
    (fun e => Finset.sum_congr rfl fun k _ => congrArg₂ (fun a b : EReal => a * b) (x_read0 V c t r k) (w_read0 V c t k _))
    (fun l => congrArg₂ (fun a b : EReal => Ideal.cos (a * b)) (pos_read0 V c t r l) (freq_read0 V c t l))
    (fun l => congrArg₂ (fun a b : EReal => a * b)
      (congrArg₂ (fun a b : EReal => Ideal.sin (a * b)) (pos_read0 V c t r l) (freq_read0 V c t l)) (sign_read0 V c t l)) e

end Cert.KernelIdeal.Hand

end
-- ==== Proof.AttnArray.lean ====
/- The array that the attention kernel leaves, as a function of the arrays that it is launched on. -/
module

public import proofs.«01_k».proof.Proof.Point
public import proofs.«01_k».proof.Proof.KvArray

@[expose] public section

set_option maxRecDepth 16384

noncomputable section

namespace Cert.KernelIdeal.Hand

open Cert.KernelIdeal.Gen
open Idealize.ShloMosaic Idealize.ShloMosaic.TcCoe Idealize.ShloMosaic.Tactic

variable (V : (c : Dev nD) → (b : Ref sig .tc) → Buf (Elt Ideal) ((c : Thread nD τ).loc b)) (c : Dev nD)

/-- Where the windows of the attention kernel stand at a grid point. -/
theorem place1 (t : Fin cfg1.N) :
    win1_0.index t = ![(grid1.coords t 0).val, (grid1.coords t 1).val, 0] ∧ win1_1.index t = ![0, 0]
      ∧ win1_2.index t = ![(grid1.coords t 0).val, (grid1.coords t 1).val, 0] ∧ win1_3.index t = ![(grid1.coords t 0).val, (grid1.coords t 1).val, 0]
      ∧ win1_4.index t = ![(grid1.coords t 0).val, 2 * (grid1.coords t 1).val - 1, 0] ∧ win1_5.index t = ![(grid1.coords t 0).val, (grid1.coords t 1).val, 0]
      ∧ win1_6.index t = ![(grid1.coords t 0).val, 2 * (grid1.coords t 1).val - 1, 0] ∧ win1_7.index t = ![(grid1.coords t 0).val, (grid1.coords t 1).val, 0]
      ∧ win1_8.index t = ![0, 0] ∧ win1_9.index t = ![0, 0] ∧ win1_10.index t = ![0, 0] ∧ win1_11.index t = ![0]
      ∧ win1_12.index t = ![(grid1.coords t 0).val, (grid1.coords t 1).val, 0] := by
  revert t; decide +kernel

/-- The row of the whole array that row `r` of a grid point's block is. -/
abbrev row1 (t : Fin cfg1.N) (r : Fin 256) : Fin 4096 := ⟨(grid1.coords t 1).val * 256 + r.val, by have := (grid1.coords t 1).isLt; simp at this; omega⟩

/-- The sequence that a grid point works on. -/
abbrev bat1 (t : Fin cfg1.N) : Fin 4 := ⟨(grid1.coords t 0).val, (grid1.coords t 0).isLt⟩

/-! ### The operands' blocks -/

theorem x_read1 (t : Fin cfg1.N) (r : Fin 256) (k : Fin 1024) : iblk1 V c 0 t (ix3 0 r k) = V c main_arg0 (ix3 (bat1 t) (row1 t r) k) := by
  obtain ⟨e0, e1, e2, e3, e4, e5, e6, e7, e8, e9, e10, e11, e12⟩ := place1 t
  blk_ext [iblk1, e0]

theorem wq_read1 (t : Fin cfg1.N) (a : Fin 1024) (b : Fin 1024) : iblk1 V c 1 t (ix2 a b) = V c main_v36 (ix2 a b) := by
  obtain ⟨e0, e1, e2, e3, e4, e5, e6, e7, e8, e9, e10, e11, e12⟩ := place1 t
  blk_ext [iblk1, e1]

theorem cos_read1 (t : Fin cfg1.N) (r : Fin 256) (k : Fin 128) : iblk1 V c 2 t (ix3 0 r k) = V c main_v34_2 (ix3 (bat1 t) (row1 t r) k) := by
  obtain ⟨e0, e1, e2, e3, e4, e5, e6, e7, e8, e9, e10, e11, e12⟩ := place1 t
  blk_ext [iblk1, e2]

theorem sin_read1 (t : Fin cfg1.N) (r : Fin 256) (k : Fin 128) : iblk1 V c 3 t (ix3 0 r k) = V c main_v34_3 (ix3 (bat1 t) (row1 t r) k) := by
  obtain ⟨e0, e1, e2, e3, e4, e5, e6, e7, e8, e9, e10, e11, e12⟩ := place1 t
  blk_ext [iblk1, e3]

theorem keyHalo_read1 (t : Fin cfg1.N) (h : 0 < (grid1.coords t 1).val) (u : Fin 128) (d : Fin 256) :
    iblk1 V c 4 t (ix3 0 u d) = V c main_v34_0 (ix3 (bat1 t) ⟨(2 * (grid1.coords t 1).val - 1) * 128 + u.val, by have := (grid1.coords t 1).isLt; simp at this; omega⟩ d) := by
  obtain ⟨e0, e1, e2, e3, e4, e5, e6, e7, e8, e9, e10, e11, e12⟩ := place1 t
  blk_ext [iblk1, e4]

theorem key_read1 (t : Fin cfg1.N) (r : Fin 256) (k : Fin 256) : iblk1 V c 5 t (ix3 0 r k) = V c main_v34_0 (ix3 (bat1 t) (row1 t r) k) := by
  obtain ⟨e0, e1, e2, e3, e4, e5, e6, e7, e8, e9, e10, e11, e12⟩ := place1 t
  blk_ext [iblk1, e5]

theorem valHalo_read1 (t : Fin cfg1.N) (h : 0 < (grid1.coords t 1).val) (u : Fin 128) (d : Fin 256) :
    iblk1 V c 6 t (ix3 0 u d) = V c main_v34_1 (ix3 (bat1 t) ⟨(2 * (grid1.coords t 1).val - 1) * 128 + u.val, by have := (grid1.coords t 1).isLt; simp at this; omega⟩ d) := by
  obtain ⟨e0, e1, e2, e3, e4, e5, e6, e7, e8, e9, e10, e11, e12⟩ := place1 t
  blk_ext [iblk1, e6]

theorem val_read1 (t : Fin cfg1.N) (r : Fin 256) (k : Fin 256) : iblk1 V c 7 t (ix3 0 r k) = V c main_v34_1 (ix3 (bat1 t) (row1 t r) k) := by
  obtain ⟨e0, e1, e2, e3, e4, e5, e6, e7, e8, e9, e10, e11, e12⟩ := place1 t
  blk_ext [iblk1, e7]

theorem wo_read1 (t : Fin cfg1.N) (a : Fin 1024) (b : Fin 1024) : iblk1 V c 8 t (ix2 a b) = V c main_v39 (ix2 a b) := by
  obtain ⟨e0, e1, e2, e3, e4, e5, e6, e7, e8, e9, e10, e11, e12⟩ := place1 t
  blk_ext [iblk1, e8]

theorem gain_read1 (t : Fin cfg1.N) (a : Fin 1) (b : Fin 1024) : iblk1 V c 9 t (ix2 a b) = V c main_v42 (ix2 a b) := by
  obtain ⟨e0, e1, e2, e3, e4, e5, e6, e7, e8, e9, e10, e11, e12⟩ := place1 t
  blk_ext [iblk1, e9]

theorem offset_read1 (t : Fin cfg1.N) (a : Fin 1) (b : Fin 1024) : iblk1 V c 10 t (ix2 a b) = V c main_v45 (ix2 a b) := by
  obtain ⟨e0, e1, e2, e3, e4, e5, e6, e7, e8, e9, e10, e11, e12⟩ := place1 t
  blk_ext [iblk1, e10]

theorem sink_read1 (t : Fin cfg1.N) (a : Fin 16) : iblk1 V c 11 t (ix1 a) = V c main_v37 (ix1 a) := by
  obtain ⟨e0, e1, e2, e3, e4, e5, e6, e7, e8, e9, e10, e11, e12⟩ := place1 t
  blk_ext [iblk1, e11]

/-- Where the result's block lies. -/
theorem emb1_12 (t : Fin cfg1.N) (r : Fin 256) (e : Fin 1024) : (win1_12.blk t).view.emb (ix3 0 r e) = ix3 (bat1 t) (row1 t r) e := by
  obtain ⟨e0, e1, e2, e3, e4, e5, e6, e7, e8, e9, e10, e11, e12⟩ := place1 t
  blk_ext [e12]

/-- The 256 rows that a query sees, from the halo and the block: the rows of the whole array. -/
theorem winVal_eq (K : Vec Ideal S4x4096x256 .bf16) (t : Fin cfg1.N) (x4 : Vec Ideal S1x128x256 .bf16) (x5 : Vec Ideal S1x256x256 .bf16)
    (h4 : ∀ (h : 0 < (grid1.coords t 1).val) (u : Fin 128) (d : Fin 256), x4 (ix3 0 u d)
      = K (ix3 (bat1 t) ⟨(2 * (grid1.coords t 1).val - 1) * 128 + u.val, by have := (grid1.coords t 1).isLt; simp at this; omega⟩ d))
    (h5 : ∀ (r : Fin 256) (d : Fin 256), x5 (ix3 0 r d) = K (ix3 (bat1 t) (row1 t r) d)) (r u d : Fin 256) :
    winVal (grid1.coords t 1) x4 x5 ⟨r.val / 128 * 128 + u.val, by omega⟩ d = Spec.seenRow (fun s d => K (ix3 (bat1 t) s d)) (row1 t r) u d := by
  have hn := (grid1.coords t 1).isLt
  simp at hn
  unfold winVal Spec.seenRow
  dsimp only
  by_cases hu : r.val / 128 * 128 + u.val < 128
  · rw [dif_pos hu]
    by_cases h0 : 0 < (grid1.coords t 1).val
    · rw [if_pos h0, dif_pos (by omega), h4 h0]
      refine congrArg (fun s => K (ix3 (bat1 t) s d)) (Fin.ext ?_)
      dsimp only
      omega
    · rw [if_neg h0, dif_neg (by omega)]
  · rw [dif_neg hu, dif_pos (by omega), h5]
    refine congrArg (fun s => K (ix3 (bat1 t) s d)) (Fin.ext ?_)
    dsimp only
    omega

/-! ### The array -/

/-- The scaled and rotated queries of all positions. -/
def queryOf (X : Vec Ideal S4x4096x1024 .f32) (Wq : Vec Ideal S1024x1024 .bf16) (C S : Vec Ideal S4x4096x128 .f32) (b : Fin 4) (s : Fin 4096) (e : Fin 1024) : EReal :=
  Spec.ropeLane (n := 1024) (by decide) (fun e => ∑ k : Fin 1024, X (ix3 b s k) * Wq (ix2 k e)) (fun l => C (ix3 b s l)) (fun l => S (ix3 b s l)) e
    * Ideal.ofBits FTy.f32 1040187392#32

/-- The layer's result at all positions. -/
def layerArr (X : Vec Ideal S4x4096x1024 .f32) (Wq : Vec Ideal S1024x1024 .bf16) (C S : Vec Ideal S4x4096x128 .f32) (K U : Vec Ideal S4x4096x256 .bf16)
    (Wo : Vec Ideal S1024x1024 .bf16) (g b : Vec Ideal S1x1024 .f32) (snk : Vec Ideal S16 .f32) : Vec Ideal S4x4096x1024 .f32 := fun i =>
  (Spec.layerRow (fun s e => X (ix3 (i 0) s e)) (queryOf X Wq C S (i 0)) (fun s d => K (ix3 (i 0) s d)) (fun s d => U (ix3 (i 0) s d))
    (fun h => snk (ix1 h)) (fun k e => Wo (ix2 k e)) (fun e => g (ix2 0 e)) (fun e => b (ix2 0 e)) (i 1) (i 2) : EReal)

/-- One point's queries are the array's. -/
theorem query_block (t : Fin cfg1.N) (r : Fin 256) (e : Fin 1024) :
    qVal (iblk1 V c 0 t) (iblk1 V c 1 t) (iblk1 V c 2 t) (iblk1 V c 3 t) r e
      = queryOf (V c main_arg0) (V c main_v36) (V c main_v34_2) (V c main_v34_3) (bat1 t) (row1 t r) e :=
  congrArg (fun z : EReal => z * Ideal.ofBits FTy.f32 1040187392#32)
    (Spec.ropeLane_congr (n := 1024) (by decide)
      (fun e => Finset.sum_congr rfl fun k _ => congrArg₂ (fun a b : EReal => a * b) (x_read1 V c t r k) (wq_read1 V c t k e))
      (fun l => cos_read1 V c t r l) (fun l => sin_read1 V c t r l) e)

/-- One point's attention is the array's. -/
theorem att_block (t : Fin cfg1.N) (r : Fin 256) (e : Fin 1024) :
    attVal (grid1.coords t 1) (iblk1 V c 0 t) (iblk1 V c 1 t) (iblk1 V c 2 t) (iblk1 V c 3 t) (iblk1 V c 4 t) (iblk1 V c 5 t) (iblk1 V c 6 t)
        (iblk1 V c 7 t) (iblk1 V c 11 t) r e
      = Spec.attRow (queryOf (V c main_arg0) (V c main_v36) (V c main_v34_2) (V c main_v34_3) (bat1 t))
          (fun s d => (V c main_v34_0 : Vec Ideal S4x4096x256 .bf16) (ix3 (bat1 t) s d))
          (fun s d => (V c main_v34_1 : Vec Ideal S4x4096x256 .bf16) (ix3 (bat1 t) s d))
          (fun h => (V c main_v37 : Vec Ideal S16 .f32) (ix1 h)) (row1 t r) e := by
  have hb : 2 * (grid1.coords t 1).val + r.val / 128 = (row1 t r).val / 128 := by dsimp only; omega
  have hq : r.val % 128 = (row1 t r).val % 128 := by dsimp only; omega
  unfold attVal Spec.attRow
  refine Spec.rowOut_congr (fun u => ?_) (sink_read1 V c t _) (fun u => ?_)
  · rw [hb, hq]
    refine if_congr Iff.rfl (Finset.sum_congr rfl fun x _ => ?_) rfl
    exact congrArg₂ (fun a b : EReal => a * b) (query_block V c t r _)
      (winVal_eq (V c main_v34_0) t (iblk1 V c 4 t) (iblk1 V c 5 t) (fun h u d => keyHalo_read1 V c t h u d) (fun r d => key_read1 V c t r d) r u _)
  · exact winVal_eq (V c main_v34_1) t (iblk1 V c 6 t) (iblk1 V c 7 t) (fun h u d => valHalo_read1 V c t h u d) (fun r d => val_read1 V c t r d) r u _

/-- The array of results after the run. -/
theorem layer_arr : (dat1 V c).arrAt 12 cfg1.N
    = layerArr (V c main_arg0) (V c main_v36) (V c main_v34_2) (V c main_v34_3) (V c main_v34_0) (V c main_v34_1) (V c main_v39) (V c main_v42) (V c main_v45) (V c main_v37) := by
  refine (dat1 V c).arrAt_eq_of_covers 12 _ (by decide +kernel) fun t hf y => ?_
  blk_simp
  rw [after1_12]
  obtain ⟨r, e, rfl⟩ : ∃ (r : Fin 256) (e : Fin 1024), y = ix3 0 r e := ⟨y 1, y 2, idx_mid y⟩
  refine Eq.trans ?_ (congrArg (layerArr (V c main_arg0) (V c main_v36) (V c main_v34_2) (V c main_v34_3) (V c main_v34_0) (V c main_v34_1) (V c main_v39) (V c main_v42) (V c main_v45) (V c main_v37)) (emb1_12 t r e).symm)
  unfold outsAt1
  refine (out_apply ..).trans ?_
  exact Spec.lnRow_congr
    (fun e => congrArg₂ (fun a b : EReal => Ideal.ofBits FTy.f32 1068827891#32 * a + b) (x_read1 V c t r e)
      (Finset.sum_congr rfl fun k _ => congrArg₂ (fun a b : EReal => a * b) (att_block V c t r k) (wo_read1 V c t k e)))
    (fun e => gain_read1 V c t 0 e) (fun e => offset_read1 V c t 0 e) e

end Cert.KernelIdeal.Hand

end
-- ==== Proof.HostEntry.lean ====
/- The host operations before the key/value kernel: the 128 lanes of frequencies and of signs, the positions spread over lanes, the weights. -/
module

public import proofs.«01_k».proof.Proof.Gen.KernelIdeal.Frame
public import proofs.«01_k».proof.Proof.Spec
public import Idealize.ShloMosaic.Lib.Routing.OpsSet
public import Idealize.ShloMosaic.Lib.StableHlo.Run

@[expose] public section

set_option maxRecDepth 16384

noncomputable section

namespace Cert.KernelIdeal.Hand

open Cert.KernelIdeal.Gen
open Idealize.ShloMosaic Idealize.ShloMosaic.TcCoe Idealize.ShloMosaic.Tactic Idealize.ShloMosaic.StableHlo

section
variable (X : Valuation τ sig (Elt Ideal))

/-! ### The lanes' numbers -/

/-- The remainder of a vector by a scalar, with the divisor's sign, as the host spells it out. -/
def remOf (x : IVec S128 32) (n : IVec S_ 32) : IVec S128 32 :=
  let d := select (cmpi .eq n (constantI S_ 32 0#32)) (constantI S_ 32 1#32) n
  let r := Host.remsi x (broadcastInDim S128 ![] bcast_S_S128 d)
  select (andi (cmpi .ne (cmpi .slt r (broadcastInDim S128 ![] bcast_S_S128 (constantI S_ 32 0#32)))
      (broadcastInDim S128 ![] bcast_S_S128 (cmpi .slt d (constantI S_ 32 0#32))))
    (cmpi .ne r (broadcastInDim S128 ![] bcast_S_S128 (constantI S_ 32 0#32))))
    (addi r (broadcastInDim S128 ![] bcast_S_S128 d)) r

theorem rem_after1 : after hostOps0_1 X (Proc.devRef .tc main_v9) = remOf (X main_v8) (X main_c) := by
  after_results
  simp only [TRef.ofBuf_toBuf]
  rfl

theorem rem_after3 : after hostOps0_3 X (Proc.devRef .tc main_v12) = remOf (X main_v9) (X main_c_3) := by
  after_results
  simp only [TRef.ofBuf_toBuf]
  rfl

theorem idx1_eq (i : S128.Idx) : ∃ l : Fin 128, i = ix1 l := ⟨i 0, funext fun a => by fin_cases a; rfl⟩

/-- The remainders by 64 of the lanes' numbers: the lane within its head. -/
def laneVec : IVec S128 32 := fun i => BitVec.ofNat 32 ((i 0).val % 64)

/-- The remainders by 8: which frequency turns the lane. -/
def turnVec : IVec S128 32 := fun i => BitVec.ofNat 32 ((i 0).val % 8)

theorem remOf_lane : remOf (iotaInDim S128 32 0) (constantI S_ 32 64#32) = laneVec := by
  funext i
  obtain ⟨l, rfl⟩ := idx1_eq i
  revert l
  decide +kernel

theorem remOf_turn : remOf laneVec (constantI S_ 32 8#32) = turnVec := by
  funext i
  obtain ⟨l, rfl⟩ := idx1_eq i
  revert l
  decide +kernel

theorem iota_after : after hostOps0 X (Proc.devRef .tc main_v8) = iotaInDim S128 32 0 := by
  after_results

theorem c64_after : after hostOps0 X (Proc.devRef .tc main_c) = constantI S_ 32 64#32 := by
  after_results

theorem c8_after : after hostOps0_2 X (Proc.devRef .tc main_c_3) = constantI S_ 32 8#32 := by
  after_results

/-- Whether a lane turns at all. -/
theorem low_after : after hostOps0_2 X (Proc.devRef .tc main_v11) = cmpi .slt (X main_v9) (broadcastInDim S128 ![] bcast_S_S128 (constantI S_ 32 16#32)) := by
  after_results

/-! ### The frequencies -/

/-- The eight frequencies, as the host computes them. -/
def freqs : FVec Ideal S8 .f32 :=
  Host.powf (broadcastInDim S8 ![] bcast_S_S8 (constant S_ .f32 0x48F42400#32))
    (Host.negf (Host.divf (mulf (sitofp .f32 (iotaInDim S8 32 0)) (broadcastInDim S8 ![] bcast_S_S8 (constant S_ .f32 0x40000000#32)))
      (broadcastInDim S8 ![] bcast_S_S8 (constant S_ .f32 0x41800000#32))))

theorem freqs_after : after hostOps0 X (Proc.devRef .tc main_v7) = freqs := by
  after_results
  rfl

theorem freqs_apply (j : Fin 8) : freqs (ix1 j) = Spec.freq j := by
  pointwise [freqs]
  rfl

/-- The frequencies gathered by a lane's turn. -/
def gathered (P : FVec Ideal S8 .f32) (w : IVec S128 32) : FVec Ideal S128 .f32 :=
  Host.gather gather_S8_S128x1_S128_n_0_n_n_0_1_1 P
    (broadcastInDim S128x1 ![0] bcast_S128_S128x1_0
      (select (cmpi .slt w (broadcastInDim S128 ![] bcast_S_S128 (constantI S_ 32 0#32)))
        (addi w (broadcastInDim S128 ![] bcast_S_S128 (constantI S_ 32 8#32))) w))

theorem gathered_after : after hostOps0_4 X (Proc.devRef .tc main_v19) = gathered (X main_v7) (X main_v12) := by
  after_results
  rfl

theorem gather_index : ∀ l : Fin 128, broadcastInDim S128x1 ![0] bcast_S128_S128x1_0
      (select (cmpi .slt turnVec (broadcastInDim S128 ![] bcast_S_S128 (constantI S_ 32 0#32)))
        (addi turnVec (broadcastInDim S128 ![] bcast_S_S128 (constantI S_ 32 8#32))) turnVec) (ix2 l (0 : Fin 1)) = BitVec.ofNat 32 (l.val % 8) := by
  decide +kernel

theorem gathered_apply (P : FVec Ideal S8 .f32) (l : Fin 128) : gathered P turnVec (ix1 l) = P (ix1 ⟨l.val % 8, by omega⟩) :=
  Routing.gather_take1 gather_S8_S128x1_S128_n_0_n_n_0_1_1 rfl rfl rfl rfl P _ l ⟨l.val % 8, by omega⟩ (gather_index l) (by norm_num)

theorem zero_after4 : after hostOps0_4 X (Proc.devRef .tc main_cst_6) = (constant S_ .f32 0x00000000#32: FVec Ideal S_ .f32) := by
  after_results

theorem where_after : after hostOps0_5 X (Proc.devRef .tc main_v20)
    = select (X main_v11) (X main_v19 : FVec Ideal S128 .f32) (broadcastInDim S128 ![] bcast_S_S128 (X main_cst_6 : FVec Ideal S_ .f32)) := by
  after_results
  simp only [TRef.ofBuf_toBuf]
  rfl

theorem row_after : after hostOps0_6 X (Proc.devRef .tc main_v21) = shapeCast S1x128 (X main_v20 : FVec Ideal S128 .f32) shapeCasts_S128_S1x128 := by
  after_results
  rfl

/-! ### The signs -/

theorem below8_after : after hostOps0_6 X (Proc.devRef .tc main_v23) = cmpi .slt (X main_v9) (broadcastInDim S128 ![] bcast_S_S128 (constantI S_ 32 8#32)) := by
  after_results

theorem below16_after : after hostOps0_6 X (Proc.devRef .tc main_v25) = cmpi .slt (X main_v9) (broadcastInDim S128 ![] bcast_S_S128 (constantI S_ 32 16#32)) := by
  after_results

theorem one_after : after hostOps0_6 X (Proc.devRef .tc main_cst_9) = (constant S_ .f32 0x3F800000#32: FVec Ideal S_ .f32) := by
  after_results

theorem zero_after6 : after hostOps0_6 X (Proc.devRef .tc main_cst_10) = (constant S_ .f32 0x00000000#32: FVec Ideal S_ .f32) := by
  after_results

theorem where_after7 : after hostOps0_7 X (Proc.devRef .tc main_v26)
    = select (X main_v25) (broadcastInDim S128 ![] bcast_S_S128 (X main_cst_9 : FVec Ideal S_ .f32)) (broadcastInDim S128 ![] bcast_S_S128 (X main_cst_10 : FVec Ideal S_ .f32)) := by
  after_results
  simp only [TRef.ofBuf_toBuf]
  rfl

theorem minus_after : after hostOps0_8 X (Proc.devRef .tc main_cst_11) = (constant S_ .f32 0xBF800000#32: FVec Ideal S_ .f32) := by
  after_results

theorem where_after9 : after hostOps0_9 X (Proc.devRef .tc main_v27)
    = select (X main_v23) (broadcastInDim S128 ![] bcast_S_S128 (X main_cst_11 : FVec Ideal S_ .f32)) (X main_v26 : FVec Ideal S128 .f32) := by
  after_results
  simp only [TRef.ofBuf_toBuf]
  rfl

theorem signs_after : after hostOps0_10 X (Proc.devRef .tc main_v29) = shapeCast S1x128 (X main_v27 : FVec Ideal S128 .f32) shapeCasts_S128_S1x128 := by
  after_results
  rfl

/-! ### Positions and weights -/

theorem pos_after : after hostOps0_10 X (Proc.devRef .tc main_v32)
    = broadcastInDim S4x4096x128 ![0, 1, 2] bcast_S4x4096x1_S4x4096x128_0_1_2
        (broadcastInDim S4x4096x1 ![0, 1] bcast_S4x4096_S4x4096x1_0_1 (sitofp .f32 (X main_arg1 : IVec S4x4096 32) : FVec Ideal S4x4096 .f32)) := by
  after_results

theorem weights_after : after hostOps0_10 X (Proc.devRef .tc main_v33) = (truncf .bf16 (X main_arg2 : FVec Ideal S1024x512 .f32) bitsLt_bf16_f32 : FVec Ideal S1024x512 .bf16) := by
  after_results

theorem wq_after : after hostOps1 X (Proc.devRef .tc main_v36)
    = (truncf .bf16 (shapeCast S1024x1024 (X main_arg3 : FVec Ideal S1x1024x1024 .f32) shapeCasts_S1x1024x1024_S1024x1024) bitsLt_bf16_f32 : FVec Ideal S1024x1024 .bf16) := by
  after_results
  rfl

theorem wo_after : after hostOps1 X (Proc.devRef .tc main_v39)
    = (truncf .bf16 (shapeCast S1024x1024 (X main_arg5 : FVec Ideal S1x1024x1024 .f32) shapeCasts_S1x1024x1024_S1024x1024) bitsLt_bf16_f32 : FVec Ideal S1024x1024 .bf16) := by
  after_results
  rfl

theorem sinks_after : after hostOps1 X (Proc.devRef .tc main_v37) = shapeCast S16 (X main_arg4 : FVec Ideal S1x16 .f32) shapeCasts_S1x16_S16 := by
  after_results
  rfl

/-- Row 1 of a pair of rows, cut out and reshaped twice. -/
def secondRow (v : FVec Ideal S2x1024 .f32) : FVec Ideal S1x1024 .f32 :=
  shapeCast S1x1024 (shapeCast S1024 (extractStridedSlice S1x1024 ![1, 0] v slices_S2x1024_S1x1024_1_0) shapeCasts_S1x1024_S1024) shapeCasts_S1024_S1x1024

theorem gain_after : after hostOps1 X (Proc.devRef .tc main_v42) = secondRow (X main_arg6) := by
  after_results
  rfl

theorem offset_after : after hostOps1 X (Proc.devRef .tc main_v45) = secondRow (X main_arg7) := by
  after_results
  rfl

theorem secondRow_apply (v : FVec Ideal S2x1024 .f32) (e : Fin 1024) : secondRow v (ix2 0 e) = v (ix2 1 e) := by
  pointwise [secondRow]

end

end Cert.KernelIdeal.Hand

end
-- ==== Proof.Entry.lean ====
/- What the two kernels are launched on, as functions of the arguments. -/
module

public import proofs.«01_k».proof.Proof.HostEntry

@[expose] public section

set_option maxRecDepth 16384

noncomputable section

namespace Cert.KernelIdeal.Hand

open Cert.KernelIdeal.Gen
open Idealize.ShloMosaic Idealize.ShloMosaic.TcCoe Idealize.ShloMosaic.Tactic Idealize.ShloMosaic.StableHlo

variable (m : (ℓ : Loc nD τ sig) → Buf (Elt Ideal) ℓ) (ρ : Dev nD → PrngReg) (c : Dev nD)

/-! ### The key/value kernel's operands -/

/-- The lane within a head stays what the first stretch made it. -/
theorem lane_entry : W2 m ρ c (Proc.devRef .tc main_v9) = laneVec := by
  rw [show W2 m ρ c (Proc.devRef .tc main_v9) = remOf _ _ from rem_after1 (W1 m ρ c)]
  rw [show W1 m ρ c (Proc.devRef .tc main_v8) = _ from iota_after (W0 m ρ c), show W1 m ρ c (Proc.devRef .tc main_c) = _ from c64_after (W0 m ρ c)]
  exact remOf_lane

theorem turn_entry : W4 m ρ c (Proc.devRef .tc main_v12) = turnVec := by
  rw [show W4 m ρ c (Proc.devRef .tc main_v12) = remOf _ _ from rem_after3 (W3 m ρ c)]
  rw [W3_of m ρ c main_v9 (by decide), lane_entry, show W3 m ρ c (Proc.devRef .tc main_c_3) = _ from c8_after (W2 m ρ c)]
  exact remOf_turn

theorem low_entry : W5 m ρ c (Proc.devRef .tc main_v11) = cmpi .slt laneVec (broadcastInDim S128 ![] bcast_S_S128 (constantI S_ 32 16#32)) := by
  rw [W5_of m ρ c main_v11 (by decide), W4_of m ρ c main_v11 (by decide), show W3 m ρ c (Proc.devRef .tc main_v11) = _ from low_after (W2 m ρ c), lane_entry]

theorem gathered_entry : W5 m ρ c (Proc.devRef .tc main_v19) = gathered freqs turnVec := by
  rw [show W5 m ρ c (Proc.devRef .tc main_v19) = _ from gathered_after (W4 m ρ c), turn_entry, W4_of m ρ c main_v7 (by decide),
    W3_of m ρ c main_v7 (by decide), W2_of m ρ c main_v7 (by decide), show W1 m ρ c (Proc.devRef .tc main_v7) = _ from freqs_after (W0 m ρ c)]

/-- The 128 lanes of frequencies. -/
def freqRow : FVec Ideal S1x128 .f32 :=
  shapeCast S1x128 (select (cmpi .slt laneVec (broadcastInDim S128 ![] bcast_S_S128 (constantI S_ 32 16#32))) (gathered freqs turnVec)
    (broadcastInDim S128 ![] bcast_S_S128 (constant S_ .f32 0x00000000#32))) shapeCasts_S128_S1x128

theorem freqRow_entry : V11 m ρ c main_v21 = freqRow := by
  show W11 m ρ c (Proc.devRef .tc main_v21) = _
  rw [W11_of m ρ c main_v21 (by decide), W10_of m ρ c main_v21 (by decide), W9_of m ρ c main_v21 (by decide), W8_of m ρ c main_v21 (by decide),
    show W7 m ρ c (Proc.devRef .tc main_v21) = _ from row_after (W6 m ρ c), show W6 m ρ c (Proc.devRef .tc main_v20) = _ from where_after (W5 m ρ c),
    low_entry, gathered_entry, show W5 m ρ c (Proc.devRef .tc main_cst_6) = _ from zero_after4 (W4 m ρ c)]
  rfl

theorem low_word : ∀ l : Fin 128, cmpi .slt laneVec (broadcastInDim S128 ![] bcast_S_S128 (constantI S_ 32 16#32)) (ix1 l) = if l.val % 64 < 16 then 1#1 else 0#1 := by
  decide +kernel

theorem below8_word : ∀ l : Fin 128, cmpi .slt laneVec (broadcastInDim S128 ![] bcast_S_S128 (constantI S_ 32 8#32)) (ix1 l) = if l.val % 64 < 8 then 1#1 else 0#1 := by
  decide +kernel

theorem freqRow_apply (l : Fin 128) : freqRow (ix2 0 l) = if l.val % 64 < 16 then Spec.freq ⟨l.val % 8, by omega⟩ else Ideal.ofBits FTy.f32 0#32 := by
  have h : freqRow (ix2 0 l) = Scalar.select (cmpi .slt laneVec (broadcastInDim S128 ![] bcast_S_S128 (constantI S_ 32 16#32)) (ix1 l))
      (gathered freqs turnVec (ix1 l)) (Ideal.ofBits FTy.f32 0#32) := by
    pointwise [freqRow]
  rw [h, low_word, gathered_apply, freqs_apply]
  by_cases hl : l.val % 64 < 16 <;> simp only [hl, if_true, if_false] <;> rfl

/-- The 128 lanes of signs. -/
def signRow : FVec Ideal S1x128 .f32 :=
  shapeCast S1x128 (select (cmpi .slt laneVec (broadcastInDim S128 ![] bcast_S_S128 (constantI S_ 32 8#32))) (broadcastInDim S128 ![] bcast_S_S128 (constant S_ .f32 0xBF800000#32))
    (select (cmpi .slt laneVec (broadcastInDim S128 ![] bcast_S_S128 (constantI S_ 32 16#32))) (broadcastInDim S128 ![] bcast_S_S128 (constant S_ .f32 0x3F800000#32))
      (broadcastInDim S128 ![] bcast_S_S128 (constant S_ .f32 0x00000000#32)))) shapeCasts_S128_S1x128

theorem lane_entry6 : W6 m ρ c (Proc.devRef .tc main_v9) = laneVec := by
  rw [W6_of m ρ c main_v9 (by decide), W5_of m ρ c main_v9 (by decide), W4_of m ρ c main_v9 (by decide), W3_of m ρ c main_v9 (by decide), lane_entry]

theorem signRow_entry : V11 m ρ c main_v29 = signRow := by
  show W11 m ρ c (Proc.devRef .tc main_v29) = _
  rw [show W11 m ρ c (Proc.devRef .tc main_v29) = _ from signs_after (W10 m ρ c), show W10 m ρ c (Proc.devRef .tc main_v27) = _ from where_after9 (W9 m ρ c),
    show W9 m ρ c (Proc.devRef .tc main_cst_11) = _ from minus_after (W8 m ρ c), W9_of m ρ c main_v26 (by decide), W9_of m ρ c main_v23 (by decide),
    W8_of m ρ c main_v23 (by decide), show W8 m ρ c (Proc.devRef .tc main_v26) = _ from where_after7 (W7 m ρ c),
    show W7 m ρ c (Proc.devRef .tc main_v23) = _ from below8_after (W6 m ρ c), show W7 m ρ c (Proc.devRef .tc main_v25) = _ from below16_after (W6 m ρ c),
    show W7 m ρ c (Proc.devRef .tc main_cst_9) = _ from one_after (W6 m ρ c), show W7 m ρ c (Proc.devRef .tc main_cst_10) = _ from zero_after6 (W6 m ρ c), lane_entry6]
  rfl

theorem signRow_apply (l : Fin 128) : signRow (ix2 0 l)
    = if l.val % 64 < 8 then Ideal.ofBits FTy.f32 3212836864#32 else if l.val % 64 < 16 then Ideal.ofBits FTy.f32 1065353216#32 else Ideal.ofBits FTy.f32 0#32 := by
  have h : signRow (ix2 0 l) = Scalar.select (cmpi .slt laneVec (broadcastInDim S128 ![] bcast_S_S128 (constantI S_ 32 8#32)) (ix1 l)) (Ideal.ofBits FTy.f32 3212836864#32)
      (Scalar.select (cmpi .slt laneVec (broadcastInDim S128 ![] bcast_S_S128 (constantI S_ 32 16#32)) (ix1 l)) (Ideal.ofBits FTy.f32 1065353216#32) (Ideal.ofBits FTy.f32 0#32)) := by
    pointwise [signRow]
  rw [h, low_word, below8_word]
  by_cases h8 : l.val % 64 < 8 <;> by_cases hl : l.val % 64 < 16 <;> simp only [h8, hl, if_true, if_false] <;> rfl

theorem pos_entry (b : Fin 4) (s : Fin 4096) (l : Fin 128) :
    V11 m ρ c main_v32 (ix3 b s l) = FloatOps.sitofp (F := Ideal) FTy.f32 (m ((c : Thread nD τ).loc main_arg1) (ix2 b s)) := by
  have h : V11 m ρ c main_v32 = _ := pos_after (W10 m ρ c)
  rw [h, W10_args m ρ c main_arg1 (by decide)]
  pointwise []

theorem weights_entry (k : Fin 1024) (e : Fin 512) : V11 m ρ c main_v33 (ix2 k e) = m ((c : Thread nD τ).loc main_arg2) (ix2 k e) := by
  have h : V11 m ρ c main_v33 = _ := weights_after (W10 m ρ c)
  rw [h, W10_args m ρ c main_arg2 (by decide)]
  rfl

theorem x_entry0 : V11 m ρ c main_arg0 = m ((c : Thread nD τ).loc main_arg0) := W11_args m ρ c main_arg0 (by decide)

/-! ### The attention kernel's operands -/

theorem x_entry1 : V13 m ρ c main_arg0 = m ((c : Thread nD τ).loc main_arg0) := W13_args m ρ c main_arg0 (by decide)

theorem wq_entry (k e : Fin 1024) : V13 m ρ c main_v36 (ix2 k e) = m ((c : Thread nD τ).loc main_arg3) (ix3 0 k e) := by
  have h : V13 m ρ c main_v36 = _ := wq_after (W12 m ρ c)
  rw [h, W12_args m ρ c main_arg3 (by decide)]
  pointwise []

theorem wo_entry (k e : Fin 1024) : V13 m ρ c main_v39 (ix2 k e) = m ((c : Thread nD τ).loc main_arg5) (ix3 0 k e) := by
  have h : V13 m ρ c main_v39 = _ := wo_after (W12 m ρ c)
  rw [h, W12_args m ρ c main_arg5 (by decide)]
  pointwise []

theorem sinks_entry (k : Fin 16) : V13 m ρ c main_v37 (ix1 k) = m ((c : Thread nD τ).loc main_arg4) (ix2 0 k) := by
  have h : V13 m ρ c main_v37 = _ := sinks_after (W12 m ρ c)
  rw [h, W12_args m ρ c main_arg4 (by decide)]
  pointwise []

theorem gain_entry (e : Fin 1024) : V13 m ρ c main_v42 (ix2 0 e) = m ((c : Thread nD τ).loc main_arg6) (ix2 1 e) := by
  have h : V13 m ρ c main_v42 = _ := gain_after (W12 m ρ c)
  rw [h, W12_args m ρ c main_arg6 (by decide)]
  exact secondRow_apply _ e

theorem offset_entry (e : Fin 1024) : V13 m ρ c main_v45 (ix2 0 e) = m ((c : Thread nD τ).loc main_arg7) (ix2 1 e) := by
  have h : V13 m ρ c main_v45 = _ := offset_after (W12 m ρ c)
  rw [h, W12_args m ρ c main_arg7 (by decide)]
  exact secondRow_apply _ e

theorem keys_entry : V13 m ρ c main_v34_0 = (dat0 (V11 m ρ) c).arrAt 5 cfg0.N := (W13_of m ρ c main_v34_0 (by decide)).trans (W12_arr m ρ c 5)
theorem vals_entry : V13 m ρ c main_v34_1 = (dat0 (V11 m ρ) c).arrAt 6 cfg0.N := (W13_of m ρ c main_v34_1 (by decide)).trans (W12_arr m ρ c 6)
theorem cos_entry : V13 m ρ c main_v34_2 = (dat0 (V11 m ρ) c).arrAt 7 cfg0.N := (W13_of m ρ c main_v34_2 (by decide)).trans (W12_arr m ρ c 7)
theorem sin_entry : V13 m ρ c main_v34_3 = (dat0 (V11 m ρ) c).arrAt 8 cfg0.N := (W13_of m ρ c main_v34_3 (by decide)).trans (W12_arr m ρ c 8)

end Cert.KernelIdeal.Hand

end
-- ==== Proof.Rope.lean ====
/- The rotation of a head's first sixteen features, and that rows of 128 lanes compute it; and where a score's scale may stand. -/
module

public import proofs.«01_k».proof.Proof.Spec
public import Idealize.ShloMosaic.Lib.IdealHost

@[expose] public section

noncomputable section

namespace Cert.Spec

open Idealize.ShloMosaic

/-- The rotation of a head at position `p`: features `d` and `d + 8` turn together for `d < 8`, those from 16 on stay. -/
def rope (f : Fin 64 → EReal) (p : EReal) (d : Fin 64) : EReal :=
  if h : d.val < 8 then f d * Ideal.cos (p * freq ⟨d.val, h⟩) - f ⟨d.val + 8, by omega⟩ * Ideal.sin (p * freq ⟨d.val, h⟩)
  else if h' : d.val < 16 then f d * Ideal.cos (p * freq ⟨d.val - 8, by omega⟩) + f ⟨d.val - 8, by omega⟩ * Ideal.sin (p * freq ⟨d.val - 8, by omega⟩)
  else f d

/-- The rotation of a row of heads. -/
def headRope {n : ℕ} (hn : n % 128 = 0) (P : Fin n → EReal) (p : EReal) (e : Fin n) : EReal :=
  rope (fun d => P ⟨e.val / 64 * 64 + d.val, by have := e.isLt; omega⟩) p ⟨e.val % 64, by omega⟩

/-- The frequency of a lane: zero from the sixteenth on. -/
def laneFreq (l : Fin 128) : EReal := if l.val % 64 < 16 then freq ⟨l.val % 8, by omega⟩ else Ideal.ofBits FTy.f32 0#32

/-- The sign of a lane's sine: negative in the first eight of a head, zero from the sixteenth on. -/
def laneSign (l : Fin 128) : EReal :=
  if l.val % 64 < 8 then Ideal.ofBits FTy.f32 3212836864#32 else if l.val % 64 < 16 then Ideal.ofBits FTy.f32 1065353216#32 else Ideal.ofBits FTy.f32 0#32

theorem minus_one : Ideal.ofBits FTy.f32 3212836864#32 = -1 := by
  rw [show (-1 : EReal) = ((-1 : ℝ) : EReal) by rw [EReal.coe_neg, EReal.coe_one]]
  simp [Ideal.ofBits, Ideal.ieee, -EReal.coe_mul, -EReal.coe_neg]; norm_num

/-- Rows of 128 lanes, with the lanes' frequencies and signs, compute the rotation of every head. -/
theorem ropeLane_eq {n : ℕ} (hn : n % 128 = 0) (P : Fin n → EReal) (p : EReal) (e : Fin n) :
    ropeLane hn P (fun l => Ideal.cos (p * laneFreq l)) (fun l => Ideal.sin (p * laneFreq l) * laneSign l) e = headRope hn P p e := by
  have he := e.isLt
  have hself : P e = P ⟨e.val / 64 * 64 + e.val % 64, by omega⟩ := congrArg P (Fin.ext (by simp only; omega))
  unfold ropeLane headRope rope
  dsimp only
  by_cases h8 : e.val % 64 < 8
  · have hf : laneFreq ⟨e.val % 128, by omega⟩ = freq ⟨e.val % 64, h8⟩ := by
      unfold laneFreq; rw [if_pos (by simp only; omega)]; exact congrArg freq (Fin.ext (by simp only; omega))
    have hs : laneSign ⟨e.val % 128, by omega⟩ = -1 := by
      unfold laneSign; rw [if_pos (by simp only; omega)]; exact minus_one
    have hp : P (partner hn e) = P ⟨e.val / 64 * 64 + (e.val % 64 + 8), by omega⟩ := by
      unfold partner; rw [dif_pos h8]; exact congrArg P (Fin.ext (by simp only; omega))
    rw [dif_pos h8, hf, hs, hp, ← hself, mul_neg, mul_one, mul_neg, sub_eq_add_neg]
  · have hp : P (partner hn e) = P ⟨e.val / 64 * 64 + (e.val % 64 - 8), by omega⟩ := by
      unfold partner; rw [dif_neg h8]; exact congrArg P (Fin.ext (by simp only; omega))
    rw [dif_neg h8]
    by_cases h16 : e.val % 64 < 16
    · have hf : laneFreq ⟨e.val % 128, by omega⟩ = freq ⟨e.val % 64 - 8, by omega⟩ := by
        unfold laneFreq; rw [if_pos (by simp only; omega)]; exact congrArg freq (Fin.ext (by simp only; omega))
      have hs : laneSign ⟨e.val % 128, by omega⟩ = 1 := by
        unfold laneSign; rw [if_neg (by simp only; omega), if_pos (by simp only; omega)]; exact Ideal.ofBits_one_f32
      rw [dif_pos h16, hf, hs, hp, ← hself, mul_one]
    · have hf : laneFreq ⟨e.val % 128, by omega⟩ = 0 := by
        unfold laneFreq; rw [if_neg (by simp only; omega)]; exact Ideal.ofBits_zero_f32
      have hs : laneSign ⟨e.val % 128, by omega⟩ = 0 := by
        unfold laneSign; rw [if_neg (by simp only; omega), if_neg (by simp only; omega)]; exact Ideal.ofBits_zero_f32
      have hc : Ideal.cos 0 = 1 := by
        show ((Real.cos 0 : ℝ) : EReal) = 1
        rw [Real.cos_zero]; rfl
      rw [dif_neg h16, hf, hs, ← hself, mul_zero, hc, mul_one, mul_zero, mul_zero, add_zero]

/-- The layer's result from its arguments: one sequence `X` with its positions `p`, the weights, the sinks, and the norm's gain and offset. -/
def layerOf (X : Fin 4096 → Fin 1024 → EReal) (p : Fin 4096 → EReal) (Wkv : Fin 1024 → Fin 512 → EReal) (Wq Wo : Fin 1024 → Fin 1024 → EReal)
    (snk : Fin 16 → EReal) (g b : Fin 1024 → EReal) : Fin 4096 → Fin 1024 → EReal :=
  layerRow X
    (fun s e => headRope (n := 1024) (by decide) (fun e => ∑ k, X s k * Wq k e) (p s) e * Ideal.ofBits FTy.f32 1040187392#32)
    (fun s d => headRope (n := 256) (by decide) (fun d => ∑ k, X s k * Wkv k ⟨d.val, by omega⟩) (p s) d)
    (fun s d => ∑ k, X s k * Wkv k ⟨256 + d.val, by omega⟩) snk Wo g b

/-- The score's scale is the real one eighth. -/
theorem eighth : Ideal.ofBits FTy.f32 1040187392#32 = ((1 / 8 : ℝ) : EReal) := by
  simp [Ideal.ofBits, Ideal.ieee, -EReal.coe_mul]; norm_num

/-- A sum of products times the scale is the sum with the scale at one factor. -/
theorem scale_sum {n : ℕ} (q k : Fin n → EReal) :
    (∑ x, q x * Ideal.ofBits FTy.f32 1040187392#32 * k x) = (∑ x, k x * q x) * Ideal.ofBits FTy.f32 1040187392#32 := by
  rw [eighth]
  have hd : ∀ a b : EReal, (a + b) * ((1 / 8 : ℝ) : EReal) = a * ((1 / 8 : ℝ) : EReal) + b * ((1 / 8 : ℝ) : EReal) := fun a b =>
    EReal.right_distrib_of_nonneg_of_ne_top (EReal.coe_nonneg.mpr (by norm_num)) (EReal.coe_ne_top _) a b
  have hsum : ∀ s : Finset (Fin n), (∑ x ∈ s, k x * q x) * ((1 / 8 : ℝ) : EReal) = ∑ x ∈ s, k x * q x * ((1 / 8 : ℝ) : EReal) := by
    intro s
    induction s using Finset.induction_on with
    | empty => simp
    | insert a s ha ih => rw [Finset.sum_insert ha, Finset.sum_insert ha, hd, ih]
  rw [hsum]
  refine Finset.sum_congr rfl fun x _ => ?_
  rw [mul_comm (q x * _) (k x), ← mul_assoc]

end Cert.Spec

end
-- ==== Proof.KernelValue.lean ====
/- The kernel's result as a function of its arguments. -/
module

public import proofs.«01_k».proof.Proof.AttnArray
public import proofs.«01_k».proof.Proof.Entry
public import proofs.«01_k».proof.Proof.Rope

@[expose] public section

set_option maxRecDepth 16384

noncomputable section

namespace Cert.KernelIdeal.Hand

open Cert.KernelIdeal.Gen
open Idealize.ShloMosaic Idealize.ShloMosaic.TcCoe Idealize.ShloMosaic.Tactic

variable (m : (ℓ : Loc nD τ sig) → Buf (Elt Ideal) ℓ) (ρ : Dev nD → PrngReg) (c : Dev nD)

/-- The arguments, as vectors. -/
abbrev aX : Vec Ideal S4x4096x1024 .f32 := m ((c : Thread nD τ).loc main_arg0)
abbrev aPos : IVec S4x4096 32 := m ((c : Thread nD τ).loc main_arg1)
abbrev aKv : Vec Ideal S1024x512 .f32 := m ((c : Thread nD τ).loc main_arg2)
abbrev aWq : Vec Ideal S1x1024x1024 .f32 := m ((c : Thread nD τ).loc main_arg3)
abbrev aSink : Vec Ideal S1x16 .f32 := m ((c : Thread nD τ).loc main_arg4)
abbrev aWo : Vec Ideal S1x1024x1024 .f32 := m ((c : Thread nD τ).loc main_arg5)
abbrev aGain : Vec Ideal S2x1024 .f32 := m ((c : Thread nD τ).loc main_arg6)
abbrev aOffset : Vec Ideal S2x1024 .f32 := m ((c : Thread nD τ).loc main_arg7)

/-- The layer of the arguments, at every index of the result. -/
def layerAt (x : Vec Ideal S4x4096x1024 .f32) (p : IVec S4x4096 32) (kv : Vec Ideal S1024x512 .f32) (wq : Vec Ideal S1x1024x1024 .f32)
    (snk : Vec Ideal S1x16 .f32) (wo : Vec Ideal S1x1024x1024 .f32) (g b : Vec Ideal S2x1024 .f32) (s : Fin 4) (r : Fin 4096) (e : Fin 1024) : EReal :=
  Spec.layerOf (fun r k => x (ix3 s r k)) (fun r => FloatOps.sitofp (F := Ideal) FTy.f32 (p (ix2 s r))) (fun k e => kv (ix2 k e))
    (fun k e => wq (ix3 0 k e)) (fun k e => wo (ix3 0 k e)) (fun h => snk (ix2 0 h)) (fun e => g (ix2 1 e)) (fun e => b (ix2 1 e)) r e

theorem cosine_at (s : Fin 4) (r : Fin 4096) (l : Fin 128) : cosArr (V11 m ρ c main_v32) (V11 m ρ c main_v21) (ix3 s r l)
    = Ideal.cos (FloatOps.sitofp (F := Ideal) FTy.f32 (aPos m c (ix2 s r)) * Spec.laneFreq l) :=
  congrArg₂ (fun a b : EReal => Ideal.cos (a * b)) (pos_entry m ρ c s r l) ((congrFun (freqRow_entry m ρ c) (ix2 0 l)).trans (freqRow_apply l))

theorem sine_at (s : Fin 4) (r : Fin 4096) (l : Fin 128) : sinArr (V11 m ρ c main_v32) (V11 m ρ c main_v21) (V11 m ρ c main_v29) (ix3 s r l)
    = Ideal.sin (FloatOps.sitofp (F := Ideal) FTy.f32 (aPos m c (ix2 s r)) * Spec.laneFreq l) * Spec.laneSign l :=
  congrArg₂ (fun a b : EReal => a * b)
    (congrArg₂ (fun a b : EReal => Ideal.sin (a * b)) (pos_entry m ρ c s r l) ((congrFun (freqRow_entry m ρ c) (ix2 0 l)).trans (freqRow_apply l)))
    ((congrFun (signRow_entry m ρ c) (ix2 0 l)).trans (signRow_apply l))

theorem cosine_entry (s : Fin 4) (r : Fin 4096) (l : Fin 128) : V13 m ρ c main_v34_2 (ix3 s r l)
    = Ideal.cos (FloatOps.sitofp (F := Ideal) FTy.f32 (aPos m c (ix2 s r)) * Spec.laneFreq l) :=
  (congrFun ((cos_entry m ρ c).trans (cos_arr (V11 m ρ) c)) (ix3 s r l)).trans (cosine_at m ρ c s r l)

theorem sine_entry (s : Fin 4) (r : Fin 4096) (l : Fin 128) : V13 m ρ c main_v34_3 (ix3 s r l)
    = Ideal.sin (FloatOps.sitofp (F := Ideal) FTy.f32 (aPos m c (ix2 s r)) * Spec.laneFreq l) * Spec.laneSign l :=
  (congrFun ((sin_entry m ρ c).trans (sin_arr (V11 m ρ) c)) (ix3 s r l)).trans (sine_at m ρ c s r l)

theorem key_entry (s : Fin 4) (r : Fin 4096) (d : Fin 256) : V13 m ρ c main_v34_0 (ix3 s r d)
    = Spec.headRope (n := 256) (by decide) (fun d => ∑ k : Fin 1024, (aX m c (ix3 s r k) : EReal) * aKv m c (ix2 k ⟨d.val, by omega⟩))
        (FloatOps.sitofp (F := Ideal) FTy.f32 (aPos m c (ix2 s r))) d := by
  refine (congrFun ((keys_entry m ρ c).trans (key_arr (V11 m ρ) c)) (ix3 s r d)).trans ?_
  refine Eq.trans ?_ (Spec.ropeLane_eq (n := 256) (by decide) _ _ d)
  exact Spec.ropeLane_congr (n := 256) (by decide)
    (fun e => Finset.sum_congr rfl fun k _ => congrArg₂ (fun a b : EReal => a * b) (congrFun (x_entry0 m ρ c) (ix3 s r k)) (weights_entry m ρ c k _))
    (fun l => cosine_at m ρ c s r l) (fun l => sine_at m ρ c s r l) d

theorem val_entry (s : Fin 4) (r : Fin 4096) (d : Fin 256) : @Eq EReal (V13 m ρ c main_v34_1 (ix3 s r d))
    (∑ k : Fin 1024, (aX m c (ix3 s r k) : EReal) * aKv m c (ix2 k ⟨256 + d.val, by omega⟩)) := by
  refine (congrFun ((vals_entry m ρ c).trans (value_arr (V11 m ρ) c)) (ix3 s r d)).trans ?_
  show @Eq EReal (valArr (V11 m ρ c main_arg0) (V11 m ρ c main_v33) (ix3 s r d)) _
  exact Finset.sum_congr rfl fun k _ => congrArg₂ (fun a b : EReal => a * b) (congrFun (x_entry0 m ρ c) (ix3 s r k)) (weights_entry m ρ c k _)

/-- The result array after the run is the layer of the arguments. -/
theorem kernel_value : (dat1 (V13 m ρ) c).arrAt 12 cfg1.N = fun i : S4x4096x1024.Idx =>
    layerAt (aX m c) (aPos m c) (aKv m c) (aWq m c) (aSink m c) (aWo m c) (aGain m c) (aOffset m c) (i 0) (i 1) (i 2) := by
  refine (layer_arr (V13 m ρ) c).trans (funext fun i => ?_)
  refine Spec.layerRow_congr (fun s e => congrFun (x_entry1 m ρ c) (ix3 (i 0) s e)) (fun s e => ?_) (fun s d => key_entry m ρ c (i 0) s d)
    (fun s d => val_entry m ρ c (i 0) s d) (fun h => sinks_entry m ρ c h) (fun k e => wo_entry m ρ c k e) (fun e => gain_entry m ρ c e)
    (fun e => offset_entry m ρ c e) (i 1) (i 2)
  refine congrArg (fun z : EReal => z * Ideal.ofBits FTy.f32 1040187392#32) ?_
  refine Eq.trans ?_ (Spec.ropeLane_eq (n := 1024) (by decide) _ _ e)
  exact Spec.ropeLane_congr (n := 1024) (by decide)
    (fun e => Finset.sum_congr rfl fun k _ => congrArg₂ (fun a b : EReal => a * b) (congrFun (x_entry1 m ρ c) (ix3 (i 0) s k)) (wq_entry m ρ c k e))
    (fun l => cosine_entry m ρ c (i 0) s l) (fun l => sine_entry m ρ c (i 0) s l) e

end Cert.KernelIdeal.Hand

end
-- ==== Proof.RefLayout.lean ====
/- Reading the reference's layouts: an index from its coordinates, and arrays joined along an axis. -/
module

public import Idealize.ShloMosaic.Lib.Pipeline.Value
public import Idealize.ShloMosaic.Lib.Pointwise.Index

@[expose] public section

namespace Cert.ReferenceIdeal.Hand

open Idealize.ShloMosaic

/-- An index is the one with its coordinates. -/
theorem at1 {n0 : ℕ} (f : (⟨1, ![n0]⟩ : Shape).Idx) (a : Fin n0) (h0 : (f 0).val = a.val) : f = ix1 a :=
  (eq_ix1 f).trans (congrArg ix1 (Fin.ext h0))

theorem at2 {n0 n1 : ℕ} (f : (⟨2, ![n0, n1]⟩ : Shape).Idx) (a : Fin n0) (b : Fin n1) (h0 : (f 0).val = a.val) (h1 : (f 1).val = b.val) :
    f = ix2 a b := (eq_ix2 f).trans (by rw [show f 0 = a from Fin.ext h0, show f 1 = b from Fin.ext h1])

theorem at3 {n0 n1 n2 : ℕ} (f : (⟨3, ![n0, n1, n2]⟩ : Shape).Idx) (a : Fin n0) (b : Fin n1) (c : Fin n2) (h0 : (f 0).val = a.val)
    (h1 : (f 1).val = b.val) (h2 : (f 2).val = c.val) : f = ix3 a b c :=
  (eq_ix3 f).trans (by rw [show f 0 = a from Fin.ext h0, show f 1 = b from Fin.ext h1, show f 2 = c from Fin.ext h2])

theorem at4 {n0 n1 n2 n3 : ℕ} (f : (⟨4, ![n0, n1, n2, n3]⟩ : Shape).Idx) (a : Fin n0) (b : Fin n1) (c : Fin n2) (d : Fin n3)
    (h0 : (f 0).val = a.val) (h1 : (f 1).val = b.val) (h2 : (f 2).val = c.val) (h3 : (f 3).val = d.val) : f = ix4 a b c d :=
  (eq_ix4 f).trans (by
    rw [show f 0 = a from Fin.ext h0, show f 1 = b from Fin.ext h1, show f 2 = c from Fin.ext h2, show f 3 = d from Fin.ext h3])

theorem at5 {n0 n1 n2 n3 n4 : ℕ} (f : (⟨5, ![n0, n1, n2, n3, n4]⟩ : Shape).Idx) (a : Fin n0) (b : Fin n1) (c : Fin n2) (d : Fin n3) (e : Fin n4)
    (h0 : (f 0).val = a.val) (h1 : (f 1).val = b.val) (h2 : (f 2).val = c.val) (h3 : (f 3).val = d.val) (h4 : (f 4).val = e.val) :
    f = ix5 a b c d e :=
  (eq_ix5 f).trans (by
    rw [show f 0 = a from Fin.ext h0, show f 1 = b from Fin.ext h1, show f 2 = c from Fin.ext h2, show f 3 = d from Fin.ext h3,
      show f 4 = e from Fin.ext h4])

theorem at6 {n0 n1 n2 n3 n4 n5 : ℕ} (f : (⟨6, ![n0, n1, n2, n3, n4, n5]⟩ : Shape).Idx) (a : Fin n0) (b : Fin n1) (c : Fin n2) (d : Fin n3)
    (e : Fin n4) (g : Fin n5) (h0 : (f 0).val = a.val) (h1 : (f 1).val = b.val) (h2 : (f 2).val = c.val) (h3 : (f 3).val = d.val)
    (h4 : (f 4).val = e.val) (h5 : (f 5).val = g.val) : f = ix6 a b c d e g :=
  (eq_ix6 f).trans (by
    rw [show f 0 = a from Fin.ext h0, show f 1 = b from Fin.ext h1, show f 2 = c from Fin.ext h2, show f 3 = d from Fin.ext h3,
      show f 4 = e from Fin.ext h4, show f 5 = g from Fin.ext h5])

variable {α : Type}

/-- Two arrays joined along their last axis: the first's part. -/
theorem join_last_left {n0 n1 n2 p q r : ℕ} (x : (⟨4, ![n0, n1, n2, p]⟩ : Shape).Idx → α) (y : (⟨4, ![n0, n1, n2, q]⟩ : Shape).Idx → α)
    (hc : Shape.Concatenates [⟨4, ![n0, n1, n2, p]⟩, ⟨4, ![n0, n1, n2, q]⟩] (⟨4, ![n0, n1, n2, r]⟩ : Shape) 3) (a : Fin n0) (b : Fin n1) (c : Fin n2)
    (d : Fin r) (e : Fin p) (he : e.val = d.val) :
    concatenate (⟨4, ![n0, n1, n2, r]⟩ : Shape) 3 [⟨_, x⟩, ⟨_, y⟩] hc (ix4 a b c d) = x (ix4 a b c e) :=
  concatenate_pair_apply_left 3 x y hc (ix4 a b c d) rfl (ix4 a b c e) fun i => match i with
    | ⟨0, _⟩ => rfl | ⟨1, _⟩ => rfl | ⟨2, _⟩ => rfl | ⟨3, _⟩ => he

/-- The second's part. -/
theorem join_last_right {n0 n1 n2 p q r : ℕ} (x : (⟨4, ![n0, n1, n2, p]⟩ : Shape).Idx → α) (y : (⟨4, ![n0, n1, n2, q]⟩ : Shape).Idx → α)
    (hc : Shape.Concatenates [⟨4, ![n0, n1, n2, p]⟩, ⟨4, ![n0, n1, n2, q]⟩] (⟨4, ![n0, n1, n2, r]⟩ : Shape) 3) (a : Fin n0) (b : Fin n1) (c : Fin n2)
    (d : Fin r) (e : Fin q) (he : e.val + p = d.val) :
    concatenate (⟨4, ![n0, n1, n2, r]⟩ : Shape) 3 [⟨_, x⟩, ⟨_, y⟩] hc (ix4 a b c d) = y (ix4 a b c e) :=
  concatenate_pair_apply_right 3 x y hc (ix4 a b c d) rfl rfl (ix4 a b c e) (fun i => match i with
    | ⟨0, _⟩ => fun _ => rfl | ⟨1, _⟩ => fun _ => rfl | ⟨2, _⟩ => fun _ => rfl | ⟨3, _⟩ => fun hn => absurd rfl hn) he

/-- Two arrays joined along their second axis: the first's part. -/
theorem join_rows_left {n0 n2 n3 p q r : ℕ} (x : (⟨4, ![n0, p, n2, n3]⟩ : Shape).Idx → α) (y : (⟨4, ![n0, q, n2, n3]⟩ : Shape).Idx → α)
    (hc : Shape.Concatenates [⟨4, ![n0, p, n2, n3]⟩, ⟨4, ![n0, q, n2, n3]⟩] (⟨4, ![n0, r, n2, n3]⟩ : Shape) 1) (a : Fin n0) (d : Fin r) (b : Fin n2)
    (c : Fin n3) (e : Fin p) (he : e.val = d.val) :
    concatenate (⟨4, ![n0, r, n2, n3]⟩ : Shape) 1 [⟨_, x⟩, ⟨_, y⟩] hc (ix4 a d b c) = x (ix4 a e b c) :=
  concatenate_pair_apply_left 1 x y hc (ix4 a d b c) rfl (ix4 a e b c) fun i => match i with
    | ⟨0, _⟩ => rfl | ⟨1, _⟩ => he | ⟨2, _⟩ => rfl | ⟨3, _⟩ => rfl

/-- The second's part. -/
theorem join_rows_right {n0 n2 n3 p q r : ℕ} (x : (⟨4, ![n0, p, n2, n3]⟩ : Shape).Idx → α) (y : (⟨4, ![n0, q, n2, n3]⟩ : Shape).Idx → α)
    (hc : Shape.Concatenates [⟨4, ![n0, p, n2, n3]⟩, ⟨4, ![n0, q, n2, n3]⟩] (⟨4, ![n0, r, n2, n3]⟩ : Shape) 1) (a : Fin n0) (d : Fin r) (b : Fin n2)
    (c : Fin n3) (e : Fin q) (he : e.val + p = d.val) :
    concatenate (⟨4, ![n0, r, n2, n3]⟩ : Shape) 1 [⟨_, x⟩, ⟨_, y⟩] hc (ix4 a d b c) = y (ix4 a e b c) :=
  concatenate_pair_apply_right 1 x y hc (ix4 a d b c) rfl rfl (ix4 a e b c) (fun i => match i with
    | ⟨0, _⟩ => fun _ => rfl | ⟨1, _⟩ => fun hn => absurd rfl hn | ⟨2, _⟩ => fun _ => rfl | ⟨3, _⟩ => fun _ => rfl) he

/-- Two arrays of blocks joined along the blocks' rows: the first's part. -/
theorem join_block_left {n0 n1 n3 n4 p q r : ℕ} (x : (⟨5, ![n0, n1, p, n3, n4]⟩ : Shape).Idx → α) (y : (⟨5, ![n0, n1, q, n3, n4]⟩ : Shape).Idx → α)
    (hc : Shape.Concatenates [⟨5, ![n0, n1, p, n3, n4]⟩, ⟨5, ![n0, n1, q, n3, n4]⟩] (⟨5, ![n0, n1, r, n3, n4]⟩ : Shape) 2) (a : Fin n0) (b : Fin n1)
    (d : Fin r) (c : Fin n3) (f : Fin n4) (e : Fin p) (he : e.val = d.val) :
    concatenate (⟨5, ![n0, n1, r, n3, n4]⟩ : Shape) 2 [⟨_, x⟩, ⟨_, y⟩] hc (ix5 a b d c f) = x (ix5 a b e c f) :=
  concatenate_pair_apply_left 2 x y hc (ix5 a b d c f) rfl (ix5 a b e c f) fun i => match i with
    | ⟨0, _⟩ => rfl | ⟨1, _⟩ => rfl | ⟨2, _⟩ => he | ⟨3, _⟩ => rfl | ⟨4, _⟩ => rfl

/-- The second's part. -/
theorem join_block_right {n0 n1 n3 n4 p q r : ℕ} (x : (⟨5, ![n0, n1, p, n3, n4]⟩ : Shape).Idx → α) (y : (⟨5, ![n0, n1, q, n3, n4]⟩ : Shape).Idx → α)
    (hc : Shape.Concatenates [⟨5, ![n0, n1, p, n3, n4]⟩, ⟨5, ![n0, n1, q, n3, n4]⟩] (⟨5, ![n0, n1, r, n3, n4]⟩ : Shape) 2) (a : Fin n0) (b : Fin n1)
    (d : Fin r) (c : Fin n3) (f : Fin n4) (e : Fin q) (he : e.val + p = d.val) :
    concatenate (⟨5, ![n0, n1, r, n3, n4]⟩ : Shape) 2 [⟨_, x⟩, ⟨_, y⟩] hc (ix5 a b d c f) = y (ix5 a b e c f) :=
  concatenate_pair_apply_right 2 x y hc (ix5 a b d c f) rfl rfl (ix5 a b e c f) (fun i => match i with
    | ⟨0, _⟩ => fun _ => rfl | ⟨1, _⟩ => fun _ => rfl | ⟨2, _⟩ => fun hn => absurd rfl hn | ⟨3, _⟩ => fun _ => rfl | ⟨4, _⟩ => fun _ => rfl) he

end Cert.ReferenceIdeal.Hand

end
-- ==== Proof.RefRope.lean ====
/- What the reference's keys, values and queries hold: products of the rows with the weights, with the heads of keys and queries rotated. -/
module

public import proofs.«01_k».proof.Proof.Gen.ReferenceIdeal.Read
public import proofs.«01_k».proof.Proof.RefLayout
public import proofs.«01_k».proof.Proof.Rope

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic

variable (x0 : Vec Ideal S4x4096x1024 .f32) (x1 : IVec S4x4096 32) (x2 : Vec Ideal S1024x512 .f32) (x3 : Vec Ideal S1x1024x1024 .f32)
variable (b : Fin 4) (s : Fin 4096)

/-- A position as a number. -/
abbrev posOf : EReal := FloatOps.sitofp (F := Ideal) FTy.f32 (x1 (ix2 b s))

/-- The rows' products with the key and value weights. -/
theorem kv_dot (e : Fin 512) : @Eq EReal (val_main_v0 (F := Ideal) x0 x2 (ix3 b s e)) (∑ k : Fin 1024, (x0 (ix3 b s k) : EReal) * x2 (ix2 k e)) :=
  (val_main_v0_apply x0 x2 (ix3 b s e)).trans (Finset.sum_congr rfl fun k _ => congrArg₂ (fun a b : EReal => a * b)
    (congrArg x0 (at3 _ b s k rfl rfl rfl)) (congrArg x2 (at2 _ k e rfl rfl)))

/-- The keys' and values' features lie one after another in a row of products. -/
theorem kv_split (u : Fin 2) (h : Fin 4) (d : Fin 64) : val_main_v1 (F := Ideal) x0 x2 (ix5 b s u h d)
    = val_main_v0 (F := Ideal) x0 x2 (ix3 b s ⟨u.val * 256 + h.val * 64 + d.val, by omega⟩) :=
  (val_main_v1_apply x0 x2 _).trans (congrArg (val_main_v0 (F := Ideal) x0 x2) (at3 _ b s _
    (by show ((((b.val * 4096 + s.val) * 2 + u.val) * 4 + h.val) * 64 + d.val) / 2097152 = b.val; omega)
    (by show ((((b.val * 4096 + s.val) * 2 + u.val) * 4 + h.val) * 64 + d.val) / 512 % 4096 = s.val; omega)
    (by show ((((b.val * 4096 + s.val) * 2 + u.val) * 4 + h.val) * 64 + d.val) % 512 = u.val * 256 + h.val * 64 + d.val; omega)))

/-- The keys before the rotation. -/
theorem key_at (h : Fin 4) (d : Fin 64) : @Eq EReal (val_main_v3 (F := Ideal) x0 x2 (ix4 b s h d))
    (∑ k : Fin 1024, (x0 (ix3 b s k) : EReal) * x2 (ix2 k ⟨h.val * 64 + d.val, by omega⟩)) := by
  have e3 : idx_main_v3 (ix4 b s h d) = ix5 b s 0 h d := at5 _ b s 0 h d
    (by show (((b.val * 4096 + s.val) * 4 + h.val) * 64 + d.val) / 1048576 = b.val; omega)
    (by show (((b.val * 4096 + s.val) * 4 + h.val) * 64 + d.val) / 256 % 4096 = s.val; omega) rfl
    (by show (((b.val * 4096 + s.val) * 4 + h.val) * 64 + d.val) / 64 % 4 = h.val; omega)
    (by show (((b.val * 4096 + s.val) * 4 + h.val) * 64 + d.val) % 64 = d.val; omega)
  have e2 : idx_main_v2 (ix5 b s 0 h d) = ix5 b s 0 h d := at5 _ b s 0 h d rfl rfl rfl rfl rfl
  rw [val_main_v3_apply, e3, val_main_v2_apply, e2, kv_split, kv_dot]
  exact Finset.sum_congr rfl fun k _ => congrArg (fun e => (x0 (ix3 b s k) : EReal) * x2 (ix2 k e)) (Fin.ext (by show 0 * 256 + h.val * 64 + d.val = h.val * 64 + d.val; omega))

/-- The values. -/
theorem value_at (h : Fin 4) (d : Fin 64) : @Eq EReal (val_main_v39 (F := Ideal) x0 x2 (ix4 b s h d))
    (∑ k : Fin 1024, (x0 (ix3 b s k) : EReal) * x2 (ix2 k ⟨256 + (h.val * 64 + d.val), by omega⟩)) := by
  have e3 : idx_main_v39 (ix4 b s h d) = ix5 b s 0 h d := at5 _ b s 0 h d
    (by show (((b.val * 4096 + s.val) * 4 + h.val) * 64 + d.val) / 1048576 = b.val; omega)
    (by show (((b.val * 4096 + s.val) * 4 + h.val) * 64 + d.val) / 256 % 4096 = s.val; omega) rfl
    (by show (((b.val * 4096 + s.val) * 4 + h.val) * 64 + d.val) / 64 % 4 = h.val; omega)
    (by show (((b.val * 4096 + s.val) * 4 + h.val) * 64 + d.val) % 64 = d.val; omega)
  have e2 : idx_main_v38 (ix5 b s 0 h d) = ix5 b s 1 h d := at5 _ b s 1 h d rfl rfl rfl rfl rfl
  rw [val_main_v39_apply, e3, val_main_v38_apply, e2, kv_split, kv_dot]
  exact Finset.sum_congr rfl fun k _ => congrArg (fun e => (x0 (ix3 b s k) : EReal) * x2 (ix2 k e)) (Fin.ext (by show 1 * 256 + h.val * 64 + d.val = 256 + (h.val * 64 + d.val); omega))

/-- The queries before the rotation. -/
theorem query_at (h : Fin 16) (d : Fin 64) : @Eq EReal (val_main_v42 (F := Ideal) x0 x3 (ix4 b s h d))
    (∑ k : Fin 1024, (x0 (ix3 b s k) : EReal) * x3 (ix3 0 k ⟨h.val * 64 + d.val, by omega⟩)) := by
  have e2 : idx_main_v42 (ix4 b s h d) = ix3 b s ⟨h.val * 64 + d.val, by omega⟩ := at3 _ b s _
    (by show (((b.val * 4096 + s.val) * 16 + h.val) * 64 + d.val) / 4194304 = b.val; omega)
    (by show (((b.val * 4096 + s.val) * 16 + h.val) * 64 + d.val) / 1024 % 4096 = s.val; omega)
    (by show (((b.val * 4096 + s.val) * 16 + h.val) * 64 + d.val) % 1024 = h.val * 64 + d.val; omega)
  rw [val_main_v42_apply, e2]
  refine (val_main_v41_apply x0 x3 _).trans (Finset.sum_congr rfl fun k _ => congrArg₂ (fun a b : EReal => a * b)
    (congrArg x0 (at3 _ b s k rfl rfl rfl)) ?_)
  rw [val_main_v40_apply]
  exact congrArg x3 (at3 _ 0 k _ rfl
    (by show (k.val * 1024 + (h.val * 64 + d.val)) / 1024 % 1024 = k.val; omega)
    (by show (k.val * 1024 + (h.val * 64 + d.val)) % 1024 = h.val * 64 + d.val; omega))

/-- The angles' frequencies. -/
theorem freq_at (j : Fin 8) : @Eq EReal (val_main_v11 (F := Ideal) (ix1 j)) (Spec.freq j) := by
  simp only [val_main_v11_apply, val_main_v10_apply, val_main_v9_apply, val_main_v8_apply, val_main_v7_apply, val_main_v6_apply,
    val_main_v5_apply, val_main_cst_apply, val_main_cst_0_apply, val_main_cst_1_apply]
  rfl

/-- The queries' frequencies are written out again, with the same values. -/
theorem freq_again : val_main_v50 (F := Ideal) = val_main_v11 (F := Ideal) := rfl

theorem angle_at (j : Fin 8) : @Eq EReal (val_main_v17 (F := Ideal) x1 (ix3 b s j)) (posOf x1 b s * Spec.freq j) := by
  have h : ∀ k, @Eq EReal (val_main_v16 (F := Ideal) (ix3 b s k)) (Spec.freq k) := fun k => by
    rw [val_main_v16_apply, val_main_v14_apply]
    exact (congrArg (val_main_v11 (F := Ideal)) (at1 _ k rfl)).trans (freq_at k)
  rw [val_main_v17_apply, h, val_main_v15_apply, val_main_v13_apply, val_main_v12_apply]
  exact congrArg (fun i => FloatOps.sitofp (F := Ideal) FTy.f32 (x1 i) * Spec.freq j) (at2 _ b s rfl rfl)

theorem cosine_at (j : Fin 8) : @Eq EReal (val_main_v18 (F := Ideal) x1 (ix3 b s j)) (Ideal.cos (posOf x1 b s * Spec.freq j)) :=
  (val_main_v18_apply x1 _).trans (congrArg Ideal.cos (angle_at x1 b s j))

theorem sine_at (j : Fin 8) : @Eq EReal (val_main_v20 (F := Ideal) x1 (ix3 b s j)) (Ideal.sin (posOf x1 b s * Spec.freq j)) :=
  (val_main_v20_apply x1 _).trans (congrArg Ideal.sin (angle_at x1 b s j))

theorem cosine_again : val_main_v57 (F := Ideal) x1 = val_main_v18 (F := Ideal) x1 := rfl

theorem sine_again : val_main_v59 (F := Ideal) x1 = val_main_v20 (F := Ideal) x1 := rfl

/-- A head whose parts are those of the rotation is the rotated head. -/
theorem rope_parts (f y : Fin 64 → EReal) (p : EReal)
    (lo : ∀ j : Fin 8, y ⟨j.val, by omega⟩ = f ⟨j.val, by omega⟩ * Ideal.cos (p * Spec.freq j) - f ⟨j.val + 8, by omega⟩ * Ideal.sin (p * Spec.freq j))
    (mid : ∀ j : Fin 8, y ⟨j.val + 8, by omega⟩ = f ⟨j.val + 8, by omega⟩ * Ideal.cos (p * Spec.freq j) + f ⟨j.val, by omega⟩ * Ideal.sin (p * Spec.freq j))
    (hi : ∀ d : Fin 64, 16 ≤ d.val → y d = f d) (d : Fin 64) : y d = Spec.rope f p d := by
  unfold Spec.rope
  by_cases h8 : d.val < 8
  · rw [dif_pos h8]; exact lo ⟨d.val, h8⟩
  · rw [dif_neg h8]
    by_cases h16 : d.val < 16
    · have e : (⟨d.val - 8 + 8, by omega⟩ : Fin 64) = d := Fin.ext (by show d.val - 8 + 8 = d.val; omega)
      rw [dif_pos h16]
      have h := mid ⟨d.val - 8, by omega⟩
      dsimp only at h
      rw [e] at h
      exact h
    · rw [dif_neg h16]; exact hi d (by omega)

/-- The rotated keys. -/
theorem key_rope (h : Fin 4) (d : Fin 64) : @Eq EReal (val_main_v37 (F := Ideal) x0 x1 x2 (ix4 b s h d))
    (Spec.rope (fun d => val_main_v3 (F := Ideal) x0 x2 (ix4 b s h d)) (posOf x1 b s) d) := by
  have ec : ∀ j : Fin 8, idx_main_v19 (idx_main_v25 (ix4 b s h j)) = ix3 b s j := fun j => at3 _ b s j rfl rfl rfl
  have es : ∀ j : Fin 8, idx_main_v21 (idx_main_v27 (ix4 b s h j)) = ix3 b s j := fun j => at3 _ b s j rfl rfl rfl
  have ec' : ∀ j : Fin 8, idx_main_v19 (idx_main_v30 (ix4 b s h j)) = ix3 b s j := fun j => at3 _ b s j rfl rfl rfl
  have es' : ∀ j : Fin 8, idx_main_v21 (idx_main_v32 (ix4 b s h j)) = ix3 b s j := fun j => at3 _ b s j rfl rfl rfl
  have e1 : ∀ j : Fin 8, idx_main_v22 (idx_main_v23 (ix4 b s h j)) = ix4 b s h ⟨j.val, by omega⟩ := fun j => at4 _ b s h _ rfl rfl rfl rfl
  have e2 : ∀ j : Fin 8, idx_main_v22 (idx_main_v24 (ix4 b s h j)) = ix4 b s h ⟨j.val + 8, by omega⟩ := fun j =>
    at4 _ b s h _ rfl rfl rfl (by show 8 + j.val = j.val + 8; omega)
  refine rope_parts _ (fun d => val_main_v37 (F := Ideal) x0 x1 x2 (ix4 b s h d)) _ (fun j => ?_) (fun j => ?_) (fun d hd => ?_) d
  · have h1 : val_main_v37 (F := Ideal) x0 x1 x2 (ix4 b s h ⟨j.val, by omega⟩)
        = val_main_v35 (F := Ideal) x0 x1 x2 (ix4 b s h (⟨j.val, by omega⟩ : Fin 16)) := join_last_left _ _ _ b s h _ _ rfl
    have h2 : val_main_v35 (F := Ideal) x0 x1 x2 (ix4 b s h (⟨j.val, by omega⟩ : Fin 16)) = val_main_v29 (F := Ideal) x0 x1 x2 (ix4 b s h j) :=
      join_last_left _ _ _ b s h _ _ rfl
    rw [h1, h2]
    simp only [val_main_v29_apply, val_main_v26_apply, val_main_v28_apply, val_main_v23_apply, val_main_v24_apply, val_main_v22_apply,
      val_main_v25_apply, val_main_v27_apply, val_main_v19_apply, val_main_v21_apply, ec, es, e1, e2, cosine_at, sine_at]
    rfl
  · have h1 : val_main_v37 (F := Ideal) x0 x1 x2 (ix4 b s h ⟨j.val + 8, by omega⟩)
        = val_main_v35 (F := Ideal) x0 x1 x2 (ix4 b s h (⟨j.val + 8, by omega⟩ : Fin 16)) := join_last_left _ _ _ b s h _ _ rfl
    have h2 : val_main_v35 (F := Ideal) x0 x1 x2 (ix4 b s h (⟨j.val + 8, by omega⟩ : Fin 16)) = val_main_v34 (F := Ideal) x0 x1 x2 (ix4 b s h j) :=
      join_last_right _ _ _ b s h _ _ rfl
    rw [h1, h2]
    simp only [val_main_v34_apply, val_main_v31_apply, val_main_v33_apply, val_main_v23_apply, val_main_v24_apply, val_main_v22_apply,
      val_main_v30_apply, val_main_v32_apply, val_main_v19_apply, val_main_v21_apply, ec', es', e1, e2, cosine_at, sine_at]
    rfl
  · have hl : val_main_v37 (F := Ideal) x0 x1 x2 (ix4 b s h d) = val_main_v36 (F := Ideal) x0 x2 (ix4 b s h ⟨d.val - 16, by omega⟩) :=
      join_last_right _ _ _ b s h d _ (by show d.val - 16 + 16 = d.val; omega)
    show val_main_v37 (F := Ideal) x0 x1 x2 (ix4 b s h d) = val_main_v3 (F := Ideal) x0 x2 (ix4 b s h d)
    rw [hl, val_main_v36_apply]
    exact congrArg (val_main_v3 (F := Ideal) x0 x2) (at4 _ b s h d rfl rfl rfl (by show 16 + (d.val - 16) = d.val; omega))

/-- The rotated queries. -/
theorem query_rope (h : Fin 16) (d : Fin 64) : @Eq EReal (val_main_v76 (F := Ideal) x0 x1 x3 (ix4 b s h d))
    (Spec.rope (fun d => val_main_v42 (F := Ideal) x0 x3 (ix4 b s h d)) (posOf x1 b s) d) := by
  have ec : ∀ j : Fin 8, idx_main_v58 (idx_main_v64 (ix4 b s h j)) = ix3 b s j := fun j => at3 _ b s j rfl rfl rfl
  have es : ∀ j : Fin 8, idx_main_v60 (idx_main_v66 (ix4 b s h j)) = ix3 b s j := fun j => at3 _ b s j rfl rfl rfl
  have ec' : ∀ j : Fin 8, idx_main_v58 (idx_main_v69 (ix4 b s h j)) = ix3 b s j := fun j => at3 _ b s j rfl rfl rfl
  have es' : ∀ j : Fin 8, idx_main_v60 (idx_main_v71 (ix4 b s h j)) = ix3 b s j := fun j => at3 _ b s j rfl rfl rfl
  have e1 : ∀ j : Fin 8, idx_main_v61 (idx_main_v62 (ix4 b s h j)) = ix4 b s h ⟨j.val, by omega⟩ := fun j => at4 _ b s h _ rfl rfl rfl rfl
  have e2 : ∀ j : Fin 8, idx_main_v61 (idx_main_v63 (ix4 b s h j)) = ix4 b s h ⟨j.val + 8, by omega⟩ := fun j =>
    at4 _ b s h _ rfl rfl rfl (by show 8 + j.val = j.val + 8; omega)
  refine rope_parts _ (fun d => val_main_v76 (F := Ideal) x0 x1 x3 (ix4 b s h d)) _ (fun j => ?_) (fun j => ?_) (fun d hd => ?_) d
  · have h1 : val_main_v76 (F := Ideal) x0 x1 x3 (ix4 b s h ⟨j.val, by omega⟩)
        = val_main_v74 (F := Ideal) x0 x1 x3 (ix4 b s h (⟨j.val, by omega⟩ : Fin 16)) := join_last_left _ _ _ b s h _ _ rfl
    have h2 : val_main_v74 (F := Ideal) x0 x1 x3 (ix4 b s h (⟨j.val, by omega⟩ : Fin 16)) = val_main_v68 (F := Ideal) x0 x1 x3 (ix4 b s h j) :=
      join_last_left _ _ _ b s h _ _ rfl
    rw [h1, h2]
    simp only [val_main_v68_apply, val_main_v65_apply, val_main_v67_apply, val_main_v62_apply, val_main_v63_apply, val_main_v61_apply,
      val_main_v64_apply, val_main_v66_apply, val_main_v58_apply, val_main_v60_apply, ec, es, e1, e2, cosine_again, sine_again, cosine_at, sine_at]
    rfl
  · have h1 : val_main_v76 (F := Ideal) x0 x1 x3 (ix4 b s h ⟨j.val + 8, by omega⟩)
        = val_main_v74 (F := Ideal) x0 x1 x3 (ix4 b s h (⟨j.val + 8, by omega⟩ : Fin 16)) := join_last_left _ _ _ b s h _ _ rfl
    have h2 : val_main_v74 (F := Ideal) x0 x1 x3 (ix4 b s h (⟨j.val + 8, by omega⟩ : Fin 16)) = val_main_v73 (F := Ideal) x0 x1 x3 (ix4 b s h j) :=
      join_last_right _ _ _ b s h _ _ rfl
    rw [h1, h2]
    simp only [val_main_v73_apply, val_main_v70_apply, val_main_v72_apply, val_main_v62_apply, val_main_v63_apply, val_main_v61_apply,
      val_main_v69_apply, val_main_v71_apply, val_main_v58_apply, val_main_v60_apply, ec', es', e1, e2, cosine_again, sine_again, cosine_at, sine_at]
    rfl
  · have hl : val_main_v76 (F := Ideal) x0 x1 x3 (ix4 b s h d) = val_main_v75 (F := Ideal) x0 x3 (ix4 b s h ⟨d.val - 16, by omega⟩) :=
      join_last_right _ _ _ b s h d _ (by show d.val - 16 + 16 = d.val; omega)
    show val_main_v76 (F := Ideal) x0 x1 x3 (ix4 b s h d) = val_main_v42 (F := Ideal) x0 x3 (ix4 b s h d)
    rw [hl, val_main_v75_apply]
    exact congrArg (val_main_v42 (F := Ideal) x0 x3) (at4 _ b s h d rfl rfl rfl (by show 16 + (d.val - 16) = d.val; omega))

/-- A head of a row of heads. -/
theorem headRope_at {n : ℕ} (hn : n % 128 = 0) (P : Fin n → EReal) (p : EReal) (h : ℕ) (d : Fin 64) (hd : h * 64 + 64 ≤ n) :
    Spec.rope (fun d => P ⟨h * 64 + d.val, by omega⟩) p d = Spec.headRope hn P p ⟨h * 64 + d.val, by omega⟩ := by
  have h1 : (h * 64 + d.val) / 64 = h := by omega
  have h2 : (⟨(h * 64 + d.val) % 64, by omega⟩ : Fin 64) = d := Fin.ext (by show (h * 64 + d.val) % 64 = d.val; omega)
  unfold Spec.headRope
  dsimp only
  simp only [h1, h2]

/-- The rotated keys, from the arguments. -/
theorem key_value (h : Fin 4) (d : Fin 64) : @Eq EReal (val_main_v37 (F := Ideal) x0 x1 x2 (ix4 b s h d))
    (Spec.headRope (n := 256) (by decide) (fun d => ∑ k : Fin 1024, (x0 (ix3 b s k) : EReal) * x2 (ix2 k ⟨d.val, by omega⟩)) (posOf x1 b s)
      ⟨h.val * 64 + d.val, by omega⟩) :=
  (key_rope x0 x1 x2 b s h d).trans ((congrArg (fun f => Spec.rope f (posOf x1 b s) d) (funext fun d => key_at x0 x2 b s h d)).trans
    (headRope_at (n := 256) (by decide) (fun d => ∑ k : Fin 1024, (x0 (ix3 b s k) : EReal) * x2 (ix2 k ⟨d.val, by omega⟩)) _ h.val d (by omega)))

/-- The rotated queries, from the arguments. -/
theorem query_value (h : Fin 16) (d : Fin 64) : @Eq EReal (val_main_v76 (F := Ideal) x0 x1 x3 (ix4 b s h d))
    (Spec.headRope (n := 1024) (by decide) (fun e => ∑ k : Fin 1024, (x0 (ix3 b s k) : EReal) * x3 (ix3 0 k e)) (posOf x1 b s)
      ⟨h.val * 64 + d.val, by omega⟩) :=
  (query_rope x0 x1 x3 b s h d).trans ((congrArg (fun f => Spec.rope f (posOf x1 b s) d) (funext fun d => query_at x0 x3 b s h d)).trans
    (headRope_at (n := 1024) (by decide) (fun e => ∑ k : Fin 1024, (x0 (ix3 b s k) : EReal) * x3 (ix3 0 k e)) _ h.val d (by omega)))

end Cert.ReferenceIdeal.Hand

end
-- ==== Proof.RefWindow.lean ====
/- The reference's windows of keys and values, and its mask. -/
module

public import proofs.«01_k».proof.Proof.RefRope
public import Idealize.ShloMosaic.Lib.ValueIdxRank6

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic

variable (x0 : Vec Ideal S4x4096x1024 .f32) (x1 : IVec S4x4096 32) (x2 : Vec Ideal S1024x512 .f32) (x3 : Vec Ideal S1x1024x1024 .f32)

/-- Rows with 128 rows of zeros before them. -/
def padded (y : Vec Ideal S4x4096x4x64 .f32) : Vec Ideal S4x4224x4x64 .f32 :=
  concatenate S4x4224x4x64 1 [⟨S4x128x4x64, (val_main_v79 (F := Ideal))⟩, ⟨S4x4096x4x64, y⟩] concatenates_S4x128x4x64_S4x4096x4x64_S4x4224x4x64_d1

/-- The padded rows in blocks of 128. -/
def blocks (y : Vec Ideal S4x4096x4x64 .f32) : Vec Ideal S4x33x128x4x64 .f32 :=
  shapeCast S4x33x128x4x64 (padded y) shapeCasts_S4x4224x4x64_S4x33x128x4x64

/-- Every block with the one before it. -/
def window (y : Vec Ideal S4x4096x4x64 .f32) : Vec Ideal S4x32x256x4x64 .f32 :=
  concatenate S4x32x256x4x64 2
    [⟨S4x32x128x4x64, extractStridedSlice S4x32x128x4x64 ![0, 0, 0, 0, 0] (blocks y) slices_S4x33x128x4x64_S4x32x128x4x64_0_0_0_0_0⟩,
     ⟨S4x32x128x4x64, extractStridedSlice S4x32x128x4x64 ![0, 1, 0, 0, 0] (blocks y) slices_S4x33x128x4x64_S4x32x128x4x64_0_1_0_0_0⟩]
    concatenates_S4x32x128x4x64_S4x32x128x4x64_S4x32x256x4x64_d2

theorem key_window : val_main_v86 (F := Ideal) x0 x1 x2 = window (val_main_v37 (F := Ideal) x0 x1 x2) := rfl

theorem value_window : val_main_v89 (F := Ideal) x0 x2 = window (val_main_v39 (F := Ideal) x0 x2) := rfl

variable (y : Vec Ideal S4x4096x4x64 .f32) (b : Fin 4)

theorem padded_at (r : Fin 4224) (h : Fin 4) (d : Fin 64) :
    padded y (ix4 b r h d) = if hr : 128 ≤ r.val then y (ix4 b ⟨r.val - 128, by omega⟩ h d) else (0 : EReal) := by
  by_cases hr : 128 ≤ r.val
  · rw [dif_pos hr]
    exact join_rows_right _ _ _ b r h d ⟨r.val - 128, by omega⟩ (by show r.val - 128 + 128 = r.val; omega)
  · rw [dif_neg hr]
    have hl : padded y (ix4 b r h d) = val_main_v79 (F := Ideal) (ix4 b (⟨r.val, by omega⟩ : Fin 128) h d) := join_rows_left _ _ _ b r h d _ rfl
    rw [hl, val_main_v79_apply, val_main_cst_5_apply]
    exact Ideal.ofBits_zero_f32

theorem blocks_at (c : Fin 33) (t : Fin 128) (h : Fin 4) (d : Fin 64) :
    blocks y (ix5 b c t h d) = padded y (ix4 b ⟨c.val * 128 + t.val, by omega⟩ h d) := by
  unfold blocks
  generalize padded y = z
  refine shapeCast_apply z _ _ _ ?_
  rw [Shape.rowMajor_val_four, Shape.rowMajor_val_five]
  show ((b.val * 4224 + (c.val * 128 + t.val)) * 4 + h.val) * 64 + d.val = (((b.val * 33 + c.val) * 128 + t.val) * 4 + h.val) * 64 + d.val
  omega

theorem window_padded (k : Fin 32) (t : Fin 256) (h : Fin 4) (d : Fin 64) :
    window y (ix5 b k t h d) = padded y (ix4 b ⟨k.val * 128 + t.val, by omega⟩ h d) := by
  unfold window
  by_cases ht : t.val < 128
  · rw [join_block_left _ _ _ b k t h d (⟨t.val, ht⟩ : Fin 128) rfl]
    refine (extractStridedSlice_apply ![0, 0, 0, 0, 0] (blocks y) slices_S4x33x128x4x64_S4x32x128x4x64_0_0_0_0_0 (ix5 b k (⟨t.val, ht⟩ : Fin 128) h d)
      (ix5 b ⟨k.val, by omega⟩ ⟨t.val, ht⟩ h d) (fun a => match a with
      | ⟨0, _⟩ => by show b.val = 0 + b.val; omega
      | ⟨1, _⟩ => by show k.val = 0 + k.val; omega
      | ⟨2, _⟩ => by show t.val = 0 + t.val; omega
      | ⟨3, _⟩ => by show h.val = 0 + h.val; omega
      | ⟨4, _⟩ => by show d.val = 0 + d.val; omega)).trans ?_
    exact blocks_at y b _ _ h d
  · rw [join_block_right _ _ _ b k t h d (⟨t.val - 128, by omega⟩ : Fin 128) (by show t.val - 128 + 128 = t.val; omega)]
    refine (extractStridedSlice_apply ![0, 1, 0, 0, 0] (blocks y) slices_S4x33x128x4x64_S4x32x128x4x64_0_1_0_0_0 (ix5 b k (⟨t.val - 128, by omega⟩ : Fin 128) h d)
      (ix5 b ⟨1 + k.val, by omega⟩ ⟨t.val - 128, by omega⟩ h d) (fun a => match a with
      | ⟨0, _⟩ => by show b.val = 0 + b.val; omega
      | ⟨1, _⟩ => by show 1 + k.val = 1 + k.val; omega
      | ⟨2, _⟩ => by show t.val - 128 = 0 + (t.val - 128); omega
      | ⟨3, _⟩ => by show h.val = 0 + h.val; omega
      | ⟨4, _⟩ => by show d.val = 0 + d.val; omega)).trans ?_
    refine (blocks_at y b _ _ h d).trans (congrArg (fun r => padded y (ix4 b r h d)) (Fin.ext ?_))
    show (1 + k.val) * 128 + (t.val - 128) = k.val * 128 + t.val
    omega

/-- A window's rows are those that the queries of its block see. -/
theorem window_at (K : Fin 4096 → Fin 256 → EReal) (hK : ∀ r h d, y (ix4 b r h d) = K r ⟨h.val * 64 + d.val, by omega⟩) (s : Fin 4096)
    (t : Fin 256) (h : Fin 4) (d : Fin 64) :
    window y (ix5 b ⟨s.val / 128, by omega⟩ t h d) = Spec.seenRow K s t ⟨h.val * 64 + d.val, by omega⟩ := by
  rw [window_padded, padded_at]
  unfold Spec.seenRow
  by_cases hr : 128 ≤ s.val / 128 * 128 + t.val
  · rw [dif_pos hr, dif_pos hr]; exact hK _ h d
  · rw [dif_neg hr, dif_neg hr]

/-- The queries in blocks. -/
theorem query_block (s : Fin 4096) (g r : Fin 4) (d : Fin 64) :
    val_main_v78 (F := Ideal) x0 x1 x3 (ix6 b ⟨s.val / 128, by omega⟩ ⟨s.val % 128, by omega⟩ g r d)
      = val_main_v76 (F := Ideal) x0 x1 x3 (ix4 b s ⟨g.val * 4 + r.val, by omega⟩ d) := by
  unfold val_main_v78
  generalize val_main_v76 (F := Ideal) x0 x1 x3 = z
  refine shapeCast_apply z _ _ _ ?_
  rw [Shape.rowMajor_val_four, Shape.rowMajor_val_six]
  show ((b.val * 4096 + s.val) * 16 + (g.val * 4 + r.val)) * 64 + d.val
    = ((((b.val * 32 + s.val / 128) * 128 + s.val % 128) * 4 + g.val) * 4 + r.val) * 64 + d.val
  omega

/-- The band, as a word computes it. -/
theorem band_at (q : Fin 128) (t : Fin 256) : val_main_v107 (F := Ideal) (ix2 q t) = if q.val < t.val ∧ t.val ≤ q.val + 128 then 1#1 else 0#1 := by
  have hw : ∀ q : Fin 128, ∀ t : Fin 256,
      IntOp.andi (IntOp.cmpi .sge (IntOp.subi (IntOp.addi (BitVec.ofNat 32 q.val) 128#32) (BitVec.ofNat 32 t.val)) 0#32)
        (IntOp.cmpi .slt (IntOp.subi (IntOp.addi (BitVec.ofNat 32 q.val) 128#32) (BitVec.ofNat 32 t.val)) 128#32)
        = if q.val < t.val ∧ t.val ≤ q.val + 128 then 1#1 else 0#1 := by decide +kernel
  simp only [val_main_v107_apply, val_main_v104_apply, val_main_v106_apply, val_main_v102_apply, val_main_v100_apply, val_main_v101_apply,
    val_main_v97_apply, val_main_v95_apply, val_main_v96_apply, val_main_v99_apply, val_main_v94_apply, val_main_v98_apply, val_main_v103_apply,
    val_main_v105_apply, val_main_c_apply, val_main_c_7_apply, val_main_c_8_apply]
  exact hw q t

/-- The positions before the start, as words compute them. -/
theorem before_at (k : Fin 32) (t : Fin 256) : val_main_v119 (F := Ideal) (ix3 k 0 t) = if 128 ≤ t.val ∨ 0 < k.val then 1#1 else 0#1 := by
  have hw : ∀ k : Fin 32, ∀ t : Fin 256,
      ~~~(IntOp.andi (IntOp.cmpi .eq (BitVec.ofNat 32 k.val) 0#32) (IntOp.cmpi .slt (BitVec.ofNat 32 t.val) 128#32))
        = if 128 ≤ t.val ∨ 0 < k.val then 1#1 else 0#1 := by decide +kernel
  simp only [val_main_v119_apply, val_main_v117_apply, val_main_v115_apply, val_main_v116_apply, val_main_v111_apply, val_main_v114_apply,
    val_main_v109_apply, val_main_v108_apply, val_main_v110_apply, val_main_v112_apply, val_main_v99_apply, val_main_v98_apply, val_main_v113_apply,
    val_main_c_9_apply, val_main_c_10_apply]
  exact hw k t

/-- The mask: what a query sees. -/
theorem mask_at (k : Fin 32) (q : Fin 128) (t : Fin 256) :
    val_main_v122 (F := Ideal) (ix3 k q t) = if Spec.sees k.val q.val t.val then 1#1 else 0#1 := by
  have hb : val_main_v120 (F := Ideal) (ix3 k q t) = val_main_v107 (F := Ideal) (ix2 q t) := by
    rw [val_main_v120_apply, val_main_v118_apply]
    exact congrArg (val_main_v107 (F := Ideal)) (at2 _ q t rfl rfl)
  have hf : val_main_v121 (F := Ideal) (ix3 k q t) = val_main_v119 (F := Ideal) (ix3 k 0 t) := by
    rw [val_main_v121_apply]
    exact congrArg (val_main_v119 (F := Ideal)) (at3 _ k 0 t rfl rfl rfl)
  rw [val_main_v122_apply, hb, hf, band_at, before_at]
  unfold Spec.sees
  have hand : ∀ (p q : Prop) [Decidable p] [Decidable q],
      IntOp.andi (if p then 1#1 else 0#1) (if q then 1#1 else 0#1) = if p ∧ q then 1#1 else 0#1 := fun p q _ _ => by
    by_cases hp : p
    · by_cases hq : q
      · rw [if_pos hp, if_pos hq, if_pos ⟨hp, hq⟩]; rfl
      · rw [if_pos hp, if_neg hq, if_neg (fun h : p ∧ q => hq h.2)]; rfl
    · rw [if_neg hp, if_neg (fun h : p ∧ q => hp h.1)]
      by_cases hq : q
      · rw [if_pos hq]; rfl
      · rw [if_neg hq]; rfl
  exact hand _ _

end Cert.ReferenceIdeal.Hand

end
-- ==== Proof.RefAttn.lean ====
/- The reference's attention: scores, their softmax with the sinks, and the values' weighted sums. -/
module

public import proofs.«01_k».proof.Proof.RefWindow

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic

variable (x0 : Vec Ideal S4x4096x1024 .f32) (x1 : IVec S4x4096 32) (x2 : Vec Ideal S1024x512 .f32) (x3 : Vec Ideal S1x1024x1024 .f32)
  (x4 : Vec Ideal S1x16 .f32) (b : Fin 4)

/-- The queries, keys and values of one sequence, from the arguments. -/
def Qs (s : Fin 4096) (e : Fin 1024) : EReal :=
  Spec.headRope (n := 1024) (by decide) (fun e => ∑ k : Fin 1024, (x0 (ix3 b s k) : EReal) * x3 (ix3 0 k e)) (posOf x1 b s) e

def Ks (s : Fin 4096) (d : Fin 256) : EReal :=
  Spec.headRope (n := 256) (by decide) (fun d => ∑ k : Fin 1024, (x0 (ix3 b s k) : EReal) * x2 (ix2 k ⟨d.val, by omega⟩)) (posOf x1 b s) d

def Vs (s : Fin 4096) (d : Fin 256) : EReal := ∑ k : Fin 1024, (x0 (ix3 b s k) : EReal) * x2 (ix2 k ⟨256 + d.val, by omega⟩)

/-- A row's scores of one head, before the mask. -/
def scoreOf (s : Fin 4096) (g r : Fin 4) (t : Fin 256) : EReal :=
  (∑ x : Fin 64, Spec.seenRow (Ks x0 x1 x2 b) s t ⟨g.val * 64 + x.val, by omega⟩ * Qs x0 x1 x3 b s ⟨(g.val * 4 + r.val) * 64 + x.val, by omega⟩)
    * Ideal.ofBits FTy.f32 1040187392#32

variable (s : Fin 4096) (g r : Fin 4)

/-- A row of scores, masked. -/
def rowOf (t : Fin 256) : EReal := if Spec.sees (s.val / 128) (s.val % 128) t.val then scoreOf x0 x1 x2 x3 b s g r t else Spec.noScore

/-- The sink of a head. -/
def sinkOf : EReal := x4 (ix2 0 ⟨g.val * 4 + r.val, by omega⟩)

/-- The block and the place in it of a position. -/
abbrev blk : Fin 32 := ⟨s.val / 128, by omega⟩
abbrev plc : Fin 128 := ⟨s.val % 128, by omega⟩

theorem keys_seen (t : Fin 256) (x : Fin 64) : val_main_v86 (F := Ideal) x0 x1 x2 (ix5 b (blk s) t g x)
    = Spec.seenRow (Ks x0 x1 x2 b) s t ⟨g.val * 64 + x.val, by omega⟩ := by
  rw [key_window]
  exact window_at _ b (Ks x0 x1 x2 b) (fun r h d => key_value x0 x1 x2 b r h d) s t g x

theorem values_seen (t : Fin 256) (x : Fin 64) : val_main_v89 (F := Ideal) x0 x2 (ix5 b (blk s) t g x)
    = Spec.seenRow (Vs x0 x2 b) s t ⟨g.val * 64 + x.val, by omega⟩ := by
  rw [value_window]
  exact window_at _ b (Vs x0 x2 b) (fun r h d => value_at x0 x2 b r h d) s t g x

theorem score_at (t : Fin 256) : @Eq EReal (val_main_v93 (F := Ideal) x0 x1 x2 x3 (ix6 b (blk s) g r (plc s) t)) (scoreOf x0 x1 x2 x3 b s g r t) := by
  rw [val_main_v93_apply, val_main_v92_apply, val_main_cst_6_apply, val_main_v91_apply]
  refine congrArg (fun z : EReal => z * Ideal.ofBits FTy.f32 1040187392#32) ?_
  refine (val_main_v90_apply x0 x1 x2 x3 _).trans (Finset.sum_congr rfl fun x _ => congrArg₂ (fun a b : EReal => a * b) ?_ ?_)
  · exact (congrArg (val_main_v86 (F := Ideal) x0 x1 x2) (at5 _ b (blk s) t g x rfl rfl rfl rfl rfl)).trans (keys_seen x0 x1 x2 b s g t x)
  · exact (congrArg (val_main_v78 (F := Ideal) x0 x1 x3) (at6 _ b (blk s) (plc s) g r x rfl rfl rfl rfl rfl rfl)).trans
      ((query_block x0 x1 x3 b s g r x).trans (query_value x0 x1 x3 b s _ x))

theorem row_at (t : Fin 256) : @Eq EReal (val_main_v124 (F := Ideal) x0 x1 x2 x3 (ix6 b (blk s) g r (plc s) t)) (rowOf x0 x1 x2 x3 b s g r t) := by
  have hm : val_main_call0_v1 (F := Ideal) (ix6 b (blk s) g r (plc s) t) = if Spec.sees (s.val / 128) (s.val % 128) t.val then 1#1 else 0#1 := by
    rw [val_main_call0_v1_apply, val_main_v123_apply]
    exact (congrArg (val_main_v122 (F := Ideal)) (at3 _ (blk s) (plc s) t rfl rfl rfl)).trans (mask_at (blk s) (plc s) t)
  rw [val_main_v124_apply, hm, val_main_call0_v2_apply, val_main_call0_v0_apply, val_main_cst_11_apply]
  unfold rowOf
  by_cases h : Spec.sees (s.val / 128) (s.val % 128) t.val
  · rw [if_pos h, if_pos h]
    exact score_at x0 x1 x2 x3 b s g r t
  · rw [if_neg h, if_neg h]; rfl

theorem sink_at : val_main_v125 (F := Ideal) x4 (ix6 0 0 g r 0 0) = sinkOf x4 g r := by
  have h : val_main_v125 (F := Ideal) x4 (ix6 0 0 g r 0 0) = val_main_v77 (F := Ideal) x4 (ix1 ⟨g.val * 4 + r.val, by omega⟩) := by
    unfold val_main_v125
    generalize val_main_v77 (F := Ideal) x4 = z
    refine shapeCast_apply z _ _ _ ?_
    rw [Shape.rowMajor_val_one, Shape.rowMajor_val_six]
    show g.val * 4 + r.val = ((((0 * 1 + 0) * 4 + g.val) * 4 + r.val) * 1 + 0) * 1 + 0
    omega
  rw [h, val_main_v77_apply]
  exact congrArg x4 (at2 _ 0 ⟨g.val * 4 + r.val, by omega⟩ rfl (by show (g.val * 4 + r.val) % 16 = g.val * 4 + r.val; omega))

/-- The largest score of a row, as the reference's maximum folds it. -/
theorem largest_at : @Eq EReal (val_main_v126 (F := Ideal) x0 x1 x2 x3 (ix5 b (blk s) g r (plc s)))
    (Finset.univ.fold max (Ideal.ofBits FTy.f32 4286578688#32) (rowOf x0 x1 x2 x3 b s g r)) := by
  rw [← funext fun t => row_at x0 x1 x2 x3 b s g r t]
  unfold val_main_v126
  generalize val_main_v124 (F := Ideal) x0 x1 x2 x3 = z
  refine (Host.reduce_eq_fold_single (FloatOps.maximumf (F := Ideal) (φ := .f32)) z _ reducesTo_S4x32x4x4x128x256_S4x32x4x4x128_d5 (by decide) h_S_ _).trans ?_
  have he : ∀ t : Fin 256, z ((show S4x32x4x4x128x256.Reduces [5] S4x32x4x4x128 by decide).lift (ix5 b (blk s) g r (plc s)) t)
      = z (ix6 b (blk s) g r (plc s) t) := fun t => congrArg z (at6 _ b (blk s) g r (plc s) t rfl rfl rfl rfl rfl rfl)
  exact congrArg (Finset.univ.fold max (Ideal.ofBits FTy.f32 4286578688#32)) (funext he)

theorem max_at : @Eq EReal (val_main_v129 (F := Ideal) x0 x1 x2 x3 x4 (ix6 b (blk s) g r (plc s) 0))
    (Spec.rowMax (rowOf x0 x1 x2 x3 b s g r) (sinkOf x4 g r)) := by
  rw [val_main_v129_apply, val_main_v127_apply, val_main_v128_apply]
  refine congrArg₂ (fun a b : EReal => max a b) ?_ ?_
  · exact (congrArg (val_main_v126 (F := Ideal) x0 x1 x2 x3) (at5 _ b (blk s) g r (plc s) rfl rfl rfl rfl rfl)).trans (largest_at x0 x1 x2 x3 b s g r)
  · exact (congrArg (val_main_v125 (F := Ideal) x4) (at6 _ 0 0 g r 0 0 rfl rfl rfl rfl rfl rfl)).trans (sink_at x4 g r)

theorem exp_at (t : Fin 256) : @Eq EReal (val_main_v132 (F := Ideal) x0 x1 x2 x3 x4 (ix6 b (blk s) g r (plc s) t))
    (Ideal.exp (rowOf x0 x1 x2 x3 b s g r t - Spec.rowMax (rowOf x0 x1 x2 x3 b s g r) (sinkOf x4 g r))) := by
  rw [val_main_v132_apply, val_main_v131_apply, val_main_v130_apply]
  exact congrArg₂ (fun a b : EReal => Ideal.exp (a - b)) (row_at x0 x1 x2 x3 b s g r t)
    ((congrArg (val_main_v129 (F := Ideal) x0 x1 x2 x3 x4) (at6 _ b (blk s) g r (plc s) 0 rfl rfl rfl rfl rfl rfl)).trans (max_at x0 x1 x2 x3 x4 b s g r))

theorem sum_at : @Eq EReal (val_main_v133 (F := Ideal) x0 x1 x2 x3 x4 (ix5 b (blk s) g r (plc s)))
    (∑ t : Fin 256, Ideal.exp (rowOf x0 x1 x2 x3 b s g r t - Spec.rowMax (rowOf x0 x1 x2 x3 b s g r) (sinkOf x4 g r))) := by
  have h0 : @Eq EReal (val_main_cst_13 (F := Ideal) (Shape.Idx.first h_S_)) 0 := (val_main_cst_13_apply _).trans Ideal.ofBits_zero_f32
  refine (val_main_v133_apply x0 x1 x2 x3 x4 _).trans (Eq.trans (congrArg₂ (fun a b : EReal => a + b) h0 (Finset.sum_congr rfl fun t _ => ?_)) (zero_add _))
  exact (congrArg (val_main_v132 (F := Ideal) x0 x1 x2 x3 x4) (at6 _ b (blk s) g r (plc s) t rfl rfl rfl rfl rfl rfl)).trans (exp_at x0 x1 x2 x3 x4 b s g r t)

theorem denom_at : @Eq EReal (val_main_v138 (F := Ideal) x0 x1 x2 x3 x4 (ix6 b (blk s) g r (plc s) 0))
    ((∑ t : Fin 256, Ideal.exp (rowOf x0 x1 x2 x3 b s g r t - Spec.rowMax (rowOf x0 x1 x2 x3 b s g r) (sinkOf x4 g r)))
      + Ideal.exp (sinkOf x4 g r - Spec.rowMax (rowOf x0 x1 x2 x3 b s g r) (sinkOf x4 g r))) := by
  rw [val_main_v138_apply, val_main_v134_apply, val_main_v137_apply, val_main_v136_apply, val_main_v135_apply]
  refine congrArg₂ (fun a b : EReal => a + b) ?_ (congrArg₂ (fun a b : EReal => Ideal.exp (a - b)) ?_ (max_at x0 x1 x2 x3 x4 b s g r))
  · exact (congrArg (val_main_v133 (F := Ideal) x0 x1 x2 x3 x4) (at5 _ b (blk s) g r (plc s) rfl rfl rfl rfl rfl)).trans (sum_at x0 x1 x2 x3 x4 b s g r)
  · exact (congrArg (val_main_v125 (F := Ideal) x4) (at6 _ 0 0 g r 0 0 rfl rfl rfl rfl rfl rfl)).trans (sink_at x4 g r)

/-- The weights. -/
theorem weight_at (t : Fin 256) : @Eq EReal (val_main_v140 (F := Ideal) x0 x1 x2 x3 x4 (ix6 b (blk s) g r (plc s) t))
    (Ideal.div (Ideal.exp (rowOf x0 x1 x2 x3 b s g r t - Spec.rowMax (rowOf x0 x1 x2 x3 b s g r) (sinkOf x4 g r)))
      ((∑ t : Fin 256, Ideal.exp (rowOf x0 x1 x2 x3 b s g r t - Spec.rowMax (rowOf x0 x1 x2 x3 b s g r) (sinkOf x4 g r)))
        + Ideal.exp (sinkOf x4 g r - Spec.rowMax (rowOf x0 x1 x2 x3 b s g r) (sinkOf x4 g r)))) := by
  rw [val_main_v140_apply, val_main_v139_apply]
  exact congrArg₂ (fun a b : EReal => Ideal.div a b) (exp_at x0 x1 x2 x3 x4 b s g r t)
    ((congrArg (val_main_v138 (F := Ideal) x0 x1 x2 x3 x4) (at6 _ b (blk s) g r (plc s) 0 rfl rfl rfl rfl rfl rfl)).trans (denom_at x0 x1 x2 x3 x4 b s g r))

/-- A head's output. -/
theorem head_at (d : Fin 64) : @Eq EReal (val_main_v142 (F := Ideal) x0 x1 x2 x3 x4 (ix6 b (blk s) (plc s) g r d))
    (Spec.rowOut (rowOf x0 x1 x2 x3 b s g r) (sinkOf x4 g r) fun t => Spec.seenRow (Vs x0 x2 b) s t ⟨g.val * 64 + d.val, by omega⟩) := by
  rw [val_main_v142_apply]
  refine (val_main_v141_apply x0 x1 x2 x3 x4 _).trans ?_
  unfold Spec.rowOut
  refine Finset.sum_congr rfl fun t _ => Eq.trans (congrArg₂ (fun a b : EReal => a * b) ?_ ?_) (mul_comm _ _)
  · exact (congrArg (val_main_v89 (F := Ideal) x0 x2) (at5 _ b (blk s) t g d rfl rfl rfl rfl rfl)).trans (values_seen x0 x2 b s g t d)
  · exact (congrArg (val_main_v140 (F := Ideal) x0 x1 x2 x3 x4) (at6 _ b (blk s) g r (plc s) t rfl rfl rfl rfl rfl rfl)).trans
      (weight_at x0 x1 x2 x3 x4 b s g r t)

/-- The attention's output, at every feature. -/
theorem attention_at (e : Fin 1024) : @Eq EReal (val_main_v143 (F := Ideal) x0 x1 x2 x3 x4 (ix3 b s e))
    (Spec.attRow (fun s e => Qs x0 x1 x3 b s e * Ideal.ofBits FTy.f32 1040187392#32) (Ks x0 x1 x2 b) (Vs x0 x2 b) (fun h => x4 (ix2 0 h)) s e) := by
  have hg : e.val / 256 < 4 := by omega
  have hr : e.val / 64 % 4 < 4 := by omega
  have h : val_main_v143 (F := Ideal) x0 x1 x2 x3 x4 (ix3 b s e)
      = val_main_v142 (F := Ideal) x0 x1 x2 x3 x4 (ix6 b (blk s) (plc s) ⟨e.val / 256, hg⟩ ⟨e.val / 64 % 4, hr⟩ ⟨e.val % 64, by omega⟩) := by
    unfold val_main_v143
    generalize val_main_v142 (F := Ideal) x0 x1 x2 x3 x4 = z
    refine shapeCast_apply z _ _ _ ?_
    rw [Shape.rowMajor_val_three, Shape.rowMajor_val_six]
    show ((((b.val * 32 + s.val / 128) * 128 + s.val % 128) * 4 + e.val / 256) * 4 + e.val / 64 % 4) * 64 + e.val % 64
      = (b.val * 4096 + s.val) * 1024 + e.val
    omega
  have hh : e.val / 256 * 4 + e.val / 64 % 4 = e.val / 64 := by omega
  refine (h.trans (head_at x0 x1 x2 x3 x4 b s _ _ _)).trans ?_
  unfold Spec.attRow
  refine Spec.rowOut_congr (fun t => ?_) ?_ fun t => rfl
  · unfold rowOf scoreOf
    refine if_congr Iff.rfl ?_ rfl
    refine Eq.trans ?_ (Spec.scale_sum _ _).symm
    refine congrArg (fun z : EReal => z * Ideal.ofBits FTy.f32 1040187392#32) (Finset.sum_congr rfl fun x _ => ?_)
    refine congrArg (fun i : Fin 1024 => Spec.seenRow (Ks x0 x1 x2 b) s t ⟨e.val / 256 * 64 + x.val, by omega⟩ * Qs x0 x1 x3 b s i) (Fin.ext ?_)
    show (e.val / 256 * 4 + e.val / 64 % 4) * 64 + x.val = e.val / 64 * 64 + x.val
    rw [hh]
  · exact congrArg (fun i : Fin 16 => x4 (ix2 0 i)) (Fin.ext hh)

end Cert.ReferenceIdeal.Hand

end
-- ==== Proof.RefLayer.lean ====
/- The reference's result: the attention's output times its weights, added to the input and normalised. -/
module

public import proofs.«01_k».proof.Proof.RefAttn

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic

variable (x0 : Vec Ideal S4x4096x1024 .f32) (x1 : IVec S4x4096 32) (x2 : Vec Ideal S1024x512 .f32) (x3 : Vec Ideal S1x1024x1024 .f32)
  (x4 : Vec Ideal S1x16 .f32) (x5 : Vec Ideal S1x1024x1024 .f32) (x6 x7 : Vec Ideal S2x1024 .f32) (b : Fin 4) (s : Fin 4096)

/-- The sum of the scaled input and the attention's output times its weights, a row of it. -/
def mixed (e : Fin 1024) : EReal :=
  Ideal.ofBits FTy.f32 1068827891#32 * (x0 (ix3 b s e) : EReal)
    + ∑ k : Fin 1024, Spec.attRow (fun s e => Qs x0 x1 x3 b s e * Ideal.ofBits FTy.f32 1040187392#32) (Ks x0 x1 x2 b) (Vs x0 x2 b)
        (fun h => x4 (ix2 0 h)) s k * x5 (ix3 0 k e)

theorem mixed_at (e : Fin 1024) : @Eq EReal (val_main_v148 (F := Ideal) x0 x1 x2 x3 x4 x5 (ix3 b s e)) (mixed x0 x1 x2 x3 x4 x5 b s e) := by
  rw [val_main_v148_apply, val_main_v147_apply, val_main_v146_apply, val_main_cst_14_apply]
  refine congrArg₂ (fun a b : EReal => a + b) rfl ?_
  refine (val_main_v145_apply x0 x1 x2 x3 x4 x5 _).trans (Finset.sum_congr rfl fun k _ => congrArg₂ (fun a b : EReal => a * b) ?_ ?_)
  · exact (congrArg (val_main_v143 (F := Ideal) x0 x1 x2 x3 x4) (at3 _ b s k rfl rfl rfl)).trans (attention_at x0 x1 x2 x3 x4 b s k)
  · rw [val_main_v144_apply]
    exact congrArg x5 (at3 _ 0 k e rfl (by show (k.val * 1024 + e.val) / 1024 % 1024 = k.val; omega)
      (by show (k.val * 1024 + e.val) % 1024 = e.val; omega))

theorem mean_at : @Eq EReal (val_main_v156 (F := Ideal) x0 x1 x2 x3 x4 x5 (ix3 b s 0)) (Spec.rowMean (mixed x0 x1 x2 x3 x4 x5 b s)) := by
  have h0 : @Eq EReal (val_main_cst_15 (F := Ideal) (Shape.Idx.first h_S_)) 0 := (val_main_cst_15_apply _).trans Ideal.ofBits_zero_f32
  rw [val_main_v156_apply, val_main_v154_apply, val_main_v155_apply, val_main_cst_16_apply]
  refine congrArg₂ (fun a b : EReal => Ideal.div a b) ?_ rfl
  refine (congrArg (val_main_v153 (F := Ideal) x0 x1 x2 x3 x4 x5) (at2 _ b s rfl rfl)).trans ?_
  refine (val_main_v153_apply x0 x1 x2 x3 x4 x5 _).trans (Eq.trans (congrArg₂ (fun a b : EReal => a + b) h0 (Finset.sum_congr rfl fun e _ => ?_)) (zero_add _))
  exact (congrArg (val_main_v148 (F := Ideal) x0 x1 x2 x3 x4 x5) (at3 _ b s e rfl rfl rfl)).trans (mixed_at x0 x1 x2 x3 x4 x5 b s e)

theorem centred_at (e : Fin 1024) : @Eq EReal (val_main_v158 (F := Ideal) x0 x1 x2 x3 x4 x5 (ix3 b s e))
    (mixed x0 x1 x2 x3 x4 x5 b s e - Spec.rowMean (mixed x0 x1 x2 x3 x4 x5 b s)) := by
  rw [val_main_v158_apply, val_main_v157_apply]
  exact congrArg₂ (fun a b : EReal => a - b) (mixed_at x0 x1 x2 x3 x4 x5 b s e)
    ((congrArg (val_main_v156 (F := Ideal) x0 x1 x2 x3 x4 x5) (at3 _ b s 0 rfl rfl rfl)).trans (mean_at x0 x1 x2 x3 x4 x5 b s))

theorem variance_at : @Eq EReal (val_main_v163 (F := Ideal) x0 x1 x2 x3 x4 x5 (ix3 b s 0))
    (Spec.rowMean fun e => (mixed x0 x1 x2 x3 x4 x5 b s e - Spec.rowMean (mixed x0 x1 x2 x3 x4 x5 b s))
      * (mixed x0 x1 x2 x3 x4 x5 b s e - Spec.rowMean (mixed x0 x1 x2 x3 x4 x5 b s))) := by
  have h0 : @Eq EReal (val_main_cst_17 (F := Ideal) (Shape.Idx.first h_S_)) 0 := (val_main_cst_17_apply _).trans Ideal.ofBits_zero_f32
  rw [val_main_v163_apply, val_main_v161_apply, val_main_v162_apply, val_main_cst_18_apply]
  refine congrArg₂ (fun a b : EReal => Ideal.div a b) ?_ rfl
  refine (congrArg (val_main_v160 (F := Ideal) x0 x1 x2 x3 x4 x5) (at2 _ b s rfl rfl)).trans ?_
  refine (val_main_v160_apply x0 x1 x2 x3 x4 x5 _).trans (Eq.trans (congrArg₂ (fun a b : EReal => a + b) h0 (Finset.sum_congr rfl fun e _ => ?_)) (zero_add _))
  refine (congrArg (val_main_v159 (F := Ideal) x0 x1 x2 x3 x4 x5) (at3 _ b s e rfl rfl rfl)).trans ?_
  rw [val_main_v159_apply]
  exact congrArg₂ (fun a b : EReal => a * b) (centred_at x0 x1 x2 x3 x4 x5 b s e) (centred_at x0 x1 x2 x3 x4 x5 b s e)

/-- The reference's result, at every index. -/
theorem layer_at (e : Fin 1024) : @Eq EReal (val_main_v174 (F := Ideal) x0 x1 x2 x3 x4 x5 x6 x7 (ix3 b s e))
    (Spec.layerOf (fun r k => x0 (ix3 b r k)) (fun r => posOf x1 b r) (fun k e => x2 (ix2 k e)) (fun k e => x3 (ix3 0 k e))
      (fun k e => x5 (ix3 0 k e)) (fun h => x4 (ix2 0 h)) (fun e => x6 (ix2 1 e)) (fun e => x7 (ix2 1 e)) s e) := by
  have hg : @Eq EReal (val_main_v170 (F := Ideal) x6 (ix3 b s e)) (x6 (ix2 1 e)) := by
    rw [val_main_v170_apply, val_main_v169_apply, val_main_v150_apply, val_main_v149_apply]
    exact congrArg x6 (at2 _ 1 e rfl (by show e.val % 1024 = e.val; omega))
  have hb : @Eq EReal (val_main_v173 (F := Ideal) x7 (ix3 b s e)) (x7 (ix2 1 e)) := by
    rw [val_main_v173_apply, val_main_v172_apply, val_main_v152_apply, val_main_v151_apply]
    exact congrArg x7 (at2 _ 1 e rfl (by show e.val % 1024 = e.val; omega))
  have hr : @Eq EReal (val_main_v167 (F := Ideal) x0 x1 x2 x3 x4 x5 (ix3 b s e)) (Ideal.rsqrt
      ((Spec.rowMean fun e => (mixed x0 x1 x2 x3 x4 x5 b s e - Spec.rowMean (mixed x0 x1 x2 x3 x4 x5 b s))
        * (mixed x0 x1 x2 x3 x4 x5 b s e - Spec.rowMean (mixed x0 x1 x2 x3 x4 x5 b s))) + Ideal.ofBits FTy.f32 925353388#32)) := by
    rw [val_main_v167_apply, val_main_v166_apply, val_main_v165_apply, val_main_v164_apply, val_main_cst_19_apply]
    exact congrArg (fun z : EReal => Ideal.rsqrt (z + Ideal.ofBits FTy.f32 925353388#32))
      ((congrArg (val_main_v163 (F := Ideal) x0 x1 x2 x3 x4 x5) (at3 _ b s 0 rfl rfl rfl)).trans (variance_at x0 x1 x2 x3 x4 x5 b s))
  rw [val_main_v174_apply, val_main_v171_apply, val_main_v168_apply]
  exact congrArg₂ (fun a b : EReal => a + b) (congrArg₂ (fun a b : EReal => a * b)
    (congrArg₂ (fun a b : EReal => a * b) (centred_at x0 x1 x2 x3 x4 x5 b s e) hr) hg) hb

end Cert.ReferenceIdeal.Hand

end
-- ==== Proof.Equal.lean ====
/- The reference's run ends in the array that the kernel's run ends in, given the same arguments. -/
module

public import proofs.«01_k».proof.Proof.Run
public import proofs.«01_k».proof.Proof.KernelValue
public import proofs.«01_k».proof.Proof.RefLayer
public import Idealize.ShloMosaic.Lib.Quiescent
public import Idealize.ShloMosaic.Lib.Claim

@[expose] public section

set_option maxRecDepth 16384

noncomputable section

namespace Cert.KernelIdeal.Hand

open Idealize.ShloMosaic Idealize.ShloMosaic.TcCoe Idealize.SL.Sem

/-- The layer's attention of eight arrays, as one array. -/
def layerArray (x : Vec Ideal S4x4096x1024 .f32) (p : IVec S4x4096 32) (kv : Vec Ideal S1024x512 .f32) (wq : Vec Ideal S1x1024x1024 .f32)
    (snk : Vec Ideal S1x16 .f32) (wo : Vec Ideal S1x1024x1024 .f32) (g b : Vec Ideal S2x1024 .f32) : Vec Ideal S4x4096x1024 .f32 :=
  fun i : S4x4096x1024.Idx => layerAt x p kv wq snk wo g b (i 0) (i 1) (i 2)

/-- Equal arrays have the same layer's attention. -/
theorem layerArray_congr {x x' : Vec Ideal S4x4096x1024 .f32} {p p' : IVec S4x4096 32} {kv kv' : Vec Ideal S1024x512 .f32}
    {wq wq' : Vec Ideal S1x1024x1024 .f32} {snk snk' : Vec Ideal S1x16 .f32} {wo wo' : Vec Ideal S1x1024x1024 .f32}
    {g g' b b' : Vec Ideal S2x1024 .f32} (h0 : x' = x) (h1 : p' = p) (h2 : kv' = kv) (h3 : wq' = wq) (h4 : snk' = snk) (h5 : wo' = wo)
    (h6 : g' = g) (h7 : b' = b) : layerArray x' p' kv' wq' snk' wo' g' b' = layerArray x p kv wq snk wo g b := by
  subst h0; subst h1; subst h2; subst h3; subst h4; subst h5; subst h6; subst h7; rfl

/-- Every run of the idealized kernel ends with the layer's attention of the arguments in its result and the arguments unchanged. -/
theorem run_layer (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v46) = layerArray (aX m c) (aPos m c) (aKv m c) (aWq m c) (aSink m c) (aWo m c) (aGain m c) (aOffset m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (kernel_value m ρ c), (h c).2⟩) (run m ρ)

end Cert.KernelIdeal.Hand

namespace Cert.ReferenceIdeal.Hand

open Cert.ReferenceIdeal Cert.ReferenceIdeal.Gen Cert.ReferenceIdeal.Read
open Idealize.ShloMosaic Idealize.ShloMosaic.TcCoe Idealize.ShloMosaic.Tactic Idealize.SL.Sem Idealize.ShloMosaic.StableHlo

/-- The reference's result is the layer's attention of its arguments, whatever they are. -/
theorem result_eq (x0 : Vec Ideal S4x4096x1024 .f32) (x1 : IVec S4x4096 32) (x2 : Vec Ideal S1024x512 .f32) (x3 : Vec Ideal S1x1024x1024 .f32)
    (x4 : Vec Ideal S1x16 .f32) (x5 : Vec Ideal S1x1024x1024 .f32) (x6 x7 : Vec Ideal S2x1024 .f32) :
    val_main_v174 (F := Ideal) x0 x1 x2 x3 x4 x5 x6 x7
      = Cert.KernelIdeal.Hand.layerArray x0 x1 x2 x3 x4 x5 x6 x7 :=
  funext fun i => (congrArg (val_main_v174 (F := Ideal) x0 x1 x2 x3 x4 x5 x6 x7) (eq_ix3 i)).trans
    (layer_at x0 x1 x2 x3 x4 x5 x6 x7 (i 0) (i 1) (i 2))

/-- Every run of the reference ends with the layer's attention of the arguments in its result, the arguments unchanged and every
    semaphore counter at zero (the program has none). -/
theorem run_layer (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_v174)
          = Cert.KernelIdeal.Hand.layerArray (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨((h c).1.trans (val_main_v174_eq (launchContents m c))).trans
      (result_eq (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7))), (h c).2⟩,
      sem_eq_zero_of_no_sems rfl r.2⟩)
    (Value.run m ρ)

end Cert.ReferenceIdeal.Hand

end
-- ==== Proof.GluKernel.lean ====
/- The gated projection's kernel: its result as a function of its arguments. -/
module

public import proofs.«01_k».proof.Proof.Gen.GluIdeal.Value
public import Idealize.ShloMosaic.Lib.Pipeline.ValueKit
public import Idealize.ShloMosaic.Lib.Pointwise
public import Idealize.ShloMosaic.Lib.StableHlo.Run

@[expose] public section

set_option maxRecDepth 16384

noncomputable section

namespace Cert.GluIdeal.Hand

open Cert.GluIdeal Cert.GluIdeal.Gen
open Idealize.ShloMosaic Idealize.ShloMosaic.TcCoe Idealize.ShloMosaic.Tactic Idealize.ShloMosaic.StableHlo Idealize.SL.Sem

/-- One number of the gated projection: a row's product with a column plus its bias, times the logistic function of the product with the
    gate's column plus its bias. -/
def gated (X : Fin 1024 → EReal) (W G : Fin 1024 → EReal) (b g : EReal) : EReal :=
  Ideal.div ((∑ k : Fin 1024, X k * W k) + b) (1 + Ideal.exp (-((∑ k : Fin 1024, X k * G k) + g)))

/-- The block that one grid point leaves. -/
theorem block_apply (x0 : Vec Ideal S512x1024 .f32) (x1 x2 : Vec Ideal S1024x1024 .bf16) (x3 x4 : Vec Ideal S1x1024 .f32) (r : Fin 512) (e : Fin 1024) :
    out0_5 x0 x1 x2 x3 x4 (ix2 r e) = gated (fun k => x0 (ix2 r k)) (fun k => x1 (ix2 k e)) (fun k => x2 (ix2 k e)) (x3 (ix2 0 e)) (x4 (ix2 0 e)) := by
  unfold out0_5
  rw [View.canon_cons_unit_lit _ _ _ (by decide)]
  rw [View.ld_unit_lit _ _ (by decide), View.ld_unit_lit _ _ (by decide), View.ld_unit_lit _ _ (by decide), View.ld_unit_lit _ _ (by decide), View.ld_unit_lit _ _ (by decide)]
  pointwise [k0_pay1]
  exact congrArg (fun z : EReal => Ideal.div _ (1 + Ideal.exp z)) ((sub_eq_add_neg _ _).trans (zero_add _))

variable (m : (ℓ : Loc nD τ sig) → Buf (Elt Ideal) ℓ) (c : Dev nD)

/-- Where the windows stand at a grid point. -/
theorem place (t : Fin cfg0.N) :
    win0_0.index t = ![(grid0.coords t 0).val, 0] ∧ win0_1.index t = ![0, 0] ∧ win0_2.index t = ![0, 0]
      ∧ win0_3.index t = ![0, 0] ∧ win0_4.index t = ![0, 0] ∧ win0_5.index t = ![(grid0.coords t 0).val, 0] := by
  revert t; decide +kernel

/-- The row of the whole array that row `r` of a grid point's block is. -/
abbrev rowAt (t : Fin cfg0.N) (r : Fin 512) : Fin 16384 := ⟨(grid0.coords t 0).val * 512 + r.val, by have := (grid0.coords t 0).isLt; simp at this; omega⟩

/-- A block's rows are the array's at the block's place. -/
theorem x_read (t : Fin cfg0.N) (r : Fin 512) (k : Fin 1024) : iblk m c 0 t (ix2 r k) = V m c main_v2 (ix2 (rowAt t r) k) := by
  obtain ⟨e0, -⟩ := place t
  blk_ext [iblk, e0]

/-- The first half of the weights. -/
theorem w_read (t : Fin cfg0.N) (k e : Fin 1024) : iblk m c 1 t (ix2 k e) = V m c main_v3 (ix2 k e) := by
  obtain ⟨-, e1, -⟩ := place t
  blk_ext [iblk, e1]

/-- The gate's half of the weights. -/
theorem g_read (t : Fin cfg0.N) (k e : Fin 1024) : iblk m c 2 t (ix2 k e) = V m c main_v4 (ix2 k e) := by
  obtain ⟨-, -, e2, -⟩ := place t
  blk_ext [iblk, e2]

/-- The first half of the bias. -/
theorem wb_read (t : Fin cfg0.N) (e : Fin 1024) : iblk m c 3 t (ix2 0 e) = V m c main_v7 (ix2 0 e) := by
  obtain ⟨-, -, -, e3, -⟩ := place t
  blk_ext [iblk, e3]

/-- The gate's half of the bias. -/
theorem gb_read (t : Fin cfg0.N) (e : Fin 1024) : iblk m c 4 t (ix2 0 e) = V m c main_v10 (ix2 0 e) := by
  obtain ⟨-, -, -, -, e4, -⟩ := place t
  blk_ext [iblk, e4]

/-- The result's block stands at the block's place. -/
theorem emb (t : Fin cfg0.N) (r : Fin 512) (e : Fin 1024) : (win0_5.blk t).view.emb (ix2 r e) = ix2 (rowAt t r) e := by
  obtain ⟨-, -, -, -, -, e5⟩ := place t
  blk_ext [e5]

/-- The gated projection of an array of rows. -/
def gatedArr (X : Vec Ideal S16384x1024 .f32) (W G : Vec Ideal S1024x1024 .bf16) (b g : Vec Ideal S1x1024 .f32) : Vec Ideal S16384x1024 .f32 := fun i =>
  gated (fun k => X (ix2 (i 0) k)) (fun k => W (ix2 k (i 1))) (fun k => G (ix2 k (i 1))) (b (ix2 0 (i 1))) (g (ix2 0 (i 1)))

/-- The number depends on its operands' values only. -/
theorem gated_congr {X X' W W' G G' : Fin 1024 → EReal} {b b' g g' : EReal} (hX : ∀ k, X k = X' k) (hW : ∀ k, W k = W' k) (hG : ∀ k, G k = G' k)
    (hb : b = b') (hg : g = g') : gated X W G b g = gated X' W' G' b' g' := by
  rw [funext hX, funext hW, funext hG, hb, hg]

/-- The result array after the run. -/
theorem gated_arr : (dats m 0 c).arrAt 5 cfg0.N = gatedArr (V m c main_v2) (V m c main_v3) (V m c main_v4) (V m c main_v7) (V m c main_v10) := by
  refine (dats m 0 c).arrAt_eq_of_covers 5 _ (by decide +kernel) fun t hf y => ?_
  blk_simp
  rw [after0_5]
  obtain ⟨r, e, rfl⟩ : ∃ (r : Fin 512) (e : Fin 1024), y = ix2 r e := ⟨y 0, y 1, eq_ix2 y⟩
  refine (block_apply _ _ _ _ _ r e).trans ?_
  refine Eq.trans ?_ (congrArg (gatedArr (V m c main_v2) (V m c main_v3) (V m c main_v4) (V m c main_v7) (V m c main_v10)) (emb t r e).symm)
  exact gated_congr (fun k => x_read m c t r k) (fun k => w_read m c t k e) (fun k => g_read m c t k e) (wb_read m c t e) (gb_read m c t e)

/-! ### The operands, from the arguments -/

/-- The rows are the argument's, the sequences one after another. -/
theorem x_entry (i : Fin 4) (r : Fin 4096) (k : Fin 1024) :
    V m c main_v2 (ix2 ⟨i.val * 4096 + r.val, by omega⟩ k) = m ((c : Thread nD τ).loc main_arg0) (ix3 i r k) := by
  show after hostOps0 _ (Proc.devRef .tc main_v2) _ = _
  after_results
  pointwise []

/-- The first half of the weights, from the argument. -/
theorem w_entry (k e : Fin 1024) :
    V m c main_v3 (ix2 k e) = m ((c : Thread nD τ).loc main_arg1) (ix3 0 k ⟨e.val, by omega⟩) := by
  show after hostOps0 _ (Proc.devRef .tc main_v3) _ = _
  after_results
  pointwise []

/-- The gate's half of the weights, from the argument. -/
theorem g_entry (k e : Fin 1024) :
    V m c main_v4 (ix2 k e) = m ((c : Thread nD τ).loc main_arg1) (ix3 0 k ⟨1024 + e.val, by omega⟩) := by
  show after hostOps0 _ (Proc.devRef .tc main_v4) _ = _
  after_results
  pointwise []

/-- The first half of the bias, from the argument. -/
theorem wb_entry (e : Fin 1024) :
    V m c main_v7 (ix2 0 e) = m ((c : Thread nD τ).loc main_arg2) (ix2 0 ⟨e.val, by omega⟩) := by
  show after hostOps0 _ (Proc.devRef .tc main_v7) _ = _
  after_results
  pointwise []

/-- The gate's half of the bias, from the argument. -/
theorem gb_entry (e : Fin 1024) :
    V m c main_v10 (ix2 0 e) = m ((c : Thread nD τ).loc main_arg2) (ix2 0 ⟨1024 + e.val, by omega⟩) := by
  show after hostOps0 _ (Proc.devRef .tc main_v10) _ = _
  after_results
  pointwise []

/-- The gated projection of the layer's input, by rows of all the sequences one after another. -/
def gluArray (x : Vec Ideal S4x4096x1024 .f32) (w : Vec Ideal S1x1024x2048 .f32) (b : Vec Ideal S1x2048 .f32) : Vec Ideal S16384x1024 .f32 :=
  fun i : S16384x1024.Idx => gated (fun k => x (ix3 ⟨(i 0).val / 4096, by have : (i 0).val < 16384 := (i 0).isLt; omega⟩ ⟨(i 0).val % 4096, by omega⟩ k))
    (fun k => w (ix3 0 k ⟨(i 1).val, by have : (i 1).val < 1024 := (i 1).isLt; omega⟩))
    (fun k => w (ix3 0 k ⟨1024 + (i 1).val, by have : (i 1).val < 1024 := (i 1).isLt; omega⟩))
    (b (ix2 0 ⟨(i 1).val, by have : (i 1).val < 1024 := (i 1).isLt; omega⟩)) (b (ix2 0 ⟨1024 + (i 1).val, by have : (i 1).val < 1024 := (i 1).isLt; omega⟩))

/-- The array depends on the arguments' values only. -/
theorem gluArray_congr {x x' : Vec Ideal S4x4096x1024 .f32} {w w' : Vec Ideal S1x1024x2048 .f32} {b b' : Vec Ideal S1x2048 .f32}
    (h0 : x' = x) (h1 : w' = w) (h2 : b' = b) : gluArray x' w' b' = gluArray x w b := by
  subst h0; subst h1; subst h2; rfl

/-- The kernel's result as a function of its arguments. -/
theorem kernel_value : (dats m 0 c).arrAt 5 cfg0.N
    = gluArray (m ((c : Thread nD τ).loc main_arg0)) (m ((c : Thread nD τ).loc main_arg1)) (m ((c : Thread nD τ).loc main_arg2)) := by
  rw [gated_arr]
  funext i
  obtain ⟨n, e, rfl⟩ : ∃ (n : Fin 16384) (e : Fin 1024), i = ix2 n e := ⟨i 0, i 1, eq_ix2 i⟩
  have hn : n = ⟨(⟨n.val / 4096, by omega⟩ : Fin 4).val * 4096 + (⟨n.val % 4096, by omega⟩ : Fin 4096).val, by dsimp only; omega⟩ :=
    Fin.ext (by dsimp only; omega)
  refine gated_congr (fun k => ?_) (fun k => w_entry m c k e) (fun k => g_entry m c k e) (wb_entry m c e) (gb_entry m c e)
  exact (congrArg (fun n => V m c main_v2 (ix2 n k)) hn).trans (x_entry m c ⟨n.val / 4096, by omega⟩ ⟨n.val % 4096, by omega⟩ k)

/-- Every run of the kernel ends with the gated projection in its result and the arguments unchanged. -/
theorem run_glu (ρ : Dev nD → PrngReg) :
    θ_run defs (onTc (τ := τ) (main (F := Ideal))) ⟨m, fun _ => 0, ρ⟩ (fun r => ∀ c : Dev nD,
      r.2.mem ((c.tc : Thread nD τ).loc main_v11)
          = gluArray (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (kernel_value m c), (h c).2⟩) (Value.run_blocks m ρ)

end Cert.GluIdeal.Hand

end
-- ==== Proof.GluEqual.lean ====
/- The gated projection's reference ends in the array that its kernel ends in. -/
module

public import proofs.«01_k».proof.Proof.GluKernel
public import proofs.«01_k».proof.Proof.Gen.GluReferenceIdeal.Run
public import proofs.«01_k».proof.Proof.Gen.GluReferenceIdeal.Read
public import Idealize.ShloMosaic.Lib.IdealHost
public import Idealize.ShloMosaic.Lib.Quiescent

@[expose] public section

set_option maxRecDepth 16384

noncomputable section

namespace Cert.GluReferenceIdeal.Hand

open Cert.GluReferenceIdeal Cert.GluReferenceIdeal.Gen Cert.GluReferenceIdeal.Read
open Idealize.ShloMosaic Idealize.ShloMosaic.TcCoe Idealize.ShloMosaic.Tactic Idealize.SL.Sem

/-- The exponential of an extended real is not negative. -/
theorem exp_nonneg (x : EReal) : 0 ≤ Ideal.exp x := by
  induction x with
  | bot => exact le_refl _
  | top => exact le_top
  | coe r => exact EReal.coe_nonneg.mpr (Real.exp_pos r).le

/-- The logistic function's denominator is not zero. -/
theorem denom_ne (x : EReal) : 1 + Ideal.exp x ≠ 0 := by
  intro h
  have h1 : (1 : EReal) ≤ 1 + Ideal.exp x := le_add_of_nonneg_right (exp_nonneg x)
  rw [h] at h1
  exact absurd h1 (not_le.mpr zero_lt_one)

variable (x0 : Vec Ideal S4x4096x1024 .f32) (x1 : Vec Ideal S1x1024x2048 .f32) (x2 : Vec Ideal S1x2048 .f32)

/-- The projection with its bias, at an index. -/
theorem proj_apply (i : Fin 4) (r : Fin 4096) (e : Fin 2048) : val_main_v5 (F := Ideal) x0 x1 x2 (ix3 i r e)
    = (∑ k : Fin 1024, x0 (ix3 i r k) * x1 (ix3 0 k e)) + x2 (ix2 0 e) := by
  pointwise [val_main_v5, val_main_v4, val_main_v3, val_main_v2, val_main_v1, val_main_v0]

/-- The reference's result is the gated projection of its arguments. -/
theorem result_eq : val_main_v15 (F := Ideal) x0 x1 x2 = Cert.GluIdeal.Hand.gluArray x0 x1 x2 := by
  funext i
  obtain ⟨n, e, rfl⟩ : ∃ (n : Fin 16384) (e : Fin 1024), i = ix2 n e := ⟨i 0, i 1, eq_ix2 i⟩
  have hi : idx_main_v15 (ix2 n e) = ix3 ⟨n.val / 4096, by omega⟩ ⟨n.val % 4096, by omega⟩ e := by
    funext a
    fin_cases a <;> refine Fin.ext ?_
    · show (n.val * 1024 + e.val) / 4194304 = n.val / 4096; omega
    · show (n.val * 1024 + e.val) / 1024 % 4096 = n.val % 4096; omega
    · show (n.val * 1024 + e.val) % 1024 = e.val; omega
  rw [val_main_v15_apply, hi]
  refine Eq.trans ?_ (Ideal.mul_one_div (denom_ne _))
  have ha := proj_apply x0 x1 x2 ⟨n.val / 4096, by omega⟩ ⟨n.val % 4096, by omega⟩ ⟨e.val, by omega⟩
  have hg := proj_apply x0 x1 x2 ⟨n.val / 4096, by omega⟩ ⟨n.val % 4096, by omega⟩ ⟨1024 + e.val, by omega⟩
  rw [val_main_v14_apply, val_main_v13_apply, val_main_v11_apply, val_main_v9_apply, val_main_v8_apply, val_main_v7_apply, val_main_v6_apply,
    val_main_v10_apply, val_main_v12_apply, val_main_cst_apply, val_main_cst_0_apply]
  pointwise []
  refine congrArg₂ (fun a b : EReal => a * Ideal.div 1 (1 + Ideal.exp (-b))) ?_ ?_
  · refine (congrArg (val_main_v5 (F := Ideal) x0 x1 x2) ?_).trans ha
    funext a; fin_cases a <;> rfl
  · refine (congrArg (val_main_v5 (F := Ideal) x0 x1 x2) ?_).trans hg
    funext a; fin_cases a <;> rfl

/-- Every run of the reference ends with the gated projection in its result, the arguments unchanged and every semaphore counter at
    zero (the program has none). -/
theorem run_glu (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_v15)
          = Cert.GluIdeal.Hand.gluArray (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨((h c).1.trans (val_main_v15_eq _ _ _)).trans (result_eq _ _ _), (h c).2⟩,
      sem_eq_zero_of_no_sems rfl r.2⟩)
    (Value.run m ρ)

end Cert.GluReferenceIdeal.Hand

end
-- ==== Proof.ConvRun.lean ====
/- The body of the depthwise convolution call, run once at any point of the grid: what it stores in its output block,
   found by running it, for any contents the window scratch held before. -/
module

public import proofs.«01_k».proof.Proof.Gen.ConvIdeal.Frame
public import proofs.«01_k».proof.Proof.Gen.ConvIdeal.Loops

@[expose] public section

set_option maxRecDepth 16384

noncomputable section

namespace Cert.ConvIdeal.Hand

open Cert.ConvIdeal Cert.ConvIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option backward.proofsInPublic true in
set_option maxHeartbeats 1000000 in
/-- The pieces that the body stores in its output block (newest first), with the proof that the body runs: the inputs'
    buffers stay as they were, and the output's buffer ends with those pieces written. The contents `fs` which the
    window scratch held before are a parameter, for a part of that scratch is never stored. -/
noncomputable def bodyRun (c : Dev nD) (i : grid0.Coords) (arg2 : Memref sig .tc .vmem S1x512x1024 .f32) (harg2 : arg2.IsWhole) (arg3 : Memref sig .tc .vmem S1x32x1024 .f32) (harg3 : arg3.IsWhole) (arg4 : Memref sig .tc .vmem S1x512x1024 .f32) (harg4 : arg4.IsWhole) (arg5 : Memref sig .tc .vmem S31x8x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S8x544x1024 .f32) (harg14 : arg14.IsWhole) (arg15 : Memref sig .tc .vmem S512x1024 .f32) (harg15 : arg15.IsWhole)
    (x0 : Vec F S1x512x1024 .f32) (x1 : Vec F S1x32x1024 .f32) (x2 : Vec F S1x512x1024 .f32) (x3 : Vec F S31x8x1024 .f32) (x4 : Vec F S1x1024 .f32) (x5 : Vec F S1x1024 .f32) (x6 : Vec F S1x1024 .f32) (x7 : Vec F S1024x1024 .bf16) (x8 : Vec F S1x1024 .f32) (x9 : Vec F S1x1024 .f32) (x10 : Vec F S1x1024 .f32) (fs : BufTy.Contents (Elt F) arg14.view.ty) :
    { L11 : List (View.Piece (Elt F) S1x512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (arg14.view.loc (c : Thread nD τ) ↦[arg14.view.set]{fullShare} fs) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ d, owns (c : Thread nD τ) arg14 fullShare d) ∗ (∃ d, owns (c : Thread nD τ) arg15 fullShare d)) -∗ K ⟨⟩))
          ⊢ wp frame (wpE (defs₀ (F := F)) Variants.none c none) E (cc0_convmix i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_convmix_eq_skeleton]; unfold cc0_convmix_skel
    simp only [k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, HS0, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    have hrd0 : ∀ (𝒱 : Variants) (c : Dev nD) (bd : Option 𝒱.V) (i : grid0.Coords) (arg2 : Memref sig .tc .vmem S1x512x1024 .f32) (harg2 : arg2.IsWhole) (arg3 : Memref sig .tc .vmem S1x32x1024 .f32) (harg3 : arg3.IsWhole) (arg4 : Memref sig .tc .vmem S1x512x1024 .f32) (harg4 : arg4.IsWhole) (arg5 : Memref sig .tc .vmem S31x8x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S8x544x1024 .f32) (harg14 : arg14.IsWhole) (arg15 : Memref sig .tc .vmem S512x1024 .f32) (harg15 : arg15.IsWhole) (v48 : FVec F S536x1024 .f32) (X_arg5 : BufTy.Contents (Elt F) arg5.view.ty) (X_arg6 : BufTy.Contents (Elt F) arg6.view.ty) (X_arg14 : BufTy.Contents (Elt F) arg14.view.ty) (hrdF : BufTy.Contents (Elt F) arg15.view.ty) (hrdB : LoadRect S512x1024), arg15.view.readAt (Elt F) hrdB (arg15.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v48 X_arg5 X_arg6 X_arg14 (Scf.trips k0_t1_loop.lb k0_t1_loop.ub k0_t1_loop.st))) = arg15.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v48 X_arg5 X_arg6 X_arg14 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 v48 X_arg5 X_arg6 X_arg14 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v48 X_arg5 X_arg6 X_arg14 (Scf.trips k0_t1_loop.lb k0_t1_loop.ub k0_t1_loop.st)) S32x1024.size (by sl_kernel_rfl) (hrdB.idx hrdJ))
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [HS0]
    · iexists _, _; isplitr; swap; · iexact HS0
      ipureintro; rfl
    iexists _, _; isplitr; swap; · iexact HS1
    ipureintro; rfl

end Cert.ConvIdeal.Hand

end
-- ==== Proof.ConvWindow.lean ====
/- The window scratch of the depthwise convolution call: what its stored part holds, whatever the scratch held before, and that nothing else
   of it reaches the result. -/
module

public import proofs.«01_k».proof.Proof.ConvRun
public import Idealize.ShloMosaic.Lib.Pipeline.ValueKit
public import Idealize.ShloMosaic.Lib.Pointwise
public import Idealize.ShloMosaic.Lib.WritesUnit

@[expose] public section

set_option maxRecDepth 16384

noncomputable section

namespace Cert.ConvIdeal.Hand

open Cert.ConvIdeal Cert.ConvIdeal.Gen
open Idealize.ShloMosaic Idealize.ShloMosaic.TcCoe Idealize.ShloMosaic.Tactic Idealize.SL.Sem

variable {F : FTy → Type} [FloatOps F]

/-- Row `q` of a block's window: the 32 rows before the block (as the kernel selects them), then the block's own 512. -/
def winRow (i : grid0.Coords) (x0 : Vec F S1x512x1024 .f32) (x1 : Vec F S1x32x1024 .f32) (q : ℕ) (e : Fin 1024) : Elt F .f32 :=
  if h : q < 32 then k0_pay16 i x1 (ix3 0 ⟨q, h⟩ e) else x0 (ix3 0 ⟨(q - 32) % 512, by omega⟩ e)

/-- The contents `f` of the scratch hold, in slot `p`, the window `W` moved up by `p` rows, for the slots below `n`; slot 0 holds all of it. -/
def Slots (v : View sig .tc .vmem S8x544x1024 .f32) (W : ℕ → Fin 1024 → Elt F .f32) (n : ℕ) (f : v.ty.Contents (Elt F)) : Prop :=
  ∀ (p : Fin 8) (r : Fin 544) (e : Fin 1024), p.val = 0 ∨ (p.val < n ∧ r.val < 536) → v.read (Elt F) f (ix3 p r e) = W (p.val + r.val) e

/-- Storing the rows of slot 0 from row `n` on into slot `n`. -/
theorem slots_step (v : View sig .tc .vmem S8x544x1024 .f32) (W : ℕ → Fin 1024 → Elt F .f32) (L : List (View.Piece (Elt F) S8x544x1024 .f32)) (n : ℕ)
    (hn : 1 ≤ n) (hn8 : n < 8) (inb : ∀ a, (![n, 0, 0] : Fin 3 → ℕ) a + S1x536x1024.size a ≤ S8x544x1024.size a)
    (inb' : ∀ a, (![0, n, 0] : Fin 3 → ℕ) a + S1x536x1024.size a ≤ S8x544x1024.size a)
    (w : (Rect.unit (s := S8x544x1024) ![n, 0, 0] S1x536x1024.size inb).shape.Idx → Elt F .f32)
    (hw : w = shapeCast S1x536x1024 (shapeCast S536x1024 (v.readCov L (Rect.unit (s := S8x544x1024) ![0, n, 0] S1x536x1024.size inb').toLoadRect)
      shapeCasts_S1x536x1024_S536x1024) shapeCasts_S536x1024_S1x536x1024)
    (h : ∀ f, Slots v W n (v.writes (Elt F) f L)) (f : v.ty.Contents (Elt F)) :
    Slots v W (n + 1) (v.writes (Elt F) f ((⟨Rect.unit (s := S8x544x1024) ![n, 0, 0] S1x536x1024.size inb, w⟩ : View.Piece (Elt F) S8x544x1024 .f32) :: L)) := by
  intro p r e hp
  by_cases hpn : p.val = n
  · have hr : r.val < 536 := by omega
    rw [View.read_writes_cons_unit_of_mem v f inb w L (ix3 p r e) (ix3 0 ⟨r.val, hr⟩ e : S1x536x1024.Idx) rfl
      (by intro a; fin_cases a <;> simp [hpn])]
    rw [hw, shapeCast_shapeCast]
    refine Eq.trans ?_ ((h v.junk 0 ⟨n + r.val, by omega⟩ e (.inl rfl)).trans ?_)
    · refine congrArg (v.read (Elt F) _) (funext fun a => Fin.ext ?_)
      refine (Rect.idx_unit_val _ _ _ _ _).trans ?_
      fin_cases a <;> simp
    · show W (0 + (n + r.val)) e = _
      rw [hpn, Nat.zero_add]
  · rw [View.read_writes_cons_unit_of_not_mem v f inb w L (ix3 p r e) rfl 0 (by
      show p.val < n ∨ n + 1 ≤ p.val
      omega)]
    exact h f p r e (by omega)

/-- A load of a whole buffer held at the contents that read `X` reads `X`. -/
theorem load_all {κ : Kind} {sp : Space} {s : Shape} {e : EltTy} (m : Memref sig κ sp s e) (h : m.IsWhole) (X : Vec F s e)
    {off : Fin s.rank → ℕ} (inb : ∀ a, off a + s.size a ≤ s.size a) (h0 : ∀ a, off a = 0) :
    View.readAt (Elt F) m.view (Rect.unit (s := s) off s.size inb).toLoadRect (h.unread X) = X := by
  rw [View.readAt_eq_ld, h.read_unread]
  exact View.ld_unit_lit inb X h0

section
variable (c : Dev nD) (i : grid0.Coords)
  (arg2 : Memref sig .tc .vmem S1x512x1024 .f32) (harg2 : arg2.IsWhole)
  (arg3 : Memref sig .tc .vmem S1x32x1024 .f32) (harg3 : arg3.IsWhole)
  (arg14 : Memref sig .tc .vmem S8x544x1024 .f32)
  (x0 : Vec F S1x512x1024 .f32) (x1 : Vec F S1x32x1024 .f32)

/-- The two stores that fill slot 0. -/
theorem slots_first (f : arg14.view.ty.Contents (Elt F)) :
    Slots arg14.view (winRow i x0 x1) 1 (arg14.view.writes (Elt F) f (bodyRun.sl.HS0_2 c i arg2 harg2 arg3 harg3 x0 x1)) := by
  intro p r e hp
  have hp0 : p = 0 := Fin.ext (by show p.val = 0; omega)
  subst hp0
  unfold bodyRun.sl.HS0_2
  rw [load_all arg2 harg2 x0 _ (by decide), load_all arg3 harg3 x1 _ (by decide)]
  simp only [k0_pay17, shapeCast_shapeCast]
  unfold winRow
  have hr0 : (0 : Fin 8).val + r.val = r.val := Nat.zero_add _
  by_cases hr : r.val < 32
  · rw [dif_pos (by rw [hr0]; exact hr), View.read_writes_cons_unit_of_not_mem _ f _ _ _ _ rfl 1 (.inl hr)]
    rw [View.read_writes_cons_unit_of_mem _ f inb_S8x544x1024_S1x32x1024_0_0_0 _ _ (ix3 0 r e) (ix3 0 ⟨r.val, hr⟩ e : S1x32x1024.Idx) rfl
      (by intro a; fin_cases a <;> simp)]
    refine congrArg (k0_pay16 i x1) ?_
    refine congrArg (fun q : Fin 32 => (ix3 (0 : Fin 1) q e : S1x32x1024.Idx)) (Fin.ext hr0.symm)
  · rw [dif_neg (by rw [hr0]; exact hr)]
    rw [View.read_writes_cons_unit_of_mem _ f inb_S8x544x1024_S1x512x1024_0_32_0 _ _ (ix3 0 r e) (ix3 0 ⟨r.val - 32, by omega⟩ e : S1x512x1024.Idx) rfl
      (by intro a; fin_cases a <;> simp; omega)]
    refine congrArg (fun q : Fin 512 => x0 (ix3 (0 : Fin 1) q e : S1x512x1024.Idx)) (Fin.ext ?_)
    show r.val - 32 = ((0 : Fin 8).val + r.val - 32) % 512
    omega

/-- All the stores of the scratch, newest first. -/
abbrev winPieces : List (View.Piece (Elt F) S8x544x1024 .f32) :=
  (⟨Rect.unit (s := S8x544x1024) ![7, 0, 0] S1x536x1024.size inb_S8x544x1024_S1x536x1024_7_0_0, k0_pay25 (bodyRun.sl.v43 c i arg2 harg2 arg3 harg3 arg14 x0 x1)⟩ : View.Piece (Elt F) S8x544x1024 .f32)
    :: bodyRun.sl.HS0_8 c i arg2 harg2 arg3 harg3 arg14 x0 x1

/-- After all its stores the scratch holds the window in every slot, moved up by the slot's number, whatever it held before. -/
theorem slots_all (f : arg14.view.ty.Contents (Elt F)) :
    Slots arg14.view (winRow i x0 x1) 8 (arg14.view.writes (Elt F) f (winPieces c i arg2 harg2 arg3 harg3 arg14 x0 x1)) := by
  unfold winPieces bodyRun.sl.HS0_8 bodyRun.sl.HS0_7 bodyRun.sl.HS0_6 bodyRun.sl.HS0_5 bodyRun.sl.HS0_4 bodyRun.sl.HS0_3
  revert f
  refine slots_step _ _ _ 7 (by decide) (by decide) _ inb_S8x544x1024_S1x536x1024_0_7_0 _ rfl ?_
  refine slots_step _ _ _ 6 (by decide) (by decide) _ inb_S8x544x1024_S1x536x1024_0_6_0 _ rfl ?_
  refine slots_step _ _ _ 5 (by decide) (by decide) _ inb_S8x544x1024_S1x536x1024_0_5_0 _ rfl ?_
  refine slots_step _ _ _ 4 (by decide) (by decide) _ inb_S8x544x1024_S1x536x1024_0_4_0 _ rfl ?_
  refine slots_step _ _ _ 3 (by decide) (by decide) _ inb_S8x544x1024_S1x536x1024_0_3_0 _ rfl ?_
  refine slots_step _ _ _ 2 (by decide) (by decide) _ inb_S8x544x1024_S1x536x1024_0_2_0 _ rfl ?_
  refine slots_step _ _ _ 1 (by decide) (by decide) _ inb_S8x544x1024_S1x536x1024_0_1_0 _ rfl ?_
  exact slots_first c i arg2 harg2 arg3 harg3 arg14 x0 x1

end

/-- The 32 rows of the window `W` from row `m` on. -/
def winLoad (W : ℕ → Fin 1024 → Elt F .f32) (m : ℕ) : Vec F S1x32x1024 .f32 := fun y => W (m + (y 1).val) (y 2)

/-- A load of 32 rows of a slot's stored part reads the window. -/
theorem slots_load {v : View sig .tc .vmem S8x544x1024 .f32} {W : ℕ → Fin 1024 → Elt F .f32} {X : v.ty.Contents (Elt F)} (h : Slots v W 8 X)
    {off : Fin 3 → ℕ} (p q m : ℕ) (ho : off = ![p, q, 0]) (hp : p = 0 ∨ q + 32 ≤ 536) (hm : p + q = m)
    (inb : ∀ a, off a + S1x32x1024.size a ≤ S8x544x1024.size a) :
    v.readAt (Elt F) (Rect.unit (s := S8x544x1024) off S1x32x1024.size inb).toLoadRect X = winLoad W m := by
  subst ho hm
  funext y
  obtain ⟨z, r, e, rfl⟩ : ∃ (z : Fin 1) (r : Fin 32) (e : Fin 1024), y = ix3 z r e := ⟨y 0, y 1, y 2, eq_ix3 y⟩
  have h8 : p + 1 ≤ 8 := inb 0
  have h5 : q + 32 ≤ 544 := inb 1
  refine Eq.trans ?_ ((h ⟨p, by omega⟩ ⟨q + r.val, by omega⟩ e (by
    show p = 0 ∨ (p < 8 ∧ q + r.val < 536)
    omega)).trans (by show W (p + (q + r.val)) e = W (p + q + r.val) e; rw [Nat.add_assoc]))
  refine congrArg (v.read (Elt F) _) (funext fun a => Fin.ext ?_)
  refine (Rect.idx_unit_val _ _ _ _ _).trans ?_
  have hz : z.val = 0 := by omega
  fin_cases a <;> simp [hz]

/-- Tap `j` of the filter: its eight equal rows. -/
def tapLoad (x3 : Vec F S31x8x1024 .f32) (j : ℕ) : Vec F S1x8x1024 .f32 := fun y => x3 (ix3 ⟨j % 31, by omega⟩ (y 1) (y 2))

/-- A load of tap `j` of the filter. -/
theorem tap_load (arg5 : Memref sig .tc .vmem S31x8x1024 .f32) (harg5 : arg5.IsWhole) (x3 : Vec F S31x8x1024 .f32) (j : ℕ)
    (inb : ∀ a, (![j, 0, 0] : Fin 3 → ℕ) a + S1x8x1024.size a ≤ S31x8x1024.size a) :
    arg5.view.readAt (Elt F) (Rect.unit (s := S31x8x1024) ![j, 0, 0] S1x8x1024.size inb).toLoadRect (harg5.unread x3) = tapLoad x3 j := by
  funext y
  obtain ⟨z, r, e, rfl⟩ : ∃ (z : Fin 1) (r : Fin 8) (e : Fin 1024), y = ix3 z r e := ⟨y 0, y 1, y 2, eq_ix3 y⟩
  have hj : j + 1 ≤ 31 := inb 0
  have hz : z.val = 0 := by omega
  rw [View.readAt_eq_ld, harg5.read_unread]
  refine congrArg x3 (funext fun a => Fin.ext ?_)
  refine (Rect.idx_unit_val _ _ _ _ _).trans ?_
  fin_cases a <;> simp [hz, tapLoad]
  omega

end Cert.ConvIdeal.Hand

end
-- ==== Proof.ConvTrip.lean ====
/- One trip of the depthwise convolution's loop: what its 32 rows are, in terms of the window and the filter. -/
module

public import proofs.«01_k».proof.Proof.ConvWindow

@[expose] public section

set_option maxRecDepth 16384

noncomputable section

namespace Cert.ConvIdeal.Hand

open Cert.ConvIdeal Cert.ConvIdeal.Gen
open Idealize.ShloMosaic Idealize.ShloMosaic.TcCoe Idealize.ShloMosaic.Tactic Idealize.SL.Sem

variable {F : FTy → Type} [FloatOps F]

/-- What one trip of the loop computes for its 32 rows: the bias plus the thirty-one taps, tap `j` times the window from row `m + j + 2` on. -/
def convTrip (b : Vec F S1x1024 .f32) (d : ℕ → Vec F S1x8x1024 .f32) (w : ℕ → Vec F S1x32x1024 .f32) : FVec F S32x1024 .f32 :=
  k0_pay15 (k0_pay13 (k0_pay12 (k0_pay10 (k0_pay9 (k0_pay7 (k0_pay6 (k0_pay4 (k0_pay2 b (d 0) (w 0) (d 1) (w 1)) (k0_pay3 (d 2) (w 2))
    (d 3) (w 3) (d 4) (w 4) (d 5) (w 5)) (k0_pay5 (d 6)) (w 6) (d 7) (w 7) (d 8) (w 8) (d 9) (w 9)) (d 10) (w 10) (d 11) (w 11) (d 12) (w 12))
    (k0_pay8 (d 13)) (w 13) (d 14) (w 14) (d 15) (w 15) (d 16) (w 16)) (d 17) (w 17) (d 18) (w 18) (d 19) (w 19)) (k0_pay11 (d 20)) (w 20)
    (d 21) (w 21) (d 22) (w 22) (d 23) (w 23)) (d 24) (w 24) (d 25) (w 25) (d 26) (w 26)) (k0_pay14 (d 27)) (w 27) (d 28) (w 28) (d 29) (w 29)
    (d 30) (w 30)

section
variable (𝒱 : Variants) (c : Dev nD) (bd : Option 𝒱.V) (i : grid0.Coords)
  (arg2 : Memref sig .tc .vmem S1x512x1024 .f32) (harg2 : arg2.IsWhole) (arg3 : Memref sig .tc .vmem S1x32x1024 .f32) (harg3 : arg3.IsWhole)
  (arg4 : Memref sig .tc .vmem S1x512x1024 .f32) (harg4 : arg4.IsWhole) (arg5 : Memref sig .tc .vmem S31x8x1024 .f32) (harg5 : arg5.IsWhole)
  (arg6 : Memref sig .tc .vmem S1x1024 .f32) (harg6 : arg6.IsWhole) (arg7 : Memref sig .tc .vmem S1x1024 .f32) (harg7 : arg7.IsWhole)
  (arg8 : Memref sig .tc .vmem S1x1024 .f32) (harg8 : arg8.IsWhole) (arg9 : Memref sig .tc .vmem S1024x1024 .bf16) (harg9 : arg9.IsWhole)
  (arg10 : Memref sig .tc .vmem S1x1024 .f32) (harg10 : arg10.IsWhole) (arg11 : Memref sig .tc .vmem S1x1024 .f32) (harg11 : arg11.IsWhole)
  (arg12 : Memref sig .tc .vmem S1x1024 .f32) (harg12 : arg12.IsWhole) (arg13 : Memref sig .tc .vmem S1x512x1024 .f32) (harg13 : arg13.IsWhole)
  (arg14 : Memref sig .tc .vmem S8x544x1024 .f32) (harg14 : arg14.IsWhole) (arg15 : Memref sig .tc .vmem S512x1024 .f32) (harg15 : arg15.IsWhole)
  (v24 : FVec F S536x1024 .f32) (x3 : Vec F S31x8x1024 .f32) (x4 : Vec F S1x1024 .f32) (X : BufTy.Contents (Elt F) arg14.view.ty)
  (W : ℕ → Fin 1024 → Elt F .f32)

/-- The 32 rows trip `k` stores. -/
def tripPiece (k : Fin k0_t1_loop.trips) : View.Piece (Elt F) S512x1024 .f32 :=
  ⟨Rect.unit (s := S512x1024) (k0_off9 k) S32x1024.size (k0_off9_inb k),
    k0_pay26 (convTrip x4 (tapLoad x3) (fun j => winLoad W (32 * k.val + (j + 2))))⟩

/-- One trip of the loop stores the bias plus the taps over the window's rows, whatever else the scratch holds. -/
theorem trip_rows (hX : Slots arg14.view W 8 X) (k : Fin k0_t1_loop.trips) :
    tripL_k0_t1 (F := F) 𝒱 c bd i arg2 harg2 arg3 harg3 arg4 harg4 arg5 harg5 arg6 harg6 arg7 harg7 arg8 harg8 arg9 harg9 arg10 harg10 arg11
      harg11 arg12 harg12 arg13 harg13 arg14 harg14 arg15 harg15 v24 (harg5.unread x3) (harg6.unread x4) X k = [tripPiece x3 x4 W k] := by
  have hk : k.val < 16 := Nat.lt_of_lt_of_le k.isLt k0_t1_abs.2.1
  have L1 (r : Fin 4) (w : BitVec 32) (hw : w = BitVec.ofNat 32 (8 * r.val)) (j : ℕ) (hj : j = 8 * r.val + 0) := slots_load hX (off := k0_off1 k w)
    2 (32 * k.val + 8 * r.val) (32 * k.val + (j + 2)) (hw ▸ k0_off1_eq k r) (by omega) (by omega)
  have L2 (r : Fin 4) (w : BitVec 32) (hw : w = BitVec.ofNat 32 (8 * r.val)) (j : ℕ) (hj : j = 8 * r.val + 1) := slots_load hX (off := k0_off2 k w)
    3 (32 * k.val + 8 * r.val) (32 * k.val + (j + 2)) (hw ▸ k0_off2_eq k r) (by omega) (by omega)
  have L3 (r : Fin 4) (w : BitVec 32) (hw : w = BitVec.ofNat 32 (8 * r.val)) (j : ℕ) (hj : j = 8 * r.val + 2) := slots_load hX (off := k0_off3 k w)
    4 (32 * k.val + 8 * r.val) (32 * k.val + (j + 2)) (hw ▸ k0_off3_eq k r) (by omega) (by omega)
  have L4 (r : Fin 4) (w : BitVec 32) (hw : w = BitVec.ofNat 32 (8 * r.val)) (j : ℕ) (hj : j = 8 * r.val + 3) := slots_load hX (off := k0_off4 k w)
    5 (32 * k.val + 8 * r.val) (32 * k.val + (j + 2)) (hw ▸ k0_off4_eq k r) (by omega) (by omega)
  have L5 (r : Fin 4) (w : BitVec 32) (hw : w = BitVec.ofNat 32 (8 * r.val)) (j : ℕ) (hj : j = 8 * r.val + 4) := slots_load hX (off := k0_off5 k w)
    6 (32 * k.val + 8 * r.val) (32 * k.val + (j + 2)) (hw ▸ k0_off5_eq k r) (by omega) (by omega)
  have L6 (r : Fin 4) (w : BitVec 32) (hw : w = BitVec.ofNat 32 (8 * r.val)) (j : ℕ) (hj : j = 8 * r.val + 5) := slots_load hX (off := k0_off6 k w)
    7 (32 * k.val + 8 * r.val) (32 * k.val + (j + 2)) (hw ▸ k0_off6_eq k r) (by omega) (by omega)
  have L7 (r : Fin 4) (w : BitVec 32) (hw : w = BitVec.ofNat 32 (8 + 8 * r.val)) (j : ℕ) (hj : j = 8 * r.val + 6) := slots_load hX (off := k0_off7 k w)
    0 (32 * k.val + 8 * r.val + 8) (32 * k.val + (j + 2)) (hw ▸ k0_off7_eq k r) (by omega) (by omega)
  have L8 (r : Fin 3) (w : BitVec 32) (hw : w = BitVec.ofNat 32 (8 + 8 * r.val)) (j : ℕ) (hj : j = 8 * r.val + 7) := slots_load hX (off := k0_off8 k w)
    1 (32 * k.val + 8 * r.val + 8) (32 * k.val + (j + 2)) (hw ▸ k0_off8_eq k r) (by omega) (by omega)
  unfold tripL_k0_t1 trip_k0_t1
  dsimp only
  unfold trip_k0_t1.sl.r_13 trip_k0_t1.sl.r_12 trip_k0_t1.sl.r_11 trip_k0_t1.sl.r_10 trip_k0_t1.sl.r_9 trip_k0_t1.sl.r_8 trip_k0_t1.sl.r_7
    trip_k0_t1.sl.r_6 trip_k0_t1.sl.r_5 trip_k0_t1.sl.r_4 trip_k0_t1.sl.r_3 trip_k0_t1.sl.r_2 trip_k0_t1.sl.r_1 trip_k0_t1.sl.r
  simp only [L1 0 0#32 rfl 0 rfl, L2 0 0#32 rfl 1 rfl, L3 0 0#32 rfl 2 rfl, L4 0 0#32 rfl 3 rfl, L5 0 0#32 rfl 4 rfl,
    L6 0 0#32 rfl 5 rfl, L7 0 8#32 rfl 6 rfl, L8 0 8#32 rfl 7 rfl, L1 1 8#32 rfl 8 rfl, L2 1 8#32 rfl 9 rfl,
    L3 1 8#32 rfl 10 rfl, L4 1 8#32 rfl 11 rfl, L5 1 8#32 rfl 12 rfl, L6 1 8#32 rfl 13 rfl, L7 1 16#32 rfl 14 rfl,
    L8 1 16#32 rfl 15 rfl, L1 2 16#32 rfl 16 rfl, L2 2 16#32 rfl 17 rfl, L3 2 16#32 rfl 18 rfl, L4 2 16#32 rfl 19 rfl,
    L5 2 16#32 rfl 20 rfl, L6 2 16#32 rfl 21 rfl, L7 2 24#32 rfl 22 rfl, L8 2 24#32 rfl 23 rfl, L1 3 24#32 rfl 24 rfl,
    L2 3 24#32 rfl 25 rfl, L3 3 24#32 rfl 26 rfl, L4 3 24#32 rfl 27 rfl, L5 3 24#32 rfl 28 rfl, L6 3 24#32 rfl 29 rfl,
    L7 3 32#32 rfl 30 rfl]
  rw [load_all arg6 harg6 x4 _ (by decide)]
  have T := tap_load arg5 harg5 x3
  rw [T 0, T 1, T 2, T 3, T 4, T 5, T 6, T 7, T 8, T 9, T 10, T 11, T 12, T 13, T 14, T 15, T 16, T 17, T 18, T 19, T 20, T 21, T 22, T 23, T 24, T 25, T 26, T 27, T 28, T 29, T 30]
  rfl

/-- The rows stored by the trips before `n`, newest first. -/
def tripPieces : ℕ → List (View.Piece (Elt F) S512x1024 .f32)
  | 0 => []
  | n + 1 => if h : n < k0_t1_loop.trips then tripPiece x3 x4 W ⟨n, h⟩ :: tripPieces n else tripPieces n

/-- The loop's stores, trip by trip. -/
theorem loop_pieces (hX : Slots arg14.view W 8 X) (n : ℕ) (hn : n ≤ k0_t1_loop.trips) :
    pb_k0_t1 (F := F) 𝒱 c bd i arg2 harg2 arg3 harg3 arg4 harg4 arg5 harg5 arg6 harg6 arg7 harg7 arg8 harg8 arg9 harg9 arg10 harg10 arg11 harg11
      arg12 harg12 arg13 harg13 arg14 harg14 arg15 harg15 v24 (harg5.unread x3) (harg6.unread x4) X n = tripPieces x3 x4 W n := by
  induction n with
  | zero => rfl
  | succ n ih =>
    have h : n < k0_t1_loop.trips := hn
    refine (pb_k0_t1_succ (F := F) 𝒱 c bd i arg2 harg2 arg3 harg3 arg4 harg4 arg5 harg5 arg6 harg6 arg7 harg7 arg8 harg8 arg9 harg9 arg10 harg10
      arg11 harg11 arg12 harg12 arg13 harg13 arg14 harg14 arg15 harg15 v24 (harg5.unread x3) (harg6.unread x4) X ⟨n, h⟩).trans ?_
    rw [trip_rows _ _ _ _ _ _ _ _ _ _ _ _ _ _ _ _ _ _ _ _ _ _ _ _ _ _ _ _ _ _ _ _ _ _ _ X W hX ⟨n, h⟩, ih (by omega)]
    rw [tripPieces.eq_2, dif_pos h]
    rfl

end

/-- The convolution's 512 rows of a block. -/
def convRows (i : grid0.Coords) (x0 : Vec F S1x512x1024 .f32) (x1 : Vec F S1x32x1024 .f32) (x3 : Vec F S31x8x1024 .f32) (x4 : Vec F S1x1024 .f32) :
    Vec F S512x1024 .f32 :=
  View.canon (tripPieces x3 x4 (winRow i x0 x1) k0_t1_loop.trips)

/-- The block of the result that a grid point stores. -/
def convBlk (i : grid0.Coords) (x0 : Vec F S1x512x1024 .f32) (x1 : Vec F S1x32x1024 .f32) (x2 : Vec F S1x512x1024 .f32) (x3 : Vec F S31x8x1024 .f32)
    (x4 x5 x6 : Vec F S1x1024 .f32) (x7 : Vec F S1024x1024 .bf16) (x8 x9 x10 : Vec F S1x1024 .f32) : Vec F S1x512x1024 .f32 :=
  k0_pay1 (k0_pay27 (convRows i x0 x1 x3 x4) x5 x6 x7 x8) x2 x9 x10

section
variable (c : Dev nD) (i : grid0.Coords)
  (arg2 : Memref sig .tc .vmem S1x512x1024 .f32) (harg2 : arg2.IsWhole) (arg3 : Memref sig .tc .vmem S1x32x1024 .f32) (harg3 : arg3.IsWhole)
  (arg4 : Memref sig .tc .vmem S1x512x1024 .f32) (harg4 : arg4.IsWhole) (arg5 : Memref sig .tc .vmem S31x8x1024 .f32) (harg5 : arg5.IsWhole)
  (arg6 : Memref sig .tc .vmem S1x1024 .f32) (harg6 : arg6.IsWhole) (arg7 : Memref sig .tc .vmem S1x1024 .f32) (harg7 : arg7.IsWhole)
  (arg8 : Memref sig .tc .vmem S1x1024 .f32) (harg8 : arg8.IsWhole) (arg9 : Memref sig .tc .vmem S1024x1024 .bf16) (harg9 : arg9.IsWhole)
  (arg10 : Memref sig .tc .vmem S1x1024 .f32) (harg10 : arg10.IsWhole) (arg11 : Memref sig .tc .vmem S1x1024 .f32) (harg11 : arg11.IsWhole)
  (arg12 : Memref sig .tc .vmem S1x1024 .f32) (harg12 : arg12.IsWhole) (arg13 : Memref sig .tc .vmem S1x512x1024 .f32) (harg13 : arg13.IsWhole)
  (arg14 : Memref sig .tc .vmem S8x544x1024 .f32) (harg14 : arg14.IsWhole) (arg15 : Memref sig .tc .vmem S512x1024 .f32) (harg15 : arg15.IsWhole)
  (x0 : Vec F S1x512x1024 .f32) (x1 : Vec F S1x32x1024 .f32) (x2 : Vec F S1x512x1024 .f32) (x3 : Vec F S31x8x1024 .f32)
  (x4 x5 x6 : Vec F S1x1024 .f32) (x7 : Vec F S1024x1024 .bf16) (x8 x9 x10 : Vec F S1x1024 .f32)

/-- What the body stores, whatever the scratch held before. -/
theorem run_pieces (fs : BufTy.Contents (Elt F) arg14.view.ty) :
    (bodyRun c i arg2 harg2 arg3 harg3 arg4 harg4 arg5 harg5 arg6 harg6 arg7 harg7 arg8 harg8 arg9 harg9 arg10 harg10 arg11 harg11 arg12 harg12
      arg13 harg13 arg14 harg14 arg15 harg15 x0 x1 x2 x3 x4 x5 x6 x7 x8 x9 x10 fs).1
      = [(⟨Rect.unit (s := S1x512x1024) ![0, 0, 0] S1x512x1024.size inb_S1x512x1024_S1x512x1024_0_0_0, convBlk i x0 x1 x2 x3 x4 x5 x6 x7 x8 x9 x10⟩ : View.Piece (Elt F) S1x512x1024 .f32)] := by
  have hL := loop_pieces Variants.none c none i arg2 harg2 arg3 harg3 arg4 harg4 arg5 harg5 arg6 harg6 arg7 harg7 arg8 harg8 arg9 harg9 arg10 harg10
    arg11 harg11 arg12 harg12 arg13 harg13 arg14 harg14 arg15 harg15 (bodyRun.sl.r c i arg2 harg2 arg3 harg3 arg14 x0 x1) x3 x4
    (arg14.view.writes (Elt F) fs (winPieces c i arg2 harg2 arg3 harg3 arg14 x0 x1)) (winRow i x0 x1)
    (slots_all c i arg2 harg2 arg3 harg3 arg14 x0 x1 fs) k0_t1_loop.trips le_rfl
  dsimp only [bodyRun]
  unfold bodyRun.sl.r_1
  rw [load_all arg4 harg4 x2 _ (by decide), load_all arg11 harg11 x9 _ (by decide), load_all arg12 harg12 x10 _ (by decide),
    load_all arg7 harg7 x5 _ (by decide), load_all arg8 harg8 x6 _ (by decide), load_all arg9 harg9 x7 _ (by decide),
    load_all arg10 harg10 x8 _ (by decide), View.readCov_eq_canon']
  have hid : ∀ j : S512x1024.Idx, (Rect.unit (s := S512x1024) ![0, 0] S512x1024.size inb_S512x1024_S512x1024_0_0).toLoadRect.idx j = j := fun j =>
    funext fun a => Fin.ext ((Rect.idx_unit_val _ _ _ _ _).trans (by fin_cases a <;> simp))
  have hC : (fun j => View.canon (pb_k0_t1 (F := F) Variants.none c none i arg2 harg2 arg3 harg3 arg4 harg4 arg5 harg5 arg6 harg6 arg7 harg7 arg8
      harg8 arg9 harg9 arg10 harg10 arg11 harg11 arg12 harg12 arg13 harg13 arg14 harg14 arg15 harg15
      (bodyRun.sl.r c i arg2 harg2 arg3 harg3 arg14 x0 x1) (harg5.unread x3) (harg6.unread x4)
      (arg14.view.writes (Elt F) fs (winPieces c i arg2 harg2 arg3 harg3 arg14 x0 x1)) k0_t1_loop.trips)
      ((Rect.unit (s := S512x1024) ![0, 0] S512x1024.size inb_S512x1024_S512x1024_0_0).toLoadRect.idx j)) = convRows i x0 x1 x3 x4 := by
    funext j
    rw [hid j, hL]
    rfl
  exact congrArg (fun y => [(⟨Rect.unit (s := S1x512x1024) ![0, 0, 0] S1x512x1024.size inb_S1x512x1024_S1x512x1024_0_0_0,
    k0_pay1 (k0_pay27 y x5 x6 x7 x8) x2 x9 x10⟩ : View.Piece (Elt F) S1x512x1024 .f32)]) hC

end

end Cert.ConvIdeal.Hand

end
-- ==== Proof.ConvFrame.lean ====
/- The launch of the depthwise convolution call, at any number type: every block of the result ends at what its grid point stores, whatever the
   scratch buffers held, and the argument arrays end as they were. -/
module

public import proofs.«01_k».proof.Proof.ConvTrip
public import proofs.«01_k».proof.Proof.Gen.ConvIdeal.Frame
public import Idealize.ShloMosaic.Lib.Claim

@[expose] public section

set_option maxRecDepth 16384

noncomputable section

namespace Cert.ConvIdeal.Hand

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The window scratch. -/
abbrev winScr : Memref sig .tc .vmem S8x544x1024 .f32 := Memref.whole cc0_scratch0

/-- The scratch the convolution's rows are gathered in. -/
abbrev rowScr : Memref sig .tc .vmem S512x1024 .f32 := Memref.whole cc0_scratch1

/-- What the pipeline keeps between grid points: the two scratch buffers at some contents, and the generator register. -/
theorem kept_eq (c : Dev nD) :
    (Pipeline.ΦA spec0 c : sProp 𝕄)
      = iprop(iprop((∃ d, owns (c : Thread nD τ) winScr fullShare d) ∗ (∃ d, owns (c : Thread nD τ) rowScr fullShare d)) ∗ (∃ r, prngReg c r)) := by
  unfold Pipeline.ΦA
  rw [scopedRest0_eq]
  simp only [winScr, rowScr, owns_whole]
  try rfl

/-- A buffer owned at some value is owned at some contents. -/
theorem owns_open (c : Dev nD) {s : Shape} {e : EltTy} (a : Memref sig .tc .vmem s e) :
    (iprop(∃ d, owns (c : Thread nD τ) a fullShare d) : sProp 𝕄) ⊢ iprop(∃ f, (a.view.loc (c : Thread nD τ) ↦[a.view.set]{fullShare} f)) := by
  unfold owns
  iintro ⟨%d, %f, -, H⟩
  iexists f
  iexact H

variable (m : (ℓ : Loc nD τ sig) → Buf (Elt F) ℓ) (ρ : Dev nD → PrngReg)

/-- The block of the result grid point `t` leaves. -/
def outAt (c : Dev nD) (t : Fin cfg0.N) : Vec F S1x512x1024 .f32 :=
  convBlk (grid0.coords t) (iblk m c 0 t) (iblk m c 1 t) (iblk m c 2 t) (iblk m c 3 t) (iblk m c 4 t) (iblk m c 5 t) (iblk m c 6 t) (iblk m c 7 t)
    (iblk m c 8 t) (iblk m c 9 t) (iblk m c 10 t)

/-- The pipeline on core `c`: after the body at point `t` each input window still holds its block, and the result window holds `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt m c t
  Φ _ := Pipeline.ΦA spec0 c
  q w := Pipeline.shareOf spec0 w
  owed _ := 0

/-- The arrays are what the launch found. -/
theorem A_eq (c : Dev nD) (w : Fin cfg0.W) : (dats m 0 c).A w = V m c (Pipeline.arrRef spec0 w) := by
  dsimp only [dats]

/-! Each input window holds its block when the body starts. -/

/-- At a grid point, input 0's block holds what its array holds there. -/
theorem before_0 (c : Dev nD) (t : Fin cfg0.N) (d) : (dats m 0 c).before 0 t d = iblk m c 0 t :=
  before0_0_of m (dats m 0 c) (A_eq m c 0) (fun t => by dsimp only [dats]) t d
/-- At a grid point, input 1's block holds what its array holds there. -/
theorem before_1 (c : Dev nD) (t : Fin cfg0.N) (d) : (dats m 0 c).before 1 t d = iblk m c 1 t :=
  before0_1_of m (dats m 0 c) (A_eq m c 1) (fun t => by dsimp only [dats]) t d
/-- At a grid point, input 2's block holds what its array holds there. -/
theorem before_2 (c : Dev nD) (t : Fin cfg0.N) (d) : (dats m 0 c).before 2 t d = iblk m c 2 t :=
  before0_2_of m (dats m 0 c) (A_eq m c 2) (fun t => by dsimp only [dats]) t d
/-- At a grid point, input 3's block holds what its array holds there. -/
theorem before_3 (c : Dev nD) (t : Fin cfg0.N) (d) : (dats m 0 c).before 3 t d = iblk m c 3 t :=
  before0_3_of m (dats m 0 c) (A_eq m c 3) (fun t => by dsimp only [dats]) t d
/-- At a grid point, input 4's block holds what its array holds there. -/
theorem before_4 (c : Dev nD) (t : Fin cfg0.N) (d) : (dats m 0 c).before 4 t d = iblk m c 4 t :=
  before0_4_of m (dats m 0 c) (A_eq m c 4) (fun t => by dsimp only [dats]) t d
/-- At a grid point, input 5's block holds what its array holds there. -/
theorem before_5 (c : Dev nD) (t : Fin cfg0.N) (d) : (dats m 0 c).before 5 t d = iblk m c 5 t :=
  before0_5_of m (dats m 0 c) (A_eq m c 5) (fun t => by dsimp only [dats]) t d
/-- At a grid point, input 6's block holds what its array holds there. -/
theorem before_6 (c : Dev nD) (t : Fin cfg0.N) (d) : (dats m 0 c).before 6 t d = iblk m c 6 t :=
  before0_6_of m (dats m 0 c) (A_eq m c 6) (fun t => by dsimp only [dats]) t d
/-- At a grid point, input 7's block holds what its array holds there. -/
theorem before_7 (c : Dev nD) (t : Fin cfg0.N) (d) : (dats m 0 c).before 7 t d = iblk m c 7 t :=
  before0_7_of m (dats m 0 c) (A_eq m c 7) (fun t => by dsimp only [dats]) t d
/-- At a grid point, input 8's block holds what its array holds there. -/
theorem before_8 (c : Dev nD) (t : Fin cfg0.N) (d) : (dats m 0 c).before 8 t d = iblk m c 8 t :=
  before0_8_of m (dats m 0 c) (A_eq m c 8) (fun t => by dsimp only [dats]) t d
/-- At a grid point, input 9's block holds what its array holds there. -/
theorem before_9 (c : Dev nD) (t : Fin cfg0.N) (d) : (dats m 0 c).before 9 t d = iblk m c 9 t :=
  before0_9_of m (dats m 0 c) (A_eq m c 9) (fun t => by dsimp only [dats]) t d
/-- At a grid point, input 10's block holds what its array holds there. -/
theorem before_10 (c : Dev nD) (t : Fin cfg0.N) (d) : (dats m 0 c).before 10 t d = iblk m c 10 t :=
  before0_10_of m (dats m 0 c) (A_eq m c 10) (fun t => by dsimp only [dats]) t d

/-- What the body is called with at point `t`: every window at what it holds then. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1200000 in
/-- The body at any point: the input windows hold their blocks, the scratch holds anything, and the result window ends at `outAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, kept_eq]
  dsimp only [dats]
  refine (sep_mono (sep_mono (sep_mono (owns_open c winScr) .rfl) .rfl) .rfl).trans ?_
  iintro ⟨⟨⟨⟨%fs, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) winScr (Memref.isWhole_whole _) rowScr (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) fs).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  iintro ⟨H0, H1, H2, H3, H4, H5, H6, H7, H8, H9, H10, ⟨%e11, H11⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro
  rw [run_pieces]
  funext y
  exact View.read_writes_cons_unit_of_mem _ e11 inb_S1x512x1024_S1x512x1024_0_0_0 _ _ y y rfl (fun a => by fin_cases a <;> simp)

/-- The table's row for the body is the body. -/
theorem defs₀_row (t : Fin cfg0.N) :
    defs₀ (F := F) .tc cfg0.body (cfg0.bodyArgs t (cfg0.slots t)) = bodyAt0 t := by
  unfold defs₀; rw [Defs.onTc_tc]

/-- The body at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array of the pipeline ends at what the points store, and no semaphore is left raised. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- Every execution ends, with the argument arrays unchanged and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.ConvIdeal.Hand

end
-- ==== Proof.ConvSame.lean ====
/- The depthwise convolution call's program and its idealization are the same text: nothing in it was to be idealized. So what is shown of the
   one's launch at any number type holds of the other's. -/
module

public import proofs.«01_k».proof.Proof.ConvFrame
public import proofs.«01_k».proof.Proof.Gen.Conv.Frame
public import proofs.«01_k».proof.Defs

@[expose] public section

noncomputable section

namespace Cert.Conv.Hand

open Idealize.ShloMosaic Idealize.ShloMosaic.TcCoe Idealize.SL.Sem

variable {F : FTy → Type} [FloatOps F]

/-- The two programs' tables of kernel bodies are the same. -/
theorem bodies_same : @Eq (Defs Cert.ConvIdeal.nD Cert.ConvIdeal.τ Cert.ConvIdeal.sig (Elt F) Cert.ConvIdeal.Λ₀)
    (Cert.Conv.defs₀ (F := F)) (Cert.ConvIdeal.defs₀ (F := F)) := by
  unfold Cert.Conv.defs₀ Cert.ConvIdeal.defs₀
  congr 1
  funext l x
  match l, x with
  | 0, _ => rfl

/-- So are the tables with the pipeline's rows. -/
theorem tables_same : @Eq (Defs Cert.ConvIdeal.nD Cert.ConvIdeal.τ Cert.ConvIdeal.sig (Elt F)
    (Pipeline.Sig Cert.ConvIdeal.Λ₀ (Fin 1) fun p => (Cert.ConvIdeal.pcfgs (F := F) p).Adm)) (Cert.Conv.defs (F := F)) (Cert.ConvIdeal.defs (F := F)) :=
  congrArg (Pipeline.defs (Cert.ConvIdeal.pcfgs (F := F))) bodies_same

/-- Every execution of the call as compiled ends, with the argument arrays unchanged and no semaphore raised. -/
theorem frame : Cert.quiescent_Conv (hConv := Cert.Conv.Gen.facts) := by
  intro m ρ _
  have h := Cert.ConvIdeal.Hand.frame (F := Bits) m ρ
  rw [← tables_same] at h
  exact h

end Cert.Conv.Hand

end
-- ==== Proof.ConvRows.lean ====
/- The depthwise convolution call over the extended reals: the convolution's rows, and what follows them in a block. -/
module

public import proofs.«01_k».proof.Proof.ConvFrame
public import proofs.«01_k».proof.Proof.Spec
public import Idealize.ShloMosaic.Lib.Pipeline.ValueKit
public import Idealize.ShloMosaic.Lib.Pointwise

@[expose] public section

set_option maxRecDepth 16384

noncomputable section

namespace Cert.Spec

open Idealize.ShloMosaic

/-- The swish of a number: the number times its logistic function. -/
def swish (y : EReal) : EReal := Ideal.div y (1 + Ideal.exp (-y))

/-- One row after its convolution: normalised, through the swish, projected, added to the scaled input row, normalised. -/
def mixRow (y cg cb x bo mg mb : Fin 1024 → EReal) (wo : Fin 1024 → Fin 1024 → EReal) (e : Fin 1024) : EReal :=
  lnRow (fun e => Ideal.ofBits FTy.f32 1068827891#32 * x e + ((∑ k : Fin 1024, swish (lnRow y cg cb k) * wo k e) + bo e)) mg mb e

/-- Such a row depends on its operands' values only. -/
theorem mixRow_congr {y y' cg cg' cb cb' x x' bo bo' mg mg' mb mb' : Fin 1024 → EReal} {wo wo' : Fin 1024 → Fin 1024 → EReal}
    (hy : ∀ e, y e = y' e) (hcg : ∀ e, cg e = cg' e) (hcb : ∀ e, cb e = cb' e) (hx : ∀ e, x e = x' e) (hbo : ∀ e, bo e = bo' e)
    (hmg : ∀ e, mg e = mg' e) (hmb : ∀ e, mb e = mb' e) (hwo : ∀ k e, wo k e = wo' k e) (e : Fin 1024) :
    mixRow y cg cb x bo mg mb wo e = mixRow y' cg' cb' x' bo' mg' mb' wo' e := by
  rw [funext hy, funext hcg, funext hcb, funext hx, funext hbo, funext hmg, funext hmb, funext fun k => funext (hwo k)]

/-- Thirty-one terms added one after another to a first number are their sum and that number. -/
theorem thirtyOne (b : EReal) (f : ℕ → EReal) :
    b + f 0 + f 1 + f 2 + f 3 + f 4 + f 5 + f 6 + f 7 + f 8 + f 9 + f 10 + f 11 + f 12 + f 13 + f 14 + f 15 + f 16 + f 17 + f 18 + f 19 + f 20
      + f 21 + f 22 + f 23 + f 24 + f 25 + f 26 + f 27 + f 28 + f 29 + f 30 = (∑ j ∈ Finset.range 31, f j) + b := by
  rw [add_comm (∑ j ∈ Finset.range 31, f j) b]
  simp only [Finset.sum_range_succ, Finset.sum_range_zero, zero_add, ← add_assoc]

/-- The swish, its negation written as a difference from zero. -/
theorem swish_sub (y : EReal) : swish y = Ideal.div y (1 + Ideal.exp (0 - y)) :=
  congrArg (fun z : EReal => Ideal.div y (1 + Ideal.exp z)) ((sub_eq_add_neg _ _).trans (zero_add _)).symm

end Cert.Spec

namespace Cert.ConvIdeal.Hand

open Cert.ConvIdeal Cert.ConvIdeal.Gen
open Idealize.ShloMosaic Idealize.ShloMosaic.TcCoe Idealize.ShloMosaic.Tactic Idealize.SL.Sem

/-- What follows the convolution in a block. -/
theorem tail_apply (y : FVec Ideal S512x1024 .f32) (x2 : Vec Ideal S1x512x1024 .f32) (x5 x6 : Vec Ideal S1x1024 .f32) (x7 : Vec Ideal S1024x1024 .bf16)
    (x8 x9 x10 : Vec Ideal S1x1024 .f32) (r : Fin 512) (e : Fin 1024) :
    k0_pay1 (k0_pay27 y x5 x6 x7 x8) x2 x9 x10 (ix3 0 r e)
      = Spec.mixRow (fun k => y (ix2 r k)) (fun k => x5 (ix2 0 k)) (fun k => x6 (ix2 0 k)) (fun k => x2 (ix3 0 r k)) (fun k => x8 (ix2 0 k))
        (fun k => x9 (ix2 0 k)) (fun k => x10 (ix2 0 k)) (fun k e => x7 (ix2 k e)) e := by
  have h1 (z : FVec Ideal S512x1024 .f32) : k0_pay1 z x2 x9 x10 (ix3 0 r e)
      = Spec.lnRow (fun e => Ideal.ofBits FTy.f32 1068827891#32 * x2 (ix3 0 r e) + z (ix2 r e)) (fun k => x9 (ix2 0 k)) (fun k => x10 (ix2 0 k)) e := by
    pointwise [k0_pay1]
    rfl
  have h2 (e : Fin 1024) : k0_pay27 y x5 x6 x7 x8 (ix2 r e)
      = (∑ k : Fin 1024, Spec.swish (Spec.lnRow (fun k => y (ix2 r k)) (fun k => x5 (ix2 0 k)) (fun k => x6 (ix2 0 k)) k) * x7 (ix2 k e)) + x8 (ix2 0 e) := by
    simp only [Spec.swish_sub]
    pointwise [k0_pay27]
    rfl
  rw [h1]
  exact Spec.lnRow_congr (fun e => congrArg (fun z : EReal => Ideal.ofBits FTy.f32 1068827891#32 * x2 (ix3 0 r e) + z) (h2 e)) (fun _ => rfl) (fun _ => rfl) e

/-- One trip's rows: the taps over the window, and the bias. -/
theorem trip_apply (x3 : Vec Ideal S31x8x1024 .f32) (x4 : Vec Ideal S1x1024 .f32) (w : ℕ → Vec Ideal S1x32x1024 .f32) (a : Fin 4) (b : Fin 8) (e : Fin 1024) :
    k0_pay26 (convTrip x4 (tapLoad x3) w) (ix2 ⟨a.val * 8 + b.val, by omega⟩ e)
      = (∑ j ∈ Finset.range 31, tapLoad x3 j (ix3 0 b e) * w j (ix3 0 ⟨a.val * 8 + b.val, by omega⟩ e)) + x4 (ix2 0 e) := by
  generalize tapLoad x3 = d
  rw [← Spec.thirtyOne]
  pointwise [k0_pay26, convTrip, k0_pay2, k0_pay3, k0_pay4, k0_pay5, k0_pay6, k0_pay7, k0_pay8, k0_pay9, k0_pay10, k0_pay11, k0_pay12, k0_pay13, k0_pay14, k0_pay15]

/-- Row `t` of the convolution of a block: the taps over the window, and the bias. -/
def tapsAt (x3 : Vec Ideal S31x8x1024 .f32) (x4 : Vec Ideal S1x1024 .f32) (W : ℕ → Fin 1024 → EReal) (q : Fin 16) (a : Fin 4) (b : Fin 8) (e : Fin 1024) : EReal :=
  (∑ j ∈ Finset.range 31, x3 (ix3 ⟨j % 31, Nat.mod_lt _ (by decide)⟩ b e) * W (q.val * 32 + (a.val * 8 + b.val) + (j + 2)) e) + x4 (ix2 0 e)

/-- One trip's rows are such. -/
theorem trip_taps (x3 : Vec Ideal S31x8x1024 .f32) (x4 : Vec Ideal S1x1024 .f32) (W : ℕ → Fin 1024 → EReal) (q : Fin 16) (a : Fin 4) (b : Fin 8) (e : Fin 1024) :
    k0_pay26 (convTrip x4 (tapLoad x3) (fun j => winLoad W (32 * q.val + (j + 2)))) (ix2 ⟨a.val * 8 + b.val, by omega⟩ e) = tapsAt x3 x4 W q a b e := by
  refine (trip_apply x3 x4 _ a b e).trans (congrArg (fun z : EReal => z + x4 (ix2 0 e)) (Finset.sum_congr rfl fun j _ => ?_))
  show _ * W (32 * q.val + (j + 2) + (a.val * 8 + b.val)) e = _
  rw [show 32 * q.val + (j + 2) + (a.val * 8 + b.val) = q.val * 32 + (a.val * 8 + b.val) + (j + 2) by omega]
  rfl

/-- The rows the first trips leave. -/
theorem rows_read (v : View sig .tc .vmem S512x1024 .f32) (f : v.ty.Contents (Elt Ideal)) (x3 : Vec Ideal S31x8x1024 .f32) (x4 : Vec Ideal S1x1024 .f32)
    (W : ℕ → Fin 1024 → EReal) (q : Fin 16) (a : Fin 4) (b : Fin 8) (e : Fin 1024) (n : ℕ) (hn : n ≤ k0_t1_loop.trips) (hq : q.val < n) :
    v.read (Elt Ideal) (v.writes (Elt Ideal) f (tripPieces x3 x4 W n)) (ix2 ⟨q.val * 32 + (a.val * 8 + b.val), by omega⟩ e) = tapsAt x3 x4 W q a b e := by
  induction n with
  | zero => exact absurd hq (Nat.not_lt_zero _)
  | succ n ih =>
    have hn' : n < k0_t1_loop.trips := hn
    have hoff : k0_off9 (⟨n, hn'⟩ : Fin k0_t1_loop.trips) = ![32 * n, 0] := k0_off9_eq _
    rw [tripPieces.eq_2, dif_pos hn']
    by_cases hqn : q.val = n
    · refine (View.read_writes_cons_unit_of_mem v f (k0_off9_inb ⟨n, hn'⟩) _ _ _ (ix2 ⟨a.val * 8 + b.val, by omega⟩ e : S32x1024.Idx) hoff ?_).trans ?_
      · intro d
        fin_cases d
        · show q.val * 32 + (a.val * 8 + b.val) = 32 * n + (a.val * 8 + b.val)
          omega
        · exact (Nat.zero_add _).symm
      · subst hqn
        exact trip_taps x3 x4 W q a b e
    · refine (View.read_writes_cons_unit_of_not_mem v f (k0_off9_inb ⟨n, hn'⟩) _ _ _ hoff 0 (Or.inl ?_)).trans (ih (Nat.le_of_succ_le hn) (by omega))
      show q.val * 32 + (a.val * 8 + b.val) < 32 * n
      omega

/-- The convolution's rows in a block. -/
theorem convRows_apply (i : grid0.Coords) (x0 : Vec Ideal S1x512x1024 .f32) (x1 : Vec Ideal S1x32x1024 .f32) (x3 : Vec Ideal S31x8x1024 .f32)
    (x4 : Vec Ideal S1x1024 .f32) (q : Fin 16) (a : Fin 4) (b : Fin 8) (e : Fin 1024) :
    convRows i x0 x1 x3 x4 (ix2 ⟨q.val * 32 + (a.val * 8 + b.val), by omega⟩ e) = tapsAt x3 x4 (winRow i x0 x1) q a b e :=
  (View.read_writes_junk_apply_eq_canon rowScr.view _ _).symm.trans
    (rows_read rowScr.view _ x3 x4 (winRow i x0 x1) q a b e k0_t1_loop.trips (le_refl _) (Nat.lt_of_lt_of_eq q.isLt (by decide)))

/-- The halo's rows of the window: the halo's in every block but a sequence's first, zero in that. -/
theorem halo_apply (i : grid0.Coords) (x1 : Vec Ideal S1x32x1024 .f32) (q : Fin 32) (e : Fin 1024) :
    k0_pay16 i x1 (ix3 0 q e) = if 0 < (i 1).val then x1 (ix3 0 q e) else (0 : EReal) := by
  pointwise [k0_pay16]
  have hi : ∀ n : Fin 8, Scalar.cmpi CmpIPredicate.sgt (BitVec.ofNat 32 n.val) 0#32 = if 0 < n.val then 1#1 else 0#1 := by decide
  rw [hi (i 1)]
  by_cases h : 0 < (i 1).val
  · rw [if_pos h, if_pos h]; rfl
  · rw [if_neg h, if_neg h]; rfl

end Cert.ConvIdeal.Hand

end
-- ==== Proof.ConvKernel.lean ====
/- The depthwise convolution call over the extended reals: its result as a function of its arguments. -/
module

public import proofs.«01_k».proof.Proof.ConvRows
public import Idealize.ShloMosaic.Lib.StableHlo.Run

@[expose] public section

set_option maxRecDepth 16384

noncomputable section

namespace Cert.ConvIdeal.Hand

open Cert.ConvIdeal Cert.ConvIdeal.Gen
open Idealize.ShloMosaic Idealize.ShloMosaic.TcCoe Idealize.ShloMosaic.Tactic Idealize.ShloMosaic.StableHlo Idealize.SL.Sem

/-- The row of sequence `b` that tap `j` reads for row `s`: 30 rows back and `j` on, zero before the sequence. The sequences lie one after another. -/
def past (h : Vec Ideal S16384x1024 .f32) (b : Fin 4) (s j : ℕ) (e : Fin 1024) : EReal :=
  if 30 ≤ s + j then h (ix2 ⟨(b.val * 4096 + (s + j - 30)) % 16384, Nat.mod_lt _ (by decide)⟩ e) else 0

/-- One number of the causal depthwise convolution: 31 taps and a bias. -/
def convAt (h : Vec Ideal S16384x1024 .f32) (dw : Vec Ideal S1x31x1024 .f32) (db : Vec Ideal S1x1024 .f32) (b : Fin 4) (s : Fin 4096) (e : Fin 1024) : EReal :=
  (∑ j ∈ Finset.range 31, dw (ix3 0 ⟨j % 31, Nat.mod_lt _ (by decide)⟩ e) * past h b s.val j e) + db (ix2 0 e)

/-- The call's result: the convolution, normalised, through the swish, projected, added to the scaled layer input, normalised. -/
def convArray (h : Vec Ideal S16384x1024 .f32) (x : Vec Ideal S4x4096x1024 .f32) (dw : Vec Ideal S1x31x1024 .f32) (db cg cb : Vec Ideal S1x1024 .f32)
    (wo : Vec Ideal S1x1024x1024 .f32) (bo : Vec Ideal S1x1024 .f32) (mg mb : Vec Ideal S2x1024 .f32) : Vec Ideal S4x4096x1024 .f32 :=
  fun i : S4x4096x1024.Idx => Spec.mixRow (fun e => convAt h dw db (i 0) (i 1) e) (fun e => cg (ix2 0 e)) (fun e => cb (ix2 0 e)) (fun e => x (ix3 (i 0) (i 1) e))
    (fun e => bo (ix2 0 e)) (fun e => mg (ix2 0 e)) (fun e => mb (ix2 0 e)) (fun k e => wo (ix3 0 k e)) (i 2)

/-- The array depends on the arguments' values only. -/
theorem convArray_congr {h h' : Vec Ideal S16384x1024 .f32} {x x' : Vec Ideal S4x4096x1024 .f32} {dw dw' : Vec Ideal S1x31x1024 .f32}
    {db db' cg cg' cb cb' : Vec Ideal S1x1024 .f32} {wo wo' : Vec Ideal S1x1024x1024 .f32} {bo bo' : Vec Ideal S1x1024 .f32}
    {mg mg' mb mb' : Vec Ideal S2x1024 .f32} (h0 : h' = h) (h1 : x' = x) (h2 : dw' = dw) (h3 : db' = db) (h4 : cg' = cg) (h5 : cb' = cb)
    (h6 : wo' = wo) (h7 : bo' = bo) (h8 : mg' = mg) (h9 : mb' = mb) :
    convArray h' x' dw' db' cg' cb' wo' bo' mg' mb' = convArray h x dw db cg cb wo bo mg mb := by
  subst h0; subst h1; subst h2; subst h3; subst h4; subst h5; subst h6; subst h7; subst h8; subst h9; rfl

variable (m : (ℓ : Loc nD τ sig) → Buf (Elt Ideal) ℓ) (c : Dev nD)

/-- Where the windows of the three large arrays and of the result stand at a grid point. -/
theorem place (t : Fin cfg0.N) :
    win0_0.index t = ![(grid0.coords t 0).val, (grid0.coords t 1).val, 0]
      ∧ win0_1.index t = ![(grid0.coords t 0).val, (grid0.coords t 1).val * 16 - 1, 0]
      ∧ win0_2.index t = ![(grid0.coords t 0).val, (grid0.coords t 1).val, 0]
      ∧ win0_11.index t = ![(grid0.coords t 0).val, (grid0.coords t 1).val, 0] := by
  revert t; decide +kernel

/-- The other windows hold their arrays whole. -/
theorem stay (t : Fin cfg0.N) :
    win0_3.index t = ![0, 0, 0] ∧ win0_4.index t = ![0, 0] ∧ win0_5.index t = ![0, 0] ∧ win0_6.index t = ![0, 0] ∧ win0_7.index t = ![0, 0]
      ∧ win0_8.index t = ![0, 0] ∧ win0_9.index t = ![0, 0] ∧ win0_10.index t = ![0, 0] := by
  revert t; decide +kernel

/-- The sequence a grid point works on. -/
abbrev seqAt (t : Fin cfg0.N) : Fin 4 := ⟨(grid0.coords t 0).val, (grid0.coords t 0).isLt⟩

/-- The position in its sequence of row `r` of a grid point's block. -/
abbrev posAt (t : Fin cfg0.N) (r : Fin 512) : Fin 4096 := ⟨(grid0.coords t 1).val * 512 + r.val, by have : (grid0.coords t 1).val < 8 := (grid0.coords t 1).isLt; omega⟩

/-- A block's own rows are the array's at the block's place. -/
theorem h_read (t : Fin cfg0.N) (r : Fin 512) (e : Fin 1024) : iblk m c 0 t (ix3 0 r e) = V m c main_v3 (ix3 (seqAt t) (posAt t r) e) := by
  obtain ⟨e0, -⟩ := place t
  blk_ext [iblk, e0]

/-- The halo is the 32 rows before the block, where there are any. -/
theorem halo_read (t : Fin cfg0.N) (q : Fin 32) (e : Fin 1024) :
    iblk m c 1 t (ix3 0 q e) = V m c main_v3 (ix3 (seqAt t)
      ⟨((grid0.coords t 1).val * 16 - 1) * 32 + q.val, by have : (grid0.coords t 1).val < 8 := (grid0.coords t 1).isLt; omega⟩ e) := by
  obtain ⟨-, e1, -⟩ := place t
  blk_ext [iblk, e1]

/-- The layer input's block. -/
theorem x_read (t : Fin cfg0.N) (r : Fin 512) (e : Fin 1024) : iblk m c 2 t (ix3 0 r e) = V m c main_arg1 (ix3 (seqAt t) (posAt t r) e) := by
  obtain ⟨-, -, e2, -⟩ := place t
  blk_ext [iblk, e2]

/-- The taps' weights, each eight times over. -/
theorem dw_read (t : Fin cfg0.N) (j : Fin 31) (b : Fin 8) (e : Fin 1024) : iblk m c 3 t (ix3 j b e) = V m c main_v2 (ix3 j b e) := by
  obtain ⟨e3, -⟩ := stay t
  blk_ext [iblk, e3]

/-- The convolution's bias. -/
theorem db_read (t : Fin cfg0.N) (e : Fin 1024) : iblk m c 4 t (ix2 0 e) = V m c main_v5 (ix2 0 e) := by
  obtain ⟨-, e4, -⟩ := stay t
  blk_ext [iblk, e4]

/-- The first normalisation's gain. -/
theorem cg_read (t : Fin cfg0.N) (e : Fin 1024) : iblk m c 5 t (ix2 0 e) = V m c main_v7 (ix2 0 e) := by
  obtain ⟨-, -, e5, -⟩ := stay t
  blk_ext [iblk, e5]

/-- The first normalisation's offset. -/
theorem cb_read (t : Fin cfg0.N) (e : Fin 1024) : iblk m c 6 t (ix2 0 e) = V m c main_v9 (ix2 0 e) := by
  obtain ⟨-, -, -, e6, -⟩ := stay t
  blk_ext [iblk, e6]

/-- The projection's weights. -/
theorem wo_read (t : Fin cfg0.N) (k e : Fin 1024) : iblk m c 7 t (ix2 k e) = V m c main_v11 (ix2 k e) := by
  obtain ⟨-, -, -, -, e7, -⟩ := stay t
  blk_ext [iblk, e7]

/-- The projection's bias. -/
theorem bo_read (t : Fin cfg0.N) (e : Fin 1024) : iblk m c 8 t (ix2 0 e) = V m c main_v13 (ix2 0 e) := by
  obtain ⟨-, -, -, -, -, e8, -⟩ := stay t
  blk_ext [iblk, e8]

/-- The second normalisation's gain. -/
theorem mg_read (t : Fin cfg0.N) (e : Fin 1024) : iblk m c 9 t (ix2 0 e) = V m c main_v16 (ix2 0 e) := by
  obtain ⟨-, -, -, -, -, -, e9, -⟩ := stay t
  blk_ext [iblk, e9]

/-- The second normalisation's offset. -/
theorem mb_read (t : Fin cfg0.N) (e : Fin 1024) : iblk m c 10 t (ix2 0 e) = V m c main_v19 (ix2 0 e) := by
  obtain ⟨-, -, -, -, -, -, -, e10⟩ := stay t
  blk_ext [iblk, e10]

/-- The result's block stands at the block's place. -/
theorem emb (t : Fin cfg0.N) (r : Fin 512) (e : Fin 1024) : (win0_11.blk t).view.emb (ix3 0 r e) = ix3 (seqAt t) (posAt t r) e := by
  obtain ⟨-, -, -, e11⟩ := place t
  blk_ext [e11]

/-! ### The operands, from the arguments -/

/-- The rows, by sequences. -/
theorem h_entry (b : Fin 4) (s : Fin 4096) (e : Fin 1024) :
    V m c main_v3 (ix3 b s e) = m ((c : Thread nD τ).loc main_arg0) (ix2 ⟨b.val * 4096 + s.val, by omega⟩ e) := by
  show after hostOps0 _ (Proc.devRef .tc main_v3) _ = _
  after_results
  pointwise []

/-- The eight copies of a tap's weights are the argument's weights. -/
theorem dw_entry (j : Fin 31) (b : Fin 8) (e : Fin 1024) : V m c main_v2 (ix3 j b e) = m ((c : Thread nD τ).loc main_arg2) (ix3 0 j e) := by
  show after hostOps0 _ (Proc.devRef .tc main_v2) _ = _
  after_results
  pointwise []

/-- The convolution's bias is the argument's. -/
theorem db_entry (e : Fin 1024) : V m c main_v5 (ix2 0 e) = m ((c : Thread nD τ).loc main_arg3) (ix2 0 e) := by
  show after hostOps0 _ (Proc.devRef .tc main_v5) _ = _
  after_results
  pointwise []

/-- The first normalisation's gain is the argument's. -/
theorem cg_entry (e : Fin 1024) : V m c main_v7 (ix2 0 e) = m ((c : Thread nD τ).loc main_arg4) (ix2 0 e) := by
  show after hostOps0 _ (Proc.devRef .tc main_v7) _ = _
  after_results
  pointwise []

/-- The first normalisation's offset is the argument's. -/
theorem cb_entry (e : Fin 1024) : V m c main_v9 (ix2 0 e) = m ((c : Thread nD τ).loc main_arg5) (ix2 0 e) := by
  show after hostOps0 _ (Proc.devRef .tc main_v9) _ = _
  after_results
  pointwise []

/-- The projection's weights are the argument's: the cast changes no extended real. -/
theorem wo_entry (k e : Fin 1024) : V m c main_v11 (ix2 k e) = m ((c : Thread nD τ).loc main_arg6) (ix3 0 k e) := by
  show after hostOps0 _ (Proc.devRef .tc main_v11) _ = _
  after_results
  pointwise []

/-- The projection's bias is the argument's. -/
theorem bo_entry (e : Fin 1024) : V m c main_v13 (ix2 0 e) = m ((c : Thread nD τ).loc main_arg7) (ix2 0 e) := by
  show after hostOps0 _ (Proc.devRef .tc main_v13) _ = _
  after_results
  pointwise []

/-- The second normalisation's gain is the argument's first row. -/
theorem mg_entry (e : Fin 1024) : V m c main_v16 (ix2 0 e) = m ((c : Thread nD τ).loc main_arg8) (ix2 0 e) := by
  show after hostOps0 _ (Proc.devRef .tc main_v16) _ = _
  after_results
  pointwise []

/-- The second normalisation's offset is the argument's first row. -/
theorem mb_entry (e : Fin 1024) : V m c main_v19 (ix2 0 e) = m ((c : Thread nD τ).loc main_arg9) (ix2 0 e) := by
  show after hostOps0 _ (Proc.devRef .tc main_v19) _ = _
  after_results
  pointwise []

/-! ### The result -/

/-- The window's row that tap `j` reads for row `r` of the block is the row 30 back and `j` on. -/
theorem win_past (t : Fin cfg0.N) (r : Fin 512) (j : ℕ) (hj : j < 31) (e : Fin 1024) :
    winRow (grid0.coords t) (iblk m c 0 t) (iblk m c 1 t) (r.val + (j + 2)) e
      = past (m ((c : Thread nD τ).loc main_arg0)) (seqAt t) (posAt t r).val j e := by
  have h1 : (grid0.coords t 1).val < 8 := (grid0.coords t 1).isLt
  have h0 : (grid0.coords t 0).val < 4 := (grid0.coords t 0).isLt
  have hp : (posAt t r).val = (grid0.coords t 1).val * 512 + r.val := rfl
  unfold winRow past
  by_cases hq : r.val + (j + 2) < 32
  · rw [dif_pos hq]
    refine (halo_apply (grid0.coords t) _ ⟨r.val + (j + 2), hq⟩ e).trans ?_
    by_cases hi : 0 < (grid0.coords t 1).val
    · rw [if_pos hi, if_pos (by omega)]
      refine (halo_read m c t _ e).trans ((h_entry m c _ _ e).trans ?_)
      refine congrArg (fun n => m ((c : Thread nD τ).loc main_arg0) (ix2 n e)) (Fin.ext ?_)
      show (seqAt t).val * 4096 + (((grid0.coords t 1).val * 16 - 1) * 32 + (r.val + (j + 2))) = _
      dsimp only
      omega
    · rw [if_neg hi, if_neg (by omega)]
  · rw [dif_neg hq, if_pos (by omega)]
    refine (h_read m c t _ e).trans ((h_entry m c _ _ e).trans ?_)
    refine congrArg (fun n => m ((c : Thread nD τ).loc main_arg0) (ix2 n e)) (Fin.ext ?_)
    show (seqAt t).val * 4096 + ((grid0.coords t 1).val * 512 + (r.val + (j + 2) - 32) % 512) = _
    dsimp only
    omega

/-- The convolution's rows in a grid point's block are the sequence's. -/
theorem rows_value (t : Fin cfg0.N) (r : Fin 512) (e : Fin 1024) :
    convRows (grid0.coords t) (iblk m c 0 t) (iblk m c 1 t) (iblk m c 3 t) (iblk m c 4 t) (ix2 r e)
      = convAt (m ((c : Thread nD τ).loc main_arg0)) (m ((c : Thread nD τ).loc main_arg2)) (m ((c : Thread nD τ).loc main_arg3)) (seqAt t) (posAt t r) e := by
  obtain ⟨q, a, b, rfl⟩ : ∃ (q : Fin 16) (a : Fin 4) (b : Fin 8), r = ⟨q.val * 32 + (a.val * 8 + b.val), by omega⟩ :=
    ⟨⟨r.val / 32, by omega⟩, ⟨r.val % 32 / 8, by omega⟩, ⟨r.val % 8, by omega⟩, Fin.ext (by dsimp only; omega)⟩
  refine (convRows_apply _ _ _ _ _ q a b e).trans ?_
  unfold tapsAt convAt
  refine congrArg₂ (fun y z : EReal => y + z) (Finset.sum_congr rfl fun j hj => congrArg₂ (fun y z : EReal => y * z) ?_ ?_) ?_
  · exact (dw_read m c t _ b e).trans (dw_entry m c _ b e)
  · exact win_past m c t ⟨q.val * 32 + (a.val * 8 + b.val), by omega⟩ j (Finset.mem_range.mp hj) e
  · exact (db_read m c t e).trans (db_entry m c e)

/-- The result array after the run. -/
theorem kernel_value : (dats m 0 c).arrAt 11 cfg0.N
    = convArray (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) := by
  refine (dats m 0 c).arrAt_eq_of_covers 11 _ (by decide +kernel) fun t hf y => ?_
  blk_simp
  rw [show (dats m 0 c).after 11 t = outAt m c t from rfl]
  obtain ⟨z, r, e, rfl⟩ : ∃ (z : Fin 1) (r : Fin 512) (e : Fin 1024), y = ix3 z r e := ⟨y 0, y 1, y 2, eq_ix3 y⟩
  obtain rfl : z = 0 := Subsingleton.elim _ _
  refine (tail_apply _ _ _ _ _ _ _ _ r e).trans ?_
  refine Eq.trans ?_ (congrArg (convArray _ _ _ _ _ _ _ _ _ _) (emb t r e).symm)
  exact Spec.mixRow_congr (fun e => rows_value m c t r e) (fun e => (cg_read m c t e).trans (cg_entry m c e)) (fun e => (cb_read m c t e).trans (cb_entry m c e))
    (fun e => (x_read m c t r e).trans (congrFun (V_main_arg1 m c) _)) (fun e => (bo_read m c t e).trans (bo_entry m c e))
    (fun e => (mg_read m c t e).trans (mg_entry m c e)) (fun e => (mb_read m c t e).trans (mb_entry m c e)) (fun k e => (wo_read m c t k e).trans (wo_entry m c k e)) e

/-- Every run of the kernel ends with that array in its result and the arguments unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v20)
          = convArray (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h.1 c).1 11).trans (kernel_value m c), h.2 c⟩) (θ_run_and (run_main m ρ) (unchanged m ρ))

end Cert.ConvIdeal.Hand

end
-- ==== Proof.ConvTaps.lean ====
/- The convolution in the reference's depthwise convolution call, and its two normalisations, read at an index. -/
module

public import proofs.«01_k».proof.Proof.ConvKernel
public import proofs.«01_k».proof.Proof.Gen.ConvReferenceIdeal.Run
public import proofs.«01_k».proof.Proof.Gen.ConvReferenceIdeal.Read

@[expose] public section

set_option maxRecDepth 16384

noncomputable section

namespace Cert.ConvReferenceIdeal.Hand

open Cert.ConvReferenceIdeal Cert.ConvReferenceIdeal.Gen Cert.ConvReferenceIdeal.Read
open Idealize.ShloMosaic Idealize.ShloMosaic.TcCoe Idealize.ShloMosaic.Tactic Idealize.SL.Sem

/-! ### The taps -/

/-- A tap's rows lie within the padded rows. -/
theorem rows_slice (n : ℕ) (hn : n < 31) : S4x4126x1024.Slices ![0, n, 0] S4x4096x1024 :=
  (by decide : ∀ n : Fin 31, S4x4126x1024.Slices ![0, n.val, 0] S4x4096x1024) ⟨n, hn⟩

/-- A tap's weights lie within the taps' weights. -/
theorem tap_slice (n : ℕ) (hn : n < 31) : S31x1024.Slices ![n, 0] S1x1024 :=
  (by decide : ∀ n : Fin 31, S31x1024.Slices ![n.val, 0] S1x1024) ⟨n, hn⟩

/-- Tap `n`: the padded rows from row `n` on, times the tap's weights. -/
def tapTerm (y : Vec Ideal S4x4126x1024 .f32) (w : Vec Ideal S31x1024 .f32) (n : ℕ) (hn : n < 31) : Vec Ideal S4x4096x1024 .f32 :=
  mulf (F := Ideal) (φ := .f32) (extractStridedSlice S4x4096x1024 ![0, n, 0] y (rows_slice n hn))
    (broadcastInDim S4x4096x1024 ![0, 1, 2] bcast_S1x1x1024_S4x4096x1024_0_1_2 (broadcastInDim S1x1x1024 ![2] bcast_S1024_S1x1x1024_2
      (shapeCast S1024 (extractStridedSlice S1x1024 ![n, 0] w (tap_slice n hn)) shapeCasts_S1x1024_S1024)))

/-- The taps up to tap `n`, added one after another. -/
def tapSum (y : Vec Ideal S4x4126x1024 .f32) (w : Vec Ideal S31x1024 .f32) : ∀ n : ℕ, n < 31 → Vec Ideal S4x4096x1024 .f32
  | 0, h => tapTerm y w 0 h
  | n + 1, h => addf (F := Ideal) (φ := .f32) (tapSum y w n (Nat.lt_of_succ_lt h)) (tapTerm y w (n + 1) h)

/-- A tap's term at an index: the row so far on, times the tap's weight. -/
theorem tapTerm_apply (y : Vec Ideal S4x4126x1024 .f32) (w : Vec Ideal S31x1024 .f32) (n : ℕ) (hn : n < 31) (b : Fin 4) (s : Fin 4096) (e : Fin 1024) :
    @Eq EReal (tapTerm y w n hn (ix3 b s e)) (y (ix3 b ⟨s.val + n, by omega⟩ e) * w (ix2 ⟨n, hn⟩ e)) := by
  refine congrArg₂ (fun p q : EReal => p * q) ?_ ?_
  · refine extractStridedSlice_apply _ _ _ _ _ fun a => ?_
    fin_cases a
    · exact (Nat.zero_add _).symm
    · exact Nat.add_comm _ _
    · exact (Nat.zero_add _).symm
  · refine (broadcastInDim_apply _ _ _ _ (ix3 0 0 e : S1x1x1024.Idx) fun a => ?_).trans ((broadcastInDim_apply _ _ _ _ (ix1 e : S1024.Idx) fun a => ?_).trans
      ((shapeCast_apply _ _ _ (ix2 0 e : S1x1024.Idx) ?_).trans (extractStridedSlice_apply _ _ _ _ _ fun a => ?_)))
    · fin_cases a <;> rfl
    · fin_cases a; rfl
    · rw [Shape.rowMajor_val_two, Shape.rowMajor_val_one]
      exact (congrArg (· + e.val) (Nat.zero_mul 1024)).trans (Nat.zero_add _)
    · fin_cases a
      · exact (Nat.add_zero n).symm
      · exact (Nat.zero_add _).symm

/-- The taps up to tap `n`, as a sum. -/
theorem tapSum_apply (y : Vec Ideal S4x4126x1024 .f32) (w : Vec Ideal S31x1024 .f32) (b : Fin 4) (s : Fin 4096) (e : Fin 1024) (f : ℕ → EReal)
    (hf : ∀ (n : ℕ) (hn : n < 31), y (ix3 b ⟨s.val + n, by omega⟩ e) * w (ix2 ⟨n, hn⟩ e) = f n) :
    ∀ (n : ℕ) (hn : n < 31), @Eq EReal (tapSum y w n hn (ix3 b s e)) (∑ j ∈ Finset.range (n + 1), f j)
  | 0, hn => (tapTerm_apply y w 0 hn b s e).trans ((hf 0 hn).trans (Finset.sum_range_one f).symm)
  | n + 1, hn => by
    rw [Finset.sum_range_succ]
    exact congrArg₂ (fun p q : EReal => p + q) (tapSum_apply y w b s e f hf n (Nat.lt_of_succ_lt hn))
      ((tapTerm_apply y w (n + 1) hn b s e).trans (hf (n + 1) hn))

variable (x0 : Vec Ideal S16384x1024 .f32) (x2 : Vec Ideal S1x31x1024 .f32) (x3 : Vec Ideal S1x1024 .f32)

/-- The reference's taps are these. -/
theorem taps_eq : val_main_v220 (F := Ideal) x0 x2 = tapSum (val_main_v4 (F := Ideal) x0) (val_main_v1 (F := Ideal) x2) 30 (by decide) := rfl

/-- The rows with thirty rows of zeros before them. -/
theorem padded_apply (b : Fin 4) (s : Fin 4096) (n : ℕ) (hn : n < 31) (e : Fin 1024) :
    val_main_v4 (F := Ideal) x0 (ix3 b ⟨s.val + n, by omega⟩ e) = Cert.ConvIdeal.Hand.past x0 b s.val n e := by
  unfold val_main_v4 Cert.ConvIdeal.Hand.past
  by_cases h : 30 ≤ s.val + n
  · rw [if_pos h]
    refine (concatenate_pair_apply_right (t := S4x4126x1024) (s₁ := S4x30x1024) (s₂ := S4x4096x1024) 1 (val_main_v3 (F := Ideal)) (val_main_v0 (F := Ideal) x0)
      concatenates_S4x30x1024_S4x4096x1024_S4x4126x1024_d1 (ix3 b ⟨s.val + n, by omega⟩ e) rfl rfl (ix3 b ⟨s.val + n - 30, by omega⟩ e : S4x4096x1024.Idx) (fun a ha => ?_) ?_).trans ?_
    · fin_cases a
      · rfl
      · exact absurd rfl ha
      · rfl
    · show s.val + n - 30 + 30 = s.val + n
      omega
    · refine (shapeCast_apply _ _ _ (ix2 ⟨b.val * 4096 + (s.val + n - 30), by omega⟩ e : S16384x1024.Idx) ?_).trans ?_
      · rw [Shape.rowMajor_val_two, Shape.rowMajor_val_three]
        rfl
      · refine congrArg (fun k => x0 (ix2 k e)) (Fin.ext ?_)
        dsimp only
        omega
  · rw [if_neg h]
    refine (concatenate_pair_apply_left (t := S4x4126x1024) (s₁ := S4x30x1024) (s₂ := S4x4096x1024) 1 (val_main_v3 (F := Ideal)) (val_main_v0 (F := Ideal) x0)
      concatenates_S4x30x1024_S4x4096x1024_S4x4126x1024_d1 (ix3 b ⟨s.val + n, by omega⟩ e) rfl (ix3 b ⟨s.val + n, by omega⟩ e : S4x30x1024.Idx) (fun a => ?_)).trans ?_
    · fin_cases a <;> rfl
    · exact (val_main_v3_apply _).trans ((val_main_cst_apply _).trans Ideal.ofBits_zero_f32)

/-- The reference's convolution. -/
theorem conv_apply (b : Fin 4) (s : Fin 4096) (e : Fin 1024) :
    @Eq EReal (val_main_v223 (F := Ideal) x0 x2 x3 (ix3 b s e)) (Cert.ConvIdeal.Hand.convAt x0 x2 x3 b s e) := by
  refine congrArg₂ (fun p q : EReal => p + q) ?_ ?_
  · rw [taps_eq]
    refine tapSum_apply _ _ b s e (fun j => x2 (ix3 0 ⟨j % 31, Nat.mod_lt _ (by decide)⟩ e) * Cert.ConvIdeal.Hand.past x0 b s.val j e) (fun n hn => ?_) 30 (by decide)
    refine (congrArg₂ (fun p q : EReal => p * q) (padded_apply x0 b s n hn e) ?_).trans (mul_comm _ _)
    rw [val_main_v1_apply]
    refine congrArg x2 ?_
    funext a
    fin_cases a <;> refine Fin.ext ?_
    · rfl
    · show (n * 1024 + e.val) / 1024 % 31 = n % 31; omega
    · show (n * 1024 + e.val) % 1024 = e.val; omega
  · rw [val_main_v222_apply, val_main_v221_apply, val_main_v2_apply]
    refine congrArg x3 ?_
    funext a
    fin_cases a <;> refine Fin.ext ?_
    · rfl
    · show e.val % 1024 = e.val; omega

/-! ### A normalisation -/

/-- The reference's normalisation of rows. -/
def refNorm (y : Vec Ideal S4x4096x1024 .f32) (g b : Vec Ideal S1024 .f32) : Vec Ideal S4x4096x1024 .f32 :=
  let mean (z : Vec Ideal S4x4096x1024 .f32) : Vec Ideal S4x4096x1 .f32 :=
    Host.divf (F := Ideal) (φ := .f32) (broadcastInDim S4x4096x1 ![0, 1] bcast_S4x4096_S4x4096x1_0_1
      (Host.reduceAdd (F := Ideal) (φ := .f32) z (constant (F := Ideal) S_ .f32 0x00000000#32) reducesTo_S4x4096x1024_S4x4096_d2 h_S_))
      (broadcastInDim S4x4096x1 ![] bcast_S_S4x4096x1 (constant (F := Ideal) S_ .f32 0x44800000#32))
  let centred : Vec Ideal S4x4096x1024 .f32 := subf (F := Ideal) (φ := .f32) y (broadcastInDim S4x4096x1024 ![0, 1, 2] bcast_S4x4096x1_S4x4096x1024_0_1_2 (mean y))
  let scale : Vec Ideal S4x4096x1 .f32 := Host.rsqrt (F := Ideal) (φ := .f32) (addf (F := Ideal) (φ := .f32) (mean (mulf (F := Ideal) (φ := .f32) centred centred))
    (broadcastInDim S4x4096x1 ![] bcast_S_S4x4096x1 (constant (F := Ideal) S_ .f32 0x3727C5AC#32)))
  let row (v : Vec Ideal S1024 .f32) : Vec Ideal S4x4096x1024 .f32 :=
    broadcastInDim S4x4096x1024 ![0, 1, 2] bcast_S1x1x1024_S4x4096x1024_0_1_2 (broadcastInDim S1x1x1024 ![2] bcast_S1024_S1x1x1024_2 v)
  addf (F := Ideal) (φ := .f32) (mulf (F := Ideal) (φ := .f32) (mulf (F := Ideal) (φ := .f32) centred
    (broadcastInDim S4x4096x1024 ![0, 1, 2] bcast_S4x4096x1_S4x4096x1024_0_1_2 scale)) (row g)) (row b)

/-- It is the normalisation of each row. -/
theorem refNorm_apply (y : Vec Ideal S4x4096x1024 .f32) (g b : Vec Ideal S1024 .f32) (i : Fin 4) (s : Fin 4096) (e : Fin 1024) :
    @Eq EReal (refNorm y g b (ix3 i s e)) (Spec.lnRow (fun k => y (ix3 i s k)) (fun k => g (ix1 k)) (fun k => b (ix1 k)) e) := by
  unfold refNorm
  pointwise []
  rfl

end Cert.ConvReferenceIdeal.Hand

end
-- ==== Proof.ConvEqual.lean ====
/- The depthwise convolution call's reference ends in the array that its kernel ends in. -/
module

public import proofs.«01_k».proof.Proof.ConvTaps
public import proofs.«01_k».proof.Proof.GluEqual
public import Idealize.ShloMosaic.Lib.Quiescent

@[expose] public section

set_option maxRecDepth 16384

noncomputable section

namespace Cert.ConvReferenceIdeal.Hand

open Cert.ConvReferenceIdeal Cert.ConvReferenceIdeal.Gen Cert.ConvReferenceIdeal.Read
open Idealize.ShloMosaic Idealize.ShloMosaic.TcCoe Idealize.ShloMosaic.Tactic Idealize.SL.Sem

/-- A number times its logistic function is its swish. -/
theorem swish_mul (y : EReal) : y * Ideal.div 1 (1 + Ideal.exp (-y)) = Spec.swish y :=
  Ideal.mul_one_div (Cert.GluReferenceIdeal.Hand.denom_ne _)

variable (x0 : Vec Ideal S16384x1024 .f32) (x1 : Vec Ideal S4x4096x1024 .f32) (x2 : Vec Ideal S1x31x1024 .f32) (x3 x4 x5 : Vec Ideal S1x1024 .f32)
  (x6 : Vec Ideal S1x1024x1024 .f32) (x7 : Vec Ideal S1x1024 .f32) (x8 x9 : Vec Ideal S2x1024 .f32) (b : Fin 4) (s : Fin 4096)

/-- The normalised convolution. -/
theorem normed_apply (e : Fin 1024) : @Eq EReal (val_main_v247 (F := Ideal) x0 x2 x3 x4 x5 (ix3 b s e))
    (Spec.lnRow (fun e => Cert.ConvIdeal.Hand.convAt x0 x2 x3 b s e) (fun e => x4 (ix2 0 e)) (fun e => x5 (ix2 0 e)) e) := by
  have hn : val_main_v247 (F := Ideal) x0 x2 x3 x4 x5
      = refNorm (val_main_v223 (F := Ideal) x0 x2 x3) (val_main_v224 (F := Ideal) x4) (val_main_v225 (F := Ideal) x5) := rfl
  rw [hn]
  refine (refNorm_apply _ _ _ b s e).trans (Spec.lnRow_congr (fun e => conv_apply x0 x2 x3 b s e) (fun e => ?_) (fun e => ?_) e)
  · pointwise [val_main_v224]
  · pointwise [val_main_v225]

/-- Its swish. -/
theorem swish_apply (e : Fin 1024) : @Eq EReal (val_main_v248 (F := Ideal) x0 x2 x3 x4 x5 (ix3 b s e))
    (Spec.swish (Spec.lnRow (fun e => Cert.ConvIdeal.Hand.convAt x0 x2 x3 b s e) (fun e => x4 (ix2 0 e)) (fun e => x5 (ix2 0 e)) e)) := by
  have hy (y : Vec Ideal S4x4096x1024 .f32) (hv : y = val_main_v247 (F := Ideal) x0 x2 x3 x4 x5) :
      @Eq EReal (val_main_v248 (F := Ideal) x0 x2 x3 x4 x5 (ix3 b s e)) (y (ix3 b s e) * Ideal.div 1 (1 + Ideal.exp (-(y (ix3 b s e))))) := by
    unfold val_main_v248 val_main_call0_v5 val_main_call0_v3 val_main_call0_v1 val_main_call0_v0
    rw [← hv]
    pointwise [val_main_call0_v4, val_main_call0_v2, val_main_call0_cst, val_main_call0_cst_0]
  exact (hy _ rfl).trans ((swish_mul _).trans (congrArg Spec.swish (normed_apply x0 x2 x3 x4 x5 b s e)))

/-- The scaled input and the projection, added. -/
theorem mixed_apply (e : Fin 1024) : @Eq EReal (val_main_v257 (F := Ideal) x0 x1 x2 x3 x4 x5 x6 x7 (ix3 b s e))
    (Ideal.ofBits FTy.f32 1068827891#32 * x1 (ix3 b s e) + ((∑ k : Fin 1024, Spec.swish (Spec.lnRow (fun e => Cert.ConvIdeal.Hand.convAt x0 x2 x3 b s e)
      (fun e => x4 (ix2 0 e)) (fun e => x5 (ix2 0 e)) k) * x6 (ix3 0 k e)) + x7 (ix2 0 e))) := by
  have hy (y : Vec Ideal S4x4096x1024 .f32) (hv : y = val_main_v248 (F := Ideal) x0 x2 x3 x4 x5) :
      @Eq EReal (val_main_v257 (F := Ideal) x0 x1 x2 x3 x4 x5 x6 x7 (ix3 b s e))
        (Ideal.ofBits FTy.f32 1068827891#32 * x1 (ix3 b s e) + ((∑ k : Fin 1024, y (ix3 b s k) * x6 (ix3 0 k e)) + x7 (ix2 0 e))) := by
    unfold val_main_v257 val_main_v254 val_main_v250
    rw [← hv]
    pointwise [val_main_v256, val_main_v255, val_main_cst_5, val_main_v253, val_main_v252, val_main_v251, val_main_v249]
  refine (hy _ rfl).trans ?_
  exact congrArg (fun z : EReal => Ideal.ofBits FTy.f32 1068827891#32 * x1 (ix3 b s e) + (z + x7 (ix2 0 e)))
    (Finset.sum_congr rfl fun k _ => congrArg (fun z : EReal => z * x6 (ix3 0 k e)) (swish_apply x0 x2 x3 x4 x5 b s k))

/-- The reference's result is that array of its arguments. -/
theorem result_eq : val_main_v283 (F := Ideal) x0 x1 x2 x3 x4 x5 x6 x7 x8 x9 = Cert.ConvIdeal.Hand.convArray x0 x1 x2 x3 x4 x5 x6 x7 x8 x9 := by
  funext i
  obtain ⟨b, s, e, rfl⟩ : ∃ (b : Fin 4) (s : Fin 4096) (e : Fin 1024), i = ix3 b s e := ⟨i 0, i 1, i 2, eq_ix3 i⟩
  have hn : val_main_v283 (F := Ideal) x0 x1 x2 x3 x4 x5 x6 x7 x8 x9
      = refNorm (val_main_v257 (F := Ideal) x0 x1 x2 x3 x4 x5 x6 x7) (val_main_v259 (F := Ideal) x8) (val_main_v261 (F := Ideal) x9) := rfl
  rw [hn]
  show _ = Spec.mixRow (fun e => Cert.ConvIdeal.Hand.convAt x0 x2 x3 b s e) (fun e => x4 (ix2 0 e)) (fun e => x5 (ix2 0 e)) (fun e => x1 (ix3 b s e))
    (fun e => x7 (ix2 0 e)) (fun e => x8 (ix2 0 e)) (fun e => x9 (ix2 0 e)) (fun k e => x6 (ix3 0 k e)) e
  unfold Spec.mixRow
  refine (refNorm_apply _ _ _ b s e).trans (Spec.lnRow_congr (fun e => mixed_apply x0 x1 x2 x3 x4 x5 x6 x7 b s e) (fun e => ?_) (fun e => ?_) e)
  · pointwise [val_main_v259, val_main_v258]
  · pointwise [val_main_v261, val_main_v260]

/-- Every run of the reference ends with that array in its result, the arguments unchanged and every semaphore counter at zero (the program
    has none). -/
theorem run_value (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_v283)
          = Cert.ConvIdeal.Hand.convArray (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨((h c).1.trans (val_main_v283_eq _)).trans (result_eq _ _ _ _ _ _ _ _ _ _), (h c).2⟩,
      sem_eq_zero_of_no_sems rfl r.2⟩)
    (Value.run m ρ)

end Cert.ConvReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equal
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal.Value
public import proofs.«01_k».proof.Proof.Gen.GluReferenceIdeal
public import proofs.«01_k».proof.Proof.Gen.GluReferenceIdeal.Run
public import proofs.«01_k».proof.Proof.Gen.GluReferenceIdeal.Read
public import proofs.«01_k».proof.Proof.GluEqual
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Loops
public import proofs.«01_k».proof.Proof.Gen.Conv.Loops
public import proofs.«01_k».proof.Proof.Gen.ConvReferenceIdeal
public import proofs.«01_k».proof.Proof.Gen.ConvReferenceIdeal.Run
public import proofs.«01_k».proof.Proof.Gen.ConvReferenceIdeal.Read
public import proofs.«01_k».proof.Proof.ConvSame
public import proofs.«01_k».proof.Proof.ConvEqual
public import Idealize.ShloMosaic.Adequacy
public import Idealize.ShloMosaic.Init

@[expose] public section

noncomputable section

namespace Cert.Proof

open Idealize.ShloMosaic Idealize.SL.Sem Cert.Kernel

/-- The reference runs without fault, leaves its arguments unchanged and every semaphore counter at zero. -/
theorem frame_reference : Cert.quiescent_ReferenceIdeal (hReferenceIdeal := Cert.ReferenceIdeal.Gen.facts) := fun m ρ _ =>
  (θ_run Cert.ReferenceIdeal.defs _ _).mono (fun _ h => ⟨fun c => (h.1 c).2, h.2⟩) (Cert.ReferenceIdeal.Hand.run_layer m ρ)

/-- Over the extended reals the kernel and the reference end in the same array: the layer's attention of the arguments. -/
theorem same_result : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Hand.layerArray (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.Hand.run_layer m g, ?_⟩
  refine (θ_run Cert.ReferenceIdeal.defs _ _).mono (fun _ h c => ⟨(h.1 c).1.trans ?_, (h.1 c).2⟩) (Cert.ReferenceIdeal.Hand.run_layer m' g')
  obtain ⟨h0, h1, h2, h3, h4, h5, h6, h7⟩ := hargs c
  exact Cert.KernelIdeal.Hand.layerArray_congr h0 h1 h2 h3 h4 h5 h6 h7

/-- The gated projection's reference runs without fault, leaves its arguments unchanged and every semaphore counter at zero. -/
theorem frame_glu_reference : Cert.quiescent_GluReferenceIdeal (hGluReferenceIdeal := Cert.GluReferenceIdeal.Gen.facts) := fun m ρ _ =>
  (θ_run Cert.GluReferenceIdeal.defs _ _).mono (fun _ h => ⟨fun c => (h.1 c).2, h.2⟩) (Cert.GluReferenceIdeal.Hand.run_glu m ρ)

/-- Over the extended reals the gated projection's kernel and reference end in the same array. -/
theorem same_glu : Cert.algebraic_GluIdeal_GluReferenceIdeal (hGluIdeal := Cert.GluIdeal.Gen.facts)
    (hGluReferenceIdeal := Cert.GluReferenceIdeal.Gen.facts) := by
  intro m g m' g' _ hargs
  refine ⟨fun c => Cert.GluIdeal.Hand.gluArray (m ((c.tc : Thread Cert.GluIdeal.nD Cert.GluIdeal.τ).loc Cert.GluIdeal.main_arg0))
      (m ((c.tc : Thread Cert.GluIdeal.nD Cert.GluIdeal.τ).loc Cert.GluIdeal.main_arg1))
      (m ((c.tc : Thread Cert.GluIdeal.nD Cert.GluIdeal.τ).loc Cert.GluIdeal.main_arg2)),
    Cert.GluIdeal.Hand.run_glu m g, ?_⟩
  refine (θ_run Cert.GluReferenceIdeal.defs _ _).mono (fun _ h c => ⟨(h.1 c).1.trans ?_, (h.1 c).2⟩) (Cert.GluReferenceIdeal.Hand.run_glu m' g')
  obtain ⟨h0, h1, h2⟩ := hargs c
  exact Cert.GluIdeal.Hand.gluArray_congr h0 h1 h2

/-- The depthwise convolution call's reference runs without fault, leaves its arguments unchanged and every semaphore counter at zero. -/
theorem frame_conv_reference : Cert.quiescent_ConvReferenceIdeal (hConvReferenceIdeal := Cert.ConvReferenceIdeal.Gen.facts) := fun m ρ _ =>
  (θ_run Cert.ConvReferenceIdeal.defs _ _).mono (fun _ h => ⟨fun c => (h.1 c).2, h.2⟩) (Cert.ConvReferenceIdeal.Hand.run_value m ρ)

/-- Over the extended reals the depthwise convolution call's kernel and reference end in the same array. -/
theorem same_mixed : Cert.algebraic_ConvIdeal_ConvReferenceIdeal (hConvIdeal := Cert.ConvIdeal.Gen.facts)
    (hConvReferenceIdeal := Cert.ConvReferenceIdeal.Gen.facts) := by
  intro m g m' g' _ hargs
  refine ⟨fun c => Cert.ConvIdeal.Hand.convArray (m ((c.tc : Thread Cert.ConvIdeal.nD Cert.ConvIdeal.τ).loc Cert.ConvIdeal.main_arg0))
      (m ((c.tc : Thread Cert.ConvIdeal.nD Cert.ConvIdeal.τ).loc Cert.ConvIdeal.main_arg1))
      (m ((c.tc : Thread Cert.ConvIdeal.nD Cert.ConvIdeal.τ).loc Cert.ConvIdeal.main_arg2))
      (m ((c.tc : Thread Cert.ConvIdeal.nD Cert.ConvIdeal.τ).loc Cert.ConvIdeal.main_arg3))
      (m ((c.tc : Thread Cert.ConvIdeal.nD Cert.ConvIdeal.τ).loc Cert.ConvIdeal.main_arg4))
      (m ((c.tc : Thread Cert.ConvIdeal.nD Cert.ConvIdeal.τ).loc Cert.ConvIdeal.main_arg5))
      (m ((c.tc : Thread Cert.ConvIdeal.nD Cert.ConvIdeal.τ).loc Cert.ConvIdeal.main_arg6))
      (m ((c.tc : Thread Cert.ConvIdeal.nD Cert.ConvIdeal.τ).loc Cert.ConvIdeal.main_arg7))
      (m ((c.tc : Thread Cert.ConvIdeal.nD Cert.ConvIdeal.τ).loc Cert.ConvIdeal.main_arg8))
      (m ((c.tc : Thread Cert.ConvIdeal.nD Cert.ConvIdeal.τ).loc Cert.ConvIdeal.main_arg9)),
    Cert.ConvIdeal.Hand.run_value m g, ?_⟩
  refine (θ_run Cert.ConvReferenceIdeal.defs _ _).mono (fun _ h c => ⟨(h.1 c).1.trans ?_, (h.1 c).2⟩) (Cert.ConvReferenceIdeal.Hand.run_value m' g')
  obtain ⟨h0, h1, h2, h3, h4, h5, h6, h7, h8, h9⟩ := hargs c
  exact Cert.ConvIdeal.Hand.convArray_congr h0 h1 h2 h3 h4 h5 h6 h7 h8 h9

/-- All the claims. -/
theorem claim : Cert.Claim := ⟨Cert.Kernel.Gen.facts, Cert.KernelIdeal.Gen.facts, Cert.ReferenceIdeal.Gen.facts,
  Cert.Glu.Gen.facts, Cert.GluIdeal.Gen.facts, Cert.GluReferenceIdeal.Gen.facts,
  Cert.Conv.Gen.facts, Cert.ConvIdeal.Gen.facts, Cert.ConvReferenceIdeal.Gen.facts,
  fun m ρ _ => Cert.Kernel.Gen.frame m ρ, fun m ρ _ => Cert.KernelIdeal.Gen.frame m ρ, frame_reference,
  fun m ρ _ => Cert.Glu.Gen.frame m ρ, fun m ρ _ => Cert.GluIdeal.Gen.frame m ρ, frame_glu_reference,
  Cert.Conv.Hand.frame, fun m ρ _ => Cert.ConvIdeal.Hand.frame m ρ, frame_conv_reference,
  trivial, same_result, trivial, same_glu, trivial, same_mixed⟩

end Cert.Proof

end
